-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_one [hPre_finite_one : Cert.Pre_finite_one.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_one.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).1 = (fun _ => 1#1)
    ∧ (Cert.Pre_finite_one.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_one [hPre_finite_one : Cert.Pre_finite_one.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_one.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).1 = (fun _ => 1#1)
    ∧ (Cert.Pre_finite_one.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_one [hKernel8Ideal : Cert.Kernel8Ideal.Facts] [hPre_finite_one : Cert.Pre_finite_one.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_one m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_one [hReference8Ideal : Cert.Reference8Ideal.Facts] [hPre_finite_one : Cert.Pre_finite_one.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_one m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_v28) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_finite_one [hKernel8Ideal : Cert.Kernel8Ideal.Facts] [hReference8Ideal : Cert.Reference8Ideal.Facts] [hPre_finite_one : Cert.Pre_finite_one.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_one m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_experts : Cert.Pre_experts.Facts) (hPre_finite_one : Cert.Pre_finite_one.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_one (hKernel8Ideal := hKernel8Ideal) (hPre_finite_one := hPre_finite_one)
    ∧ quiescent_Reference8Ideal (hReference8Ideal := hReference8Ideal)
    ∧ quiescent_Reference8Ideal_pre_finite_one (hReference8Ideal := hReference8Ideal) (hPre_finite_one := hPre_finite_one)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_one (hKernel8Ideal := hKernel8Ideal) (hReference8Ideal := hReference8Ideal) (hPre_finite_one := hPre_finite_one)
-- ==== Pre_experts.lean ====
abbrev S288 : Shape := ⟨1, ![288]⟩
abbrev S1 : Shape := ⟨1, ![1]⟩
abbrev S147456x1024 : Shape := ⟨2, ![147456, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S147456x1024 .bf16) (main_arg3 : FVec F S64x1024x2048 .f32) (main_arg4 : FVec F S64x1x2048 .f32) (main_arg5 : FVec F S64x1024x1024 .f32) (main_arg6 : FVec F S64x1x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 64#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite.lean ====
abbrev S8x4096x256 : Shape := ⟨3, ![8, 4096, 256]⟩
abbrev S8x4x64x64 : Shape := ⟨4, ![8, 4, 64, 64]⟩
abbrev S_ : Shape := ⟨0, ![]⟩

class Facts : Prop where
  bcast_S_S8x4096x256 : S_.BroadcastsInDim S8x4096x256 (![] : Fin 0 → Fin S8x4096x256.rank)
  bcast_S_S8x4x64x64 : S_.BroadcastsInDim S8x4x64x64 (![] : Fin 0 → Fin S8x4x64x64.rank)

variable [Facts]

def fn {F : FTy → Type} [FloatOps F] (main_arg0 : FVec F S8x4096x256 .f32) (main_arg1 : FVec F S8x4096x256 .f32) (main_arg2 : FVec F S8x4096x256 .f32) (main_arg3 : FVec F S8x4096x256 .f32) (main_arg4 : FVec F S8x4096x256 .f32) (main_arg5 : FVec F S8x4096x256 .f32) (main_arg6 : FVec F S8x4x64x64 .f32) : IVec S8x4096x256 1 × IVec S8x4096x256 1 × IVec S8x4096x256 1 × IVec S8x4096x256 1 × IVec S8x4096x256 1 × IVec S8x4x64x64 1 :=
  let main_v0 : FVec F S8x4096x256 .f32 := Host.absf main_arg1
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x4096x256 .f32 := Host.absf main_arg2
  let main_cst_0 : FVec F S_ .f32 := constant S_ .f32 0x7F800000#32
  let main_v4 : FVec F S8x4096x256 .f32 := broadcastInDim S8x4096x256 ![] bcast_S_S8x4096x256 main_cst_0
  let main_v5 : IVec S8x4096x256 1 := cmpf .olt main_v3 main_v4
  let main_v6 : FVec F S8x4096x256 .f32 := Host.absf main_arg3
  let main_cst_1 : FVec F S_ .f32 := constant S_ .f32 0x7F800000#32
  let main_v7 : FVec F S8x4096x256 .f32 := broadcastInDim S8x4096x256 ![] bcast_S_S8x4096x256 main_cst_1
  let main_v8 : IVec S8x4096x256 1 := cmpf .olt main_v6 main_v7
  let main_v9 : FVec F S8x4096x256 .f32 := Host.absf main_arg4
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_v12 : FVec F S8x4096x256 .f32 := Host.absf main_arg5
  let main_cst_3 : FVec F S_ .f32 := constant S_ .f32 0x7F800000#32
  let main_v13 : FVec F S8x4096x256 .f32 := broadcastInDim S8x4096x256 ![] bcast_S_S8x4096x256 main_cst_3
  let main_v14 : IVec S8x4096x256 1 := cmpf .olt main_v12 main_v13
  let main_v15 : FVec F S8x4x64x64 .f32 := Host.absf main_arg6
  let main_cst_4 : FVec F S_ .f32 := constant S_ .f32 0x7F800000#32
  let main_v16 : FVec F S8x4x64x64 .f32 := broadcastInDim S8x4x64x64 ![] bcast_S_S8x4x64x64 main_cst_4
  let main_v17 : IVec S8x4x64x64 1 := cmpf .olt main_v15 main_v16
  (main_v2, main_v5, main_v8, main_v11, main_v14, main_v17)
-- ==== Pre_finite_one.lean ====
abbrev S32x1x256 : Shape := ⟨3, ![32, 1, 256]⟩
abbrev S32x4x64x64 : Shape := ⟨4, ![32, 4, 64, 64]⟩
abbrev S_ : Shape := ⟨0, ![]⟩

class Facts : Prop where
  bcast_S_S32x1x256 : S_.BroadcastsInDim S32x1x256 (![] : Fin 0 → Fin S32x1x256.rank)
  bcast_S_S32x4x64x64 : S_.BroadcastsInDim S32x4x64x64 (![] : Fin 0 → Fin S32x4x64x64.rank)

variable [Facts]

def fn {F : FTy → Type} [FloatOps F] (main_arg0 : FVec F S32x1x256 .f32) (main_arg1 : FVec F S32x1x256 .f32) (main_arg2 : FVec F S32x1x256 .f32) (main_arg3 : FVec F S32x1x256 .f32) (main_arg4 : FVec F S32x1x256 .f32) (main_arg5 : FVec F S32x1x256 .f32) (main_arg6 : FVec F S32x4x64x64 .f32) : IVec S32x1x256 1 × IVec S32x4x64x64 1 :=
  let main_v0 : FVec F S32x1x256 .f32 := Host.absf main_arg4
  let main_cst : FVec F S_ .f32 := constant S_ .f32 0x7F800000#32
  let main_v1 : FVec F S32x1x256 .f32 := broadcastInDim S32x1x256 ![] bcast_S_S32x1x256 main_cst
  let main_v2 : IVec S32x1x256 1 := cmpf .olt main_v0 main_v1
  let main_v3 : FVec F S32x4x64x64 .f32 := Host.absf main_arg6
  let main_cst_0 : FVec F S_ .f32 := constant S_ .f32 0x7F800000#32
  let main_v4 : FVec F S32x4x64x64 .f32 := broadcastInDim S32x4x64x64 ![] bcast_S_S32x4x64x64 main_cst_0
  let main_v5 : IVec S32x4x64x64 1 := cmpf .olt main_v3 main_v4
  (main_v2, main_v5)
-- ==== Kernel.lean ====
abbrev S8x4096x256 : Shape := ⟨3, ![8, 4096, 256]⟩
abbrev S8x4x64x64 : Shape := ⟨4, ![8, 4, 64, 64]⟩
abbrev S8x64x4x64 : Shape := ⟨4, ![8, 64, 4, 64]⟩
abbrev S8x64x256 : Shape := ⟨3, ![8, 64, 256]⟩
abbrev S8x64x64x256 : Shape := ⟨4, ![8, 64, 64, 256]⟩
abbrev S8x1x64x256 : Shape := ⟨4, ![8, 1, 64, 256]⟩
abbrev S512x256 : Shape := ⟨2, ![512, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4x64x64, .f32⟩
  | .hbm, ⟨7, _⟩ => ⟨S8x4096x256, .f32⟩
  | .hbm, ⟨8, _⟩ => ⟨S8x64x4x64, .f32⟩
  | .hbm, ⟨9, _⟩ => ⟨S8x64x256, .f32⟩
  | .hbm, ⟨10, _⟩ => ⟨S8x64x64x256, .f32⟩
  | .hbm, ⟨11, _⟩ => ⟨S8x64x256, .f32⟩
  | .local _ .vmem, ⟨0, _⟩ => ⟨S8x64x256, .f32⟩
  | .local _ .vmem, ⟨1, _⟩ => ⟨S8x64x256, .f32⟩
  | .local _ .vmem, ⟨2, _⟩ => ⟨S8x64x256, .f32⟩
  | .local _ .vmem, ⟨3, _⟩ => ⟨S8x64x256, .f32⟩
  | .local _ .vmem, ⟨4, _⟩ => ⟨S8x64x256, .f32⟩
  | .local _ .vmem, ⟨5, _⟩ => ⟨S8x64x256, .f32⟩
  | .local _ .vmem, ⟨6, _⟩ => ⟨S8x64x256, .f32⟩
  | .local _ .vmem, ⟨7, _⟩ => ⟨S8x64x256, .f32⟩
  | .local _ .vmem, ⟨8, _⟩ => ⟨S8x64x256, .f32⟩
  | .local _ .vmem, ⟨9, _⟩ => ⟨S8x64x256, .f32⟩
  | .local _ .vmem, ⟨10, _⟩ => ⟨S8x64x256, .f32⟩
  | .local _ .vmem, ⟨11, _⟩ => ⟨S8x64x256, .f32⟩
  | .local _ .vmem, ⟨12, _⟩ => ⟨S8x64x256, .f32⟩
  | .local _ .vmem, ⟨13, _⟩ => ⟨S8x1x64x256, .f32⟩
  | .local _ .vmem, ⟨14, _⟩ => ⟨S8x1x64x256, .f32⟩
  | .local _ .vmem, ⟨15, _⟩ => ⟨S8x64x256, .f32⟩
  | .local _ .vmem, ⟨16, _⟩ => ⟨S512x256, .f32⟩
  | .local _ .vmem, ⟨17, _⟩ => ⟨S512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_35 : BitVec 32 := 0#32
  let c8_i32 : BitVec 32 := 8#32
  let v117 : BitVec 32 := Scalar.addi c0_i32_35 c8_i32
  let c1_i32_36 : BitVec 32 := 1#32
  ⟨c0_i32_35, v117, c1_i32_36⟩
def k0_off1 (k0_t1 : Fin k0_t1_loop.trips) (c0_i32_46 : BitVec 32) : Fin 3 → Nat :=
  let c0_49 : Index := 0#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v127 : Index := Scalar.indexCast v125
  let c0_50 : Index := 0#32
  ![0, v127.toNat, 0]
def k0_off2 (k0_t1 : Fin k0_t1_loop.trips) (c0_i32_46 : BitVec 32) : Fin 3 → Nat :=
  let c1 : Index := 1#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v132 : Index := Scalar.indexCast v125
  let c0_51 : Index := 0#32
  ![1, v132.toNat, 0]
def k0_off3 (k0_t1 : Fin k0_t1_loop.trips) (c0_i32_46 : BitVec 32) : Fin 3 → Nat :=
  let c2 : Index := 2#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v137 : Index := Scalar.indexCast v125
  let c0_52 : Index := 0#32
  ![2, v137.toNat, 0]
def k0_off4 (k0_t1 : Fin k0_t1_loop.trips) (c0_i32_46 : BitVec 32) : Fin 3 → Nat :=
  let c3 : Index := 3#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v142 : Index := Scalar.indexCast v125
  let c0_53 : Index := 0#32
  ![3, v142.toNat, 0]
def k0_off5 (k0_t1 : Fin k0_t1_loop.trips) (c0_i32_46 : BitVec 32) : Fin 3 → Nat :=
  let c4 : Index := 4#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v147 : Index := Scalar.indexCast v125
  let c0_54 : Index := 0#32
  ![4, v147.toNat, 0]
def k0_off6 (k0_t1 : Fin k0_t1_loop.trips) (c0_i32_46 : BitVec 32) : Fin 3 → Nat :=
  let c5 : Index := 5#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v152 : Index := Scalar.indexCast v125
  let c0_55 : Index := 0#32
  ![5, v152.toNat, 0]
def k0_off7 (k0_t1 : Fin k0_t1_loop.trips) (c0_i32_46 : BitVec 32) : Fin 3 → Nat :=
  let c6 : Index := 6#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v157 : Index := Scalar.indexCast v125
  let c0_56 : Index := 0#32
  ![6, v157.toNat, 0]
def k0_off8 (k0_t1 : Fin k0_t1_loop.trips) (c0_i32_46 : BitVec 32) : Fin 3 → Nat :=
  let c7 : Index := 7#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v162 : Index := Scalar.indexCast v125
  let c0_57 : Index := 0#32
  ![7, v162.toNat, 0]
def k0_cond2 (i : grid0.Coords) : BitVec 1 :=
  let arg1 : BitVec 32 := BitVec.ofNat 32 (i 1).val
  let c63_i32 : BitVec 32 := 63#32
  let v121 : BitVec 1 := Scalar.cmpi .eq arg1 c63_i32
  let v122 : BitVec 32 := Scalar.extui v121
  let c0_i32_44 : BitVec 32 := 0#32
  let v123 : BitVec 1 := Scalar.cmpi .ne v122 c0_i32_44
  v123

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== KernelIdeal.lean ====
abbrev S8x4096x256 : Shape := ⟨3, ![8, 4096, 256]⟩
abbrev S8x4x64x64 : Shape := ⟨4, ![8, 4, 64, 64]⟩
abbrev S8x64x4x64 : Shape := ⟨4, ![8, 64, 4, 64]⟩
abbrev S8x64x256 : Shape := ⟨3, ![8, 64, 256]⟩
abbrev S8x64x64x256 : Shape := ⟨4, ![8, 64, 64, 256]⟩
abbrev S8x1x64x256 : Shape := ⟨4, ![8, 1, 64, 256]⟩
abbrev S512x256 : Shape := ⟨2, ![512, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4x64x64, .f32⟩
  | .hbm, ⟨7, _⟩ => ⟨S8x4096x256, .f32⟩
  | .hbm, ⟨8, _⟩ => ⟨S8x64x4x64, .f32⟩
  | .hbm, ⟨9, _⟩ => ⟨S8x64x256, .f32⟩
  | .hbm, ⟨10, _⟩ => ⟨S8x64x64x256, .f32⟩
  | .hbm, ⟨11, _⟩ => ⟨S8x64x256, .f32⟩
  | .local _ .vmem, ⟨0, _⟩ => ⟨S8x64x256, .f32⟩
  | .local _ .vmem, ⟨1, _⟩ => ⟨S8x64x256, .f32⟩
  | .local _ .vmem, ⟨2, _⟩ => ⟨S8x64x256, .f32⟩
  | .local _ .vmem, ⟨3, _⟩ => ⟨S8x64x256, .f32⟩
  | .local _ .vmem, ⟨4, _⟩ => ⟨S8x64x256, .f32⟩
  | .local _ .vmem, ⟨5, _⟩ => ⟨S8x64x256, .f32⟩
  | .local _ .vmem, ⟨6, _⟩ => ⟨S8x64x256, .f32⟩
  | .local _ .vmem, ⟨7, _⟩ => ⟨S8x64x256, .f32⟩
  | .local _ .vmem, ⟨8, _⟩ => ⟨S8x64x256, .f32⟩
  | .local _ .vmem, ⟨9, _⟩ => ⟨S8x64x256, .f32⟩
  | .local _ .vmem, ⟨10, _⟩ => ⟨S8x64x256, .f32⟩
  | .local _ .vmem, ⟨11, _⟩ => ⟨S8x64x256, .f32⟩
  | .local _ .vmem, ⟨12, _⟩ => ⟨S8x64x256, .f32⟩
  | .local _ .vmem, ⟨13, _⟩ => ⟨S8x1x64x256, .f32⟩
  | .local _ .vmem, ⟨14, _⟩ => ⟨S8x1x64x256, .f32⟩
  | .local _ .vmem, ⟨15, _⟩ => ⟨S8x64x256, .f32⟩
  | .local _ .vmem, ⟨16, _⟩ => ⟨S512x256, .f32⟩
  | .local _ .vmem, ⟨17, _⟩ => ⟨S512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_35 : BitVec 32 := 0#32
  let c8_i32 : BitVec 32 := 8#32
  let v117 : BitVec 32 := Scalar.addi c0_i32_35 c8_i32
  let c1_i32_36 : BitVec 32 := 1#32
  ⟨c0_i32_35, v117, c1_i32_36⟩
def k0_off1 (k0_t1 : Fin k0_t1_loop.trips) (c0_i32_46 : BitVec 32) : Fin 3 → Nat :=
  let c0_49 : Index := 0#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v127 : Index := Scalar.indexCast v125
  let c0_50 : Index := 0#32
  ![0, v127.toNat, 0]
def k0_off2 (k0_t1 : Fin k0_t1_loop.trips) (c0_i32_46 : BitVec 32) : Fin 3 → Nat :=
  let c1 : Index := 1#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v132 : Index := Scalar.indexCast v125
  let c0_51 : Index := 0#32
  ![1, v132.toNat, 0]
def k0_off3 (k0_t1 : Fin k0_t1_loop.trips) (c0_i32_46 : BitVec 32) : Fin 3 → Nat :=
  let c2 : Index := 2#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v137 : Index := Scalar.indexCast v125
  let c0_52 : Index := 0#32
  ![2, v137.toNat, 0]
def k0_off4 (k0_t1 : Fin k0_t1_loop.trips) (c0_i32_46 : BitVec 32) : Fin 3 → Nat :=
  let c3 : Index := 3#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v142 : Index := Scalar.indexCast v125
  let c0_53 : Index := 0#32
  ![3, v142.toNat, 0]
def k0_off5 (k0_t1 : Fin k0_t1_loop.trips) (c0_i32_46 : BitVec 32) : Fin 3 → Nat :=
  let c4 : Index := 4#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v147 : Index := Scalar.indexCast v125
  let c0_54 : Index := 0#32
  ![4, v147.toNat, 0]
def k0_off6 (k0_t1 : Fin k0_t1_loop.trips) (c0_i32_46 : BitVec 32) : Fin 3 → Nat :=
  let c5 : Index := 5#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v152 : Index := Scalar.indexCast v125
  let c0_55 : Index := 0#32
  ![5, v152.toNat, 0]
def k0_off7 (k0_t1 : Fin k0_t1_loop.trips) (c0_i32_46 : BitVec 32) : Fin 3 → Nat :=
  let c6 : Index := 6#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v157 : Index := Scalar.indexCast v125
  let c0_56 : Index := 0#32
  ![6, v157.toNat, 0]
def k0_off8 (k0_t1 : Fin k0_t1_loop.trips) (c0_i32_46 : BitVec 32) : Fin 3 → Nat :=
  let c7 : Index := 7#32
  let c0_i32_35 : BitVec 32 := 0#32
  let c1_i32_36 : BitVec 32 := 1#32
  let arg13 : BitVec 32 := Scf.iv c0_i32_35 c1_i32_36 k0_t1
  let c8_i32_45 : BitVec 32 := 8#32
  let v124 : BitVec 32 := Scalar.muli arg13 c8_i32_45
  let v125 : BitVec 32 := Scalar.addi v124 c0_i32_46
  let v162 : Index := Scalar.indexCast v125
  let c0_57 : Index := 0#32
  ![7, v162.toNat, 0]
def k0_cond2 (i : grid0.Coords) : BitVec 1 :=
  let arg1 : BitVec 32 := BitVec.ofNat 32 (i 1).val
  let c63_i32 : BitVec 32 := 63#32
  let v121 : BitVec 1 := Scalar.cmpi .eq arg1 c63_i32
  let v122 : BitVec 32 := Scalar.extui v121
  let c0_i32_44 : BitVec 32 := 0#32
  let v123 : BitVec 1 := Scalar.cmpi .ne v122 c0_i32_44
  v123

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S8x4096x256 : Shape := ⟨3, ![8, 4096, 256]⟩
abbrev S8x4x64x64 : Shape := ⟨4, ![8, 4, 64, 64]⟩
abbrev S8x4096x4x64 : Shape := ⟨4, ![8, 4096, 4, 64]⟩
abbrev S4096x8x4x64 : Shape := ⟨4, ![4096, 8, 4, 64]⟩
abbrev S_ : Shape := ⟨0, ![]⟩
abbrev S1x8x4x64 : Shape := ⟨4, ![1, 8, 4, 64]⟩
abbrev S8x4x64 : Shape := ⟨3, ![8, 4, 64]⟩
abbrev S8x4x1x64 : Shape := ⟨4, ![8, 4, 1, 64]⟩
abbrev S8x4x64x1 : Shape := ⟨4, ![8, 4, 64, 1]⟩
abbrev S8x64x64x4x64 : Shape := ⟨5, ![8, 64, 64, 4, 64]⟩
abbrev S8x64x64x256 : Shape := ⟨4, ![8, 64, 64, 256]⟩
abbrev S8x64x4x64 : Shape := ⟨4, ![8, 64, 4, 64]⟩
abbrev S8x64x256 : Shape := ⟨3, ![8, 64, 256]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x256, .f32⟩
  | .hbm, ⟨6, _⟩ => ⟨S8x4x64x64, .f32⟩
  | .hbm, ⟨7, _⟩ => ⟨S8x4096x4x64, .f32⟩
  | .hbm, ⟨8, _⟩ => ⟨S4096x8x4x64, .f32⟩
  | .hbm, ⟨9, _⟩ => ⟨S8x4096x4x64, .f32⟩
  | .hbm, ⟨10, _⟩ => ⟨S4096x8x4x64, .f32⟩
  | .hbm, ⟨11, _⟩ => ⟨S8x4096x4x64, .f32⟩
  | .hbm, ⟨12, _⟩ => ⟨S4096x8x4x64, .f32⟩
  | .hbm, ⟨13, _⟩ => ⟨S8x4096x4x64, .f32⟩
  | .hbm, ⟨14, _⟩ => ⟨S4096x8x4x64, .f32⟩
  | .hbm, ⟨15, _⟩ => ⟨S8x4096x4x64, .f32⟩
  | .hbm, ⟨16, _⟩ => ⟨S4096x8x4x64, .f32⟩
  | .hbm, ⟨17, _⟩ => ⟨S8x4096x4x64, .f32⟩
  | .hbm, ⟨18, _⟩ => ⟨S4096x8x4x64, .f32⟩
  | .hbm, ⟨19, _⟩ => ⟨S_, .f32⟩
  | .hbm, ⟨20, _⟩ => ⟨S4096x8x4x64, .f32⟩
  | .hbm, ⟨21, _⟩ => ⟨S_, .i32⟩
  | .hbm, ⟨22, _⟩ => ⟨S4096x8x4x64, .f32⟩
  | .hbm, ⟨23, _⟩ => ⟨S4096x8x4x64, .f32⟩
  | .hbm, ⟨24, _⟩ => ⟨S4096x8x4x64, .f32⟩
  | .hbm, ⟨25, _⟩ => ⟨S4096x8x4x64, .f32⟩
  | .hbm, ⟨26, _⟩ => ⟨S4096x8x4x64, .f32⟩
  | .hbm, ⟨27, _⟩ => ⟨S4096x8x4x64, .f32⟩
  | .hbm, ⟨28, _⟩ => ⟨S_, .i32⟩
  | .hbm, ⟨29, _⟩ => ⟨S8x4x64x64, .f32⟩
  | .hbm, ⟨30, _⟩ => ⟨S4096x8x4x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x4x64, .f32⟩
  | .hbm, ⟨37, _⟩ => ⟨S8x4x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x8x4x64, .f32⟩
  | .hbm, ⟨42, _⟩ => ⟨S8x4x64, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x8x4x64, .f32⟩
  | .hbm, ⟨47, _⟩ => ⟨S8x4x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x8x4x64, .f32⟩
  | .hbm, ⟨52, _⟩ => ⟨S8x4x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x8x4x64, .f32⟩
  | .hbm, ⟨57, _⟩ => ⟨S8x4x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x8x4x64, .f32⟩
  | .hbm, ⟨62, _⟩ => ⟨S8x4x64, .f32⟩
  | .hbm, ⟨63, _⟩ => ⟨S8x4x1x64, .f32⟩
  | .hbm, ⟨64, _⟩ => ⟨S8x4x64x64, .f32⟩
  | .hbm, ⟨65, _⟩ => ⟨S8x4x64x64, .f32⟩
  | .hbm, ⟨66, _⟩ => ⟨S8x4x64, .f32⟩
  | .hbm, ⟨67, _⟩ => ⟨S8x4x64x1, .f32⟩
  | .hbm, ⟨68, _⟩ => ⟨S8x4x64, .f32⟩
  | .hbm, ⟨69, _⟩ => ⟨S8x4x1x64, .f32⟩
  | .hbm, ⟨70, _⟩ => ⟨S8x4x64x64, .f32⟩
  | .hbm, ⟨71, _⟩ => ⟨S8x4x64x64, .f32⟩
  | .hbm, ⟨72, _⟩ => ⟨S8x4x64x64, .f32⟩
  | .hbm, ⟨73, _⟩ => ⟨S8x4x64x64, .f32⟩
  | .hbm, ⟨74, _⟩ => ⟨S8x4x64x1, .f32⟩
  | .hbm, ⟨75, _⟩ => ⟨S8x4x1x64, .f32⟩
  | .hbm, ⟨76, _⟩ => ⟨S8x4x64x64, .f32⟩
  | .hbm, ⟨77, _⟩ => ⟨S8x4x64x64, .f32⟩
  | .hbm, ⟨78, _⟩ => ⟨S8x4x64x64, .f32⟩
  | .hbm, ⟨79, _⟩ => ⟨S8x4x64x64, .f32⟩
  | .hbm, ⟨80, _⟩ => ⟨S8x4x64, .f32⟩
  | .hbm, ⟨81, _⟩ => ⟨S1x8x4x64, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S4096x8x4x64, .f32⟩
  | .hbm, ⟨86, _⟩ => ⟨S_, .i32⟩
  | .hbm, ⟨87, _⟩ => ⟨S_, .i32⟩
  | .hbm, ⟨88, _⟩ => ⟨S8x4096x4x64, .f32⟩
  | .hbm, ⟨89, _⟩ => ⟨S8x64x64x4x64, .f32⟩
  | .hbm, ⟨90, _⟩ => ⟨S8x64x64x4x64, .f32⟩
  | .hbm, ⟨91, _⟩ => ⟨S8x64x64x256, .f32⟩
  | .hbm, ⟨92, _⟩ => ⟨S8x64x4x64, .f32⟩
  | .hbm, ⟨93, _⟩ => ⟨S8x64x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_8 : Ref sig .tc := ⟨.hbm, 31, rfl⟩
abbrev main_while0c_v20 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v20 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v21 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_v0 : Ref sig .tc := ⟨.hbm, 46, rfl⟩
abbrev main_while0b_v22 : Ref sig .tc := ⟨.hbm, 47, rfl⟩
abbrev main_while0b_call3_c : Ref sig .tc := ⟨.hbm, 48, rfl⟩
abbrev main_while0b_call3_c_0 : Ref sig .tc := ⟨.hbm, 49, rfl⟩
abbrev main_while0b_call3_c_1 : Ref sig .tc := ⟨.hbm, 50, rfl⟩
abbrev main_while0b_call3_v0 : Ref sig .tc := ⟨.hbm, 51, rfl⟩
abbrev main_while0b_v23 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_c_1 : Ref sig .tc := ⟨.hbm, 55, rfl⟩
abbrev main_while0b_call4_v0 : Ref sig .tc := ⟨.hbm, 56, rfl⟩
abbrev main_while0b_v24 : Ref sig .tc := ⟨.hbm, 57, rfl⟩
abbrev main_while0b_call5_c : Ref sig .tc := ⟨.hbm, 58, rfl⟩
abbrev main_while0b_call5_c_0 : Ref sig .tc := ⟨.hbm, 59, rfl⟩
abbrev main_while0b_call5_c_1 : Ref sig .tc := ⟨.hbm, 60, rfl⟩
abbrev main_while0b_call5_v0 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_v33 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_v42 : Ref sig .tc := ⟨.hbm, 79, rfl⟩
abbrev main_while0b_v43 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_v44 : Ref sig .tc := ⟨.hbm, 85, rfl⟩
abbrev main_while0b_c_8 : Ref sig .tc := ⟨.hbm, 86, rfl⟩
abbrev main_while0b_v45 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S288 : Shape := ⟨1, ![288]⟩
abbrev S1 : Shape := ⟨1, ![1]⟩
abbrev S147456x1024 : Shape := ⟨2, ![147456, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S147456x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S147456x1024 : Shape := ⟨2, ![147456, 1024]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .bf16⟩
  | .hbm, ⟨3, _⟩ => ⟨S64x1024x2048, .f32⟩
  | .hbm, ⟨4, _⟩ => ⟨S64x1x2048, .f32⟩
  | .hbm, ⟨5, _⟩ => ⟨S64x1024x1024, .f32⟩
  | .hbm, ⟨6, _⟩ => ⟨S64x1x1024, .f32⟩
  | .hbm, ⟨7, _⟩ => ⟨S147456x1024, .f32⟩
  | .hbm, ⟨8, _⟩ => ⟨S288x512x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x1024x2048, .f32⟩
  | .hbm, ⟨18, _⟩ => ⟨S288x512x2048, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S_, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x512x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1x1024, .f32⟩
  | .hbm, ⟨78, _⟩ => ⟨S288x512x1024, .f32⟩
  | .hbm, ⟨79, _⟩ => ⟨S288x512x1024, .f32⟩
  | .hbm, ⟨80, _⟩ => ⟨S288, .i32⟩
  | .hbm, ⟨81, _⟩ => ⟨S_, .i32⟩
  | .hbm, ⟨82, _⟩ => ⟨S288, .i32⟩
  | .hbm, ⟨83, _⟩ => ⟨S288, .i1⟩
  | .hbm, ⟨84, _⟩ => ⟨S288x1x1, .i1⟩
  | .hbm, ⟨85, _⟩ => ⟨S_, .f32⟩
  | .hbm, ⟨86, _⟩ => ⟨S_, .f32⟩
  | .hbm, ⟨87, _⟩ => ⟨S288x512x1024, .i1⟩
  | .hbm, ⟨88, _⟩ => ⟨S288x512x1024, .f32⟩
  | .hbm, ⟨89, _⟩ => ⟨S288x512x1024, .f32⟩
  | .hbm, ⟨90, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024x2864 : Shape := ⟨2, ![1024, 2864]⟩
abbrev S1024x896 : Shape := ⟨2, ![1024, 896]⟩
abbrev S_ : Shape := ⟨0, ![]⟩
abbrev S1024x652 : Shape := ⟨2, ![1024, 652]⟩
abbrev S1024x768 : Shape := ⟨2, ![1024, 768]⟩
abbrev S1024x548 : Shape := ⟨2, ![1024, 548]⟩
abbrev S1024x640 : Shape := ⟨2, ![1024, 640]⟩
abbrev S1024x3072 : Shape := ⟨2, ![1024, 3072]⟩
abbrev S8x4096x896 : Shape := ⟨3, ![8, 4096, 896]⟩
abbrev S8x4096x768 : Shape := ⟨3, ![8, 4096, 768]⟩
abbrev S8x4096x640 : Shape := ⟨3, ![8, 4096, 640]⟩
abbrev S1x512x1024 : Shape := ⟨3, ![1, 512, 1024]⟩
abbrev S1x1x1024 : Shape := ⟨3, ![1, 1, 1024]⟩
abbrev S1x512x896 : Shape := ⟨3, ![1, 512, 896]⟩
abbrev S1x512x768 : Shape := ⟨3, ![1, 512, 768]⟩
abbrev S1x512x640 : Shape := ⟨3, ![1, 512, 640]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S512x896 : Shape := ⟨2, ![512, 896]⟩
abbrev S512x768 : Shape := ⟨2, ![512, 768]⟩
abbrev S512x640 : Shape := ⟨2, ![512, 640]⟩

abbrev nBuf : Space → Nat
  | .hbm => 26
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x2864, .f32⟩
  | .hbm, ⟨4, _⟩ => ⟨S1024x896, .f32⟩
  | .hbm, ⟨5, _⟩ => ⟨S_, .i32⟩
  | .hbm, ⟨6, _⟩ => ⟨S_, .f32⟩
  | .hbm, ⟨7, _⟩ => ⟨S1024x896, .f32⟩
  | .hbm, ⟨8, _⟩ => ⟨S1024x652, .f32⟩
  | .hbm, ⟨9, _⟩ => ⟨S_, .i32⟩
  | .hbm, ⟨10, _⟩ => ⟨S_, .f32⟩
  | .hbm, ⟨11, _⟩ => ⟨S1024x768, .f32⟩
  | .hbm, ⟨12, _⟩ => ⟨S1024x548, .f32⟩
  | .hbm, ⟨13, _⟩ => ⟨S_, .i32⟩
  | .hbm, ⟨14, _⟩ => ⟨S_, .f32⟩
  | .hbm, ⟨15, _⟩ => ⟨S1024x640, .f32⟩
  | .hbm, ⟨16, _⟩ => ⟨S1024x768, .f32⟩
  | .hbm, ⟨17, _⟩ => ⟨S_, .i32⟩
  | .hbm, ⟨18, _⟩ => ⟨S_, .f32⟩
  | .hbm, ⟨19, _⟩ => ⟨S1024x768, .f32⟩
  | .hbm, ⟨20, _⟩ => ⟨S1024x3072, .f32⟩
  | .hbm, ⟨21, _⟩ => ⟨S1024x3072, .bf16⟩
  | .hbm, ⟨22, _⟩ => ⟨S8x4096x896, .f32⟩
  | .hbm, ⟨23, _⟩ => ⟨S8x4096x768, .f32⟩
  | .hbm, ⟨24, _⟩ => ⟨S8x4096x640, .f32⟩
  | .hbm, ⟨25, _⟩ => ⟨S8x4096x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x512x896, .f32⟩
  | .local _ .vmem, ⟨8, _⟩ => ⟨S1x512x896, .f32⟩
  | .local _ .vmem, ⟨9, _⟩ => ⟨S1x512x768, .f32⟩
  | .local _ .vmem, ⟨10, _⟩ => ⟨S1x512x768, .f32⟩
  | .local _ .vmem, ⟨11, _⟩ => ⟨S1x512x640, .f32⟩
  | .local _ .vmem, ⟨12, _⟩ => ⟨S1x512x640, .f32⟩
  | .local _ .vmem, ⟨13, _⟩ => ⟨S1x512x768, .f32⟩
  | .local _ .vmem, ⟨14, _⟩ => ⟨S1x512x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel3Ideal.lean ====
abbrev S8x4096x1024 : Shape := ⟨3, ![8, 4096, 1024]⟩
abbrev S8x1x1024 : Shape := ⟨3, ![8, 1, 1024]⟩
abbrev S1024x2864 : Shape := ⟨2, ![1024, 2864]⟩
abbrev S1024x896 : Shape := ⟨2, ![1024, 896]⟩
abbrev S_ : Shape := ⟨0, ![]⟩
abbrev S1024x652 : Shape := ⟨2, ![1024, 652]⟩
abbrev S1024x768 : Shape := ⟨2, ![1024, 768]⟩
abbrev S1024x548 : Shape := ⟨2, ![1024, 548]⟩
abbrev S1024x640 : Shape := ⟨2, ![1024, 640]⟩
abbrev S1024x3072 : Shape := ⟨2, ![1024, 3072]⟩
abbrev S8x4096x896 : Shape := ⟨3, ![8, 4096, 896]⟩
abbrev S8x4096x768 : Shape := ⟨3, ![8, 4096, 768]⟩
abbrev S8x4096x640 : Shape := ⟨3, ![8, 4096, 640]⟩
abbrev S1x512x1024 : Shape := ⟨3, ![1, 512, 1024]⟩
abbrev S1x1x1024 : Shape := ⟨3, ![1, 1, 1024]⟩
abbrev S1x512x896 : Shape := ⟨3, ![1, 512, 896]⟩
abbrev S1x512x768 : Shape := ⟨3, ![1, 512, 768]⟩
abbrev S1x512x640 : Shape := ⟨3, ![1, 512, 640]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S512x896 : Shape := ⟨2, ![512, 896]⟩
abbrev S512x768 : Shape := ⟨2, ![512, 768]⟩
abbrev S512x640 : Shape := ⟨2, ![512, 640]⟩

abbrev nBuf : Space → Nat
  | .hbm => 26
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x2864, .f32⟩
  | .hbm, ⟨4, _⟩ => ⟨S1024x896, .f32⟩
  | .hbm, ⟨5, _⟩ => ⟨S_, .i32⟩
  | .hbm, ⟨6, _⟩ => ⟨S_, .f32⟩
  | .hbm, ⟨7, _⟩ => ⟨S1024x896, .f32⟩
  | .hbm, ⟨8, _⟩ => ⟨S1024x652, .f32⟩
  | .hbm, ⟨9, _⟩ => ⟨S_, .i32⟩
  | .hbm, ⟨10, _⟩ => ⟨S_, .f32⟩
  | .hbm, ⟨11, _⟩ => ⟨S1024x768, .f32⟩
  | .hbm, ⟨12, _⟩ => ⟨S1024x548, .f32⟩
  | .hbm, ⟨13, _⟩ => ⟨S_, .i32⟩
  | .hbm, ⟨14, _⟩ => ⟨S_, .f32⟩
  | .hbm, ⟨15, _⟩ => ⟨S1024x640, .f32⟩
  | .hbm, ⟨16, _⟩ => ⟨S1024x768, .f32⟩
  | .hbm, ⟨17, _⟩ => ⟨S_, .i32⟩
  | .hbm, ⟨18, _⟩ => ⟨S_, .f32⟩
  | .hbm, ⟨19, _⟩ => ⟨S1024x768, .f32⟩
  | .hbm, ⟨20, _⟩ => ⟨S1024x3072, .f32⟩
  | .hbm, ⟨21, _⟩ => ⟨S1024x3072, .bf16⟩
  | .hbm, ⟨22, _⟩ => ⟨S8x4096x896, .f32⟩
  | .hbm, ⟨23, _⟩ => ⟨S8x4096x768, .f32⟩
  | .hbm, ⟨24, _⟩ => ⟨S8x4096x640, .f32⟩
  | .hbm, ⟨25, _⟩ => ⟨S8x4096x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x512x896, .f32⟩
  | .local _ .vmem, ⟨8, _⟩ => ⟨S1x512x896, .f32⟩
  | .local _ .vmem, ⟨9, _⟩ => ⟨S1x512x768, .f32⟩
  | .local _ .vmem, ⟨10, _⟩ => ⟨S1x512x768, .f32⟩
  | .local _ .vmem, ⟨11, _⟩ => ⟨S1x512x640, .f32⟩
  | .local _ .vmem, ⟨12, _⟩ => ⟨S1x512x640, .f32⟩
  | .local _ .vmem, ⟨13, _⟩ => ⟨S1x512x768, .f32⟩
  | .local _ .vmem, ⟨14, _⟩ => ⟨S1x512x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S8x1x1024 : Shape := ⟨3, ![8, 1, 1024]⟩
abbrev S1024x2864 : Shape := ⟨2, ![1024, 2864]⟩
abbrev S_ : Shape := ⟨0, ![]⟩
abbrev S8x4096 : Shape := ⟨2, ![8, 4096]⟩
abbrev S8x4096x1 : Shape := ⟨3, ![8, 4096, 1]⟩
abbrev S8x4096x2864 : Shape := ⟨3, ![8, 4096, 2864]⟩
abbrev S8x4096x896 : Shape := ⟨3, ![8, 4096, 896]⟩
abbrev S8x4096x652 : Shape := ⟨3, ![8, 4096, 652]⟩
abbrev S8x4096x768 : Shape := ⟨3, ![8, 4096, 768]⟩
abbrev S8x4096x548 : Shape := ⟨3, ![8, 4096, 548]⟩
abbrev S8x4096x640 : Shape := ⟨3, ![8, 4096, 640]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024x2864, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x2864, .f32⟩
  | .hbm, ⟨35, _⟩ => ⟨S8x4096x896, .f32⟩
  | .hbm, ⟨36, _⟩ => ⟨S8x4096x652, .f32⟩
  | .hbm, ⟨37, _⟩ => ⟨S_, .i32⟩
  | .hbm, ⟨38, _⟩ => ⟨S_, .f32⟩
  | .hbm, ⟨39, _⟩ => ⟨S8x4096x768, .f32⟩
  | .hbm, ⟨40, _⟩ => ⟨S8x4096x548, .f32⟩
  | .hbm, ⟨41, _⟩ => ⟨S_, .i32⟩
  | .hbm, ⟨42, _⟩ => ⟨S_, .f32⟩
  | .hbm, ⟨43, _⟩ => ⟨S8x4096x640, .f32⟩
  | .hbm, ⟨44, _⟩ => ⟨S8x4096x768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_call1_v0 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel4.lean ====
abbrev S8x4096x256 : Shape := ⟨3, ![8, 4096, 256]⟩
abbrev S8x4096x1024 : Shape := ⟨3, ![8, 4096, 1024]⟩
abbrev S8x1x1024 : Shape := ⟨3, ![8, 1, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S4x256x1024 : Shape := ⟨3, ![4, 256, 1024]⟩
abbrev S1x1024 : Shape := ⟨2, ![1, 1024]⟩
abbrev S8x4096x128 : Shape := ⟨3, ![8, 4096, 128]⟩
abbrev S1x512x256 : Shape := ⟨3, ![1, 512, 256]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩

abbrev nBuf : Space → Nat
  | .hbm => 27
  | .vmem => 27
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S4x256x1024, .f32⟩
  | .hbm, ⟨21, _⟩ => ⟨S4x256x1024, .bf16⟩
  | .hbm, ⟨22, _⟩ => ⟨S1x1024, .f32⟩
  | .hbm, ⟨23, _⟩ => ⟨S1x1024, .f32⟩
  | .hbm, ⟨24, _⟩ => ⟨S8x4096x1024, .f32⟩
  | .hbm, ⟨25, _⟩ => ⟨S8x4096x1024, .bf16⟩
  | .hbm, ⟨26, _⟩ => ⟨S8x4096x128, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S4x256x1024, .bf16⟩
  | .local _ .vmem, ⟨17, _⟩ => ⟨S1x1024, .f32⟩
  | .local _ .vmem, ⟨18, _⟩ => ⟨S1x1024, .f32⟩
  | .local _ .vmem, ⟨19, _⟩ => ⟨S1024x128, .f32⟩
  | .local _ .vmem, ⟨20, _⟩ => ⟨S1x128, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x512x128, .f32⟩
  | .local _ .vmem, ⟨26, _⟩ => ⟨S1x512x128, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S8x4096x256 : Shape := ⟨3, ![8, 4096, 256]⟩
abbrev S8x4096x1024 : Shape := ⟨3, ![8, 4096, 1024]⟩
abbrev S8x1x1024 : Shape := ⟨3, ![8, 1, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x32 : Shape := ⟨3, ![8, 4096, 32]⟩
abbrev S1x1x32 : Shape := ⟨3, ![1, 1, 32]⟩
abbrev S8x4096x128 : Shape := ⟨3, ![8, 4096, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S8x4096x256, .f32⟩
  | .hbm, ⟨4, _⟩ => ⟨S8x4096x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S8x4096x1, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x32, .f32⟩
  | .hbm, ⟨81, _⟩ => ⟨S1x1x32, .f32⟩
  | .hbm, ⟨82, _⟩ => ⟨S8x4096x32, .f32⟩
  | .hbm, ⟨83, _⟩ => ⟨S8x4096x32, .f32⟩
  | .hbm, ⟨84, _⟩ => ⟨S8x4096x1024, .bf16⟩
  | .hbm, ⟨85, _⟩ => ⟨S_, .i32⟩
  | .hbm, ⟨86, _⟩ => ⟨S_, .f32⟩
  | .hbm, ⟨87, _⟩ => ⟨S8x4096x128, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c : Ref sig .tc := ⟨.hbm, 85, rfl⟩
abbrev main_call0_v0 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x4 : Shape := ⟨3, ![8, 4096, 4]⟩
abbrev S8x1x1024 : Shape := ⟨3, ![8, 1, 1024]⟩
abbrev S1024 : Shape := ⟨1, ![1024]⟩
abbrev S_ : Shape := ⟨0, ![]⟩
abbrev S8x4096x128 : Shape := ⟨3, ![8, 4096, 128]⟩
abbrev S1x1024 : Shape := ⟨2, ![1, 1024]⟩
abbrev S1x512x1024 : Shape := ⟨3, ![1, 512, 1024]⟩
abbrev S1x512x128 : Shape := ⟨3, ![1, 512, 128]⟩
abbrev S1x1x1024 : Shape := ⟨3, ![1, 1, 1024]⟩
abbrev S512x128 : Shape := ⟨2, ![512, 128]⟩
abbrev S512x1 : Shape := ⟨2, ![512, 1]⟩
abbrev S512x1024 : Shape := ⟨2, ![512, 1024]⟩
abbrev S512 : Shape := ⟨1, ![512]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x1x1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S8x4096x128, .f32⟩
  | .hbm, ⟨12, _⟩ => ⟨S1x1024, .f32⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
abbrev S8x4096x1024 : Shape := ⟨3, ![8, 4096, 1024]⟩
abbrev S8x4096x4 : Shape := ⟨3, ![8, 4096, 4]⟩
abbrev S8x1x1024 : Shape := ⟨3, ![8, 1, 1024]⟩
abbrev S1024 : Shape := ⟨1, ![1024]⟩
abbrev S_ : Shape := ⟨0, ![]⟩
abbrev S8x4096x128 : Shape := ⟨3, ![8, 4096, 128]⟩
abbrev S1x1024 : Shape := ⟨2, ![1, 1024]⟩
abbrev S1x512x1024 : Shape := ⟨3, ![1, 512, 1024]⟩
abbrev S1x512x128 : Shape := ⟨3, ![1, 512, 128]⟩
abbrev S1x1x1024 : Shape := ⟨3, ![1, 1, 1024]⟩
abbrev S512x128 : Shape := ⟨2, ![512, 128]⟩
abbrev S512x1 : Shape := ⟨2, ![512, 1]⟩
abbrev S512x1024 : Shape := ⟨2, ![512, 1024]⟩
abbrev S512 : Shape := ⟨1, ![512]⟩

abbrev nBuf : Space → Nat
  | .hbm => 15
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x1x1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S8x4096x128, .f32⟩
  | .hbm, ⟨12, _⟩ => ⟨S1x1024, .f32⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4096x1024 : Shape := ⟨3, ![8, 4096, 1024]⟩
abbrev S8x4096x4 : Shape := ⟨3, ![8, 4096, 4]⟩
abbrev S8x1x1024 : Shape := ⟨3, ![8, 1, 1024]⟩
abbrev S1024 : Shape := ⟨1, ![1024]⟩
abbrev S8x4096x1 : Shape := ⟨3, ![8, 4096, 1]⟩
abbrev S_ : Shape := ⟨0, ![]⟩
abbrev S8x4096 : Shape := ⟨2, ![8, 4096]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x1x1024, .f32⟩
  | .hbm, ⟨7, _⟩ => ⟨S1024, .f32⟩
  | .hbm, ⟨8, _⟩ => ⟨S1024, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel6.lean ====
abbrev S32x1x1024 : Shape := ⟨3, ![32, 1, 1024]⟩
abbrev S1024x2864 : Shape := ⟨2, ![1024, 2864]⟩
abbrev S1024x896 : Shape := ⟨2, ![1024, 896]⟩
abbrev S_ : Shape := ⟨0, ![]⟩
abbrev S1024x652 : Shape := ⟨2, ![1024, 652]⟩
abbrev S1024x768 : Shape := ⟨2, ![1024, 768]⟩
abbrev S1024x548 : Shape := ⟨2, ![1024, 548]⟩
abbrev S1024x640 : Shape := ⟨2, ![1024, 640]⟩
abbrev S1024x3072 : Shape := ⟨2, ![1024, 3072]⟩
abbrev S32x1x896 : Shape := ⟨3, ![32, 1, 896]⟩
abbrev S32x1x768 : Shape := ⟨3, ![32, 1, 768]⟩
abbrev S32x1x640 : Shape := ⟨3, ![32, 1, 640]⟩
abbrev S1x1x1024 : Shape := ⟨3, ![1, 1, 1024]⟩
abbrev S1x1x896 : Shape := ⟨3, ![1, 1, 896]⟩
abbrev S1x1x768 : Shape := ⟨3, ![1, 1, 768]⟩
abbrev S1x1x640 : Shape := ⟨3, ![1, 1, 640]⟩
abbrev S1x1024 : Shape := ⟨2, ![1, 1024]⟩
abbrev S1 : Shape := ⟨1, ![1]⟩
abbrev S1x1 : Shape := ⟨2, ![1, 1]⟩
abbrev S1x3072 : Shape := ⟨2, ![1, 3072]⟩
abbrev S1x896 : Shape := ⟨2, ![1, 896]⟩
abbrev S1x768 : Shape := ⟨2, ![1, 768]⟩
abbrev S1x640 : Shape := ⟨2, ![1, 640]⟩

abbrev nBuf : Space → Nat
  | .hbm => 26
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x2864, .f32⟩
  | .hbm, ⟨4, _⟩ => ⟨S1024x896, .f32⟩
  | .hbm, ⟨5, _⟩ => ⟨S_, .i32⟩
  | .hbm, ⟨6, _⟩ => ⟨S_, .f32⟩
  | .hbm, ⟨7, _⟩ => ⟨S1024x896, .f32⟩
  | .hbm, ⟨8, _⟩ => ⟨S1024x652, .f32⟩
  | .hbm, ⟨9, _⟩ => ⟨S_, .i32⟩
  | .hbm, ⟨10, _⟩ => ⟨S_, .f32⟩
  | .hbm, ⟨11, _⟩ => ⟨S1024x768, .f32⟩
  | .hbm, ⟨12, _⟩ => ⟨S1024x548, .f32⟩
  | .hbm, ⟨13, _⟩ => ⟨S_, .i32⟩
  | .hbm, ⟨14, _⟩ => ⟨S_, .f32⟩
  | .hbm, ⟨15, _⟩ => ⟨S1024x640, .f32⟩
  | .hbm, ⟨16, _⟩ => ⟨S1024x768, .f32⟩
  | .hbm, ⟨17, _⟩ => ⟨S_, .i32⟩
  | .hbm, ⟨18, _⟩ => ⟨S_, .f32⟩
  | .hbm, ⟨19, _⟩ => ⟨S1024x768, .f32⟩
  | .hbm, ⟨20, _⟩ => ⟨S1024x3072, .f32⟩
  | .hbm, ⟨21, _⟩ => ⟨S1024x3072, .bf16⟩
  | .hbm, ⟨22, _⟩ => ⟨S32x1x896, .f32⟩
  | .hbm, ⟨23, _⟩ => ⟨S32x1x768, .f32⟩
  | .hbm, ⟨24, _⟩ => ⟨S32x1x640, .f32⟩
  | .hbm, ⟨25, _⟩ => ⟨S32x1x768, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S1x1x896, .f32⟩
  | .local _ .vmem, ⟨8, _⟩ => ⟨S1x1x896, .f32⟩
  | .local _ .vmem, ⟨9, _⟩ => ⟨S1x1x768, .f32⟩
  | .local _ .vmem, ⟨10, _⟩ => ⟨S1x1x768, .f32⟩
  | .local _ .vmem, ⟨11, _⟩ => ⟨S1x1x640, .f32⟩
  | .local _ .vmem, ⟨12, _⟩ => ⟨S1x1x640, .f32⟩
  | .local _ .vmem, ⟨13, _⟩ => ⟨S1x1x768, .f32⟩
  | .local _ .vmem, ⟨14, _⟩ => ⟨S1x1x768, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S32x1x1024 : Shape := ⟨3, ![32, 1, 1024]⟩
abbrev S1024x2864 : Shape := ⟨2, ![1024, 2864]⟩
abbrev S_ : Shape := ⟨0, ![]⟩
abbrev S32x1 : Shape := ⟨2, ![32, 1]⟩
abbrev S32x1x1 : Shape := ⟨3, ![32, 1, 1]⟩
abbrev S32x1x2864 : Shape := ⟨3, ![32, 1, 2864]⟩
abbrev S32x1x896 : Shape := ⟨3, ![32, 1, 896]⟩
abbrev S32x1x652 : Shape := ⟨3, ![32, 1, 652]⟩
abbrev S32x1x768 : Shape := ⟨3, ![32, 1, 768]⟩
abbrev S32x1x548 : Shape := ⟨3, ![32, 1, 548]⟩
abbrev S32x1x640 : Shape := ⟨3, ![32, 1, 640]⟩

abbrev nBuf : Space → Nat
  | .hbm => 43
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S1024x2864, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S_, .f32⟩
  | .hbm, ⟨14, _⟩ => ⟨S32x1, .f32⟩
  | .hbm, ⟨15, _⟩ => ⟨S32x1x1, .f32⟩
  | .hbm, ⟨16, _⟩ => ⟨S_, .f32⟩
  | .hbm, ⟨17, _⟩ => ⟨S32x1x1, .f32⟩
  | .hbm, ⟨18, _⟩ => ⟨S32x1x1, .f32⟩
  | .hbm, ⟨19, _⟩ => ⟨S32x1x1024, .f32⟩
  | .hbm, ⟨20, _⟩ => ⟨S32x1x1024, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S32x1x1, .f32⟩
  | .hbm, ⟨25, _⟩ => ⟨S32x1x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S32x1x2864, .f32⟩
  | .hbm, ⟨33, _⟩ => ⟨S32x1x896, .f32⟩
  | .hbm, ⟨34, _⟩ => ⟨S32x1x652, .f32⟩
  | .hbm, ⟨35, _⟩ => ⟨S_, .i32⟩
  | .hbm, ⟨36, _⟩ => ⟨S_, .f32⟩
  | .hbm, ⟨37, _⟩ => ⟨S32x1x768, .f32⟩
  | .hbm, ⟨38, _⟩ => ⟨S32x1x548, .f32⟩
  | .hbm, ⟨39, _⟩ => ⟨S_, .i32⟩
  | .hbm, ⟨40, _⟩ => ⟨S_, .f32⟩
  | .hbm, ⟨41, _⟩ => ⟨S32x1x640, .f32⟩
  | .hbm, ⟨42, _⟩ => ⟨S32x1x768, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel7.lean ====
abbrev S32x1x1024 : Shape := ⟨3, ![32, 1, 1024]⟩
abbrev S32x1x4 : Shape := ⟨3, ![32, 1, 4]⟩
abbrev S1024 : Shape := ⟨1, ![1024]⟩
abbrev S_ : Shape := ⟨0, ![]⟩
abbrev S32x1x128 : Shape := ⟨3, ![32, 1, 128]⟩
abbrev S1x1024 : Shape := ⟨2, ![1, 1024]⟩
abbrev S1x1x1024 : Shape := ⟨3, ![1, 1, 1024]⟩
abbrev S1x1x128 : Shape := ⟨3, ![1, 1, 128]⟩
abbrev S1x128 : Shape := ⟨2, ![1, 128]⟩
abbrev S1x1 : Shape := ⟨2, ![1, 1]⟩
abbrev S1 : Shape := ⟨1, ![1]⟩

abbrev nBuf : Space → Nat
  | .hbm => 15
  | .vmem => 18
  | .smem => 0
  | _ => 0

abbrev bufTy : (tb : Table) → Fin (tcTables nBuf tb) → BufTy
  | .hbm, ⟨0, _⟩ => ⟨S32x1x1024, .f32⟩
  | .hbm, ⟨1, _⟩ => ⟨S32x1x4, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S32x1x128, .f32⟩
  | .hbm, ⟨12, _⟩ => ⟨S1x1024, .f32⟩
  | .hbm, ⟨13, _⟩ => ⟨S1x1024, .f32⟩
  | .hbm, ⟨14, _⟩ => ⟨S32x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x128, .f32⟩
  | .local _ .vmem, ⟨3, _⟩ => ⟨S1x1x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S32x1x1024 : Shape := ⟨3, ![32, 1, 1024]⟩
abbrev S32x1x4 : Shape := ⟨3, ![32, 1, 4]⟩
abbrev S1024 : Shape := ⟨1, ![1024]⟩
abbrev S32x1x1 : Shape := ⟨3, ![32, 1, 1]⟩
abbrev S_ : Shape := ⟨0, ![]⟩
abbrev S32x1 : Shape := ⟨2, ![32, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x4, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024, .f32⟩
  | .hbm, ⟨8, _⟩ => ⟨S1024, .f32⟩
  | .hbm, ⟨9, _⟩ => ⟨S32x1x1, .f32⟩
  | .hbm, ⟨10, _⟩ => ⟨S32x1x1024, .f32⟩
  | .hbm, ⟨11, _⟩ => ⟨S32x1x1024, .f32⟩
  | .hbm, ⟨12, _⟩ => ⟨S32x1x1, .f32⟩
  | .hbm, ⟨13, _⟩ => ⟨S32x1x1024, .f32⟩
  | .hbm, ⟨14, _⟩ => ⟨S32x1x1024, .f32⟩
  | .hbm, ⟨15, _⟩ => ⟨S32x1x1024, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x1x1, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S_, .f32⟩
  | .hbm, ⟨30, _⟩ => ⟨S32x1, .f32⟩
  | .hbm, ⟨31, _⟩ => ⟨S32x1x1, .f32⟩
  | .hbm, ⟨32, _⟩ => ⟨S_, .f32⟩
  | .hbm, ⟨33, _⟩ => ⟨S32x1x1, .f32⟩
  | .hbm, ⟨34, _⟩ => ⟨S32x1x1, .f32⟩
  | .hbm, ⟨35, _⟩ => ⟨S32x1x1024, .f32⟩
  | .hbm, ⟨36, _⟩ => ⟨S32x1x1024, .f32⟩
  | .hbm, ⟨37, _⟩ => ⟨S32x1x1024, .f32⟩
  | .hbm, ⟨38, _⟩ => ⟨S_, .f32⟩
  | .hbm, ⟨39, _⟩ => ⟨S32x1, .f32⟩
  | .hbm, ⟨40, _⟩ => ⟨S32x1x1, .f32⟩
  | .hbm, ⟨41, _⟩ => ⟨S_, .f32⟩
  | .hbm, ⟨42, _⟩ => ⟨S32x1x1, .f32⟩
  | .hbm, ⟨43, _⟩ => ⟨S32x1x1, .f32⟩
  | .hbm, ⟨44, _⟩ => ⟨S32x1x1024, .f32⟩
  | .hbm, ⟨45, _⟩ => ⟨S32x1x1024, .f32⟩
  | .hbm, ⟨46, _⟩ => ⟨S_, .f32⟩
  | .hbm, ⟨47, _⟩ => ⟨S32x1x1, .f32⟩
  | .hbm, ⟨48, _⟩ => ⟨S32x1x1, .f32⟩
  | .hbm, ⟨49, _⟩ => ⟨S32x1x1, .f32⟩
  | .hbm, ⟨50, _⟩ => ⟨S32x1x1024, .f32⟩
  | .hbm, ⟨51, _⟩ => ⟨S32x1x1024, .f32⟩
  | .hbm, ⟨52, _⟩ => ⟨S1x1x1024, .f32⟩
  | .hbm, ⟨53, _⟩ => ⟨S32x1x1024, .f32⟩
  | .hbm, ⟨54, _⟩ => ⟨S32x1x1024, .f32⟩
  | .hbm, ⟨55, _⟩ => ⟨S1x1x1024, .f32⟩
  | .hbm, ⟨56, _⟩ => ⟨S32x1x1024, .f32⟩
  | .hbm, ⟨57, _⟩ => ⟨S32x1x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel8.lean ====
abbrev S32x1x256 : Shape := ⟨3, ![32, 1, 256]⟩
abbrev S32x4x64x64 : Shape := ⟨4, ![32, 4, 64, 64]⟩
abbrev S32x64x4x64 : Shape := ⟨4, ![32, 64, 4, 64]⟩
abbrev S32x64x256 : Shape := ⟨3, ![32, 64, 256]⟩
abbrev S32x1x64x256 : Shape := ⟨4, ![32, 1, 64, 256]⟩
abbrev S8x1x256 : Shape := ⟨3, ![8, 1, 256]⟩
abbrev S8x64x256 : Shape := ⟨3, ![8, 64, 256]⟩
abbrev S8x1x64x256 : Shape := ⟨4, ![8, 1, 64, 256]⟩
abbrev S512x256 : Shape := ⟨2, ![512, 256]⟩
abbrev S256x256 : Shape := ⟨2, ![256, 256]⟩
abbrev S1x1x256 : Shape := ⟨3, ![1, 1, 256]⟩
abbrev S1x256 : Shape := ⟨2, ![1, 256]⟩
abbrev S64x256 : Shape := ⟨2, ![64, 256]⟩
abbrev S512x512 : Shape := ⟨2, ![512, 512]⟩

abbrev nBuf : Space → Nat
  | .hbm => 12
  | .vmem => 20
  | .smem => 0
  | _ => 0

abbrev bufTy : (tb : Table) → Fin (tcTables nBuf tb) → BufTy
  | .hbm, ⟨0, _⟩ => ⟨S32x1x256, .f32⟩
  | .hbm, ⟨1, _⟩ => ⟨S32x1x256, .f32⟩
  | .hbm, ⟨2, _⟩ => ⟨S32x1x256, .f32⟩
  | .hbm, ⟨3, _⟩ => ⟨S32x1x256, .f32⟩
  | .hbm, ⟨4, _⟩ => ⟨S32x1x256, .f32⟩
  | .hbm, ⟨5, _⟩ => ⟨S32x1x256, .f32⟩
  | .hbm, ⟨6, _⟩ => ⟨S32x4x64x64, .f32⟩
  | .hbm, ⟨7, _⟩ => ⟨S32x1x256, .f32⟩
  | .hbm, ⟨8, _⟩ => ⟨S32x64x4x64, .f32⟩
  | .hbm, ⟨9, _⟩ => ⟨S32x64x256, .f32⟩
  | .hbm, ⟨10, _⟩ => ⟨S32x1x64x256, .f32⟩
  | .hbm, ⟨11, _⟩ => ⟨S32x64x256, .f32⟩
  | .local _ .vmem, ⟨0, _⟩ => ⟨S8x1x256, .f32⟩
  | .local _ .vmem, ⟨1, _⟩ => ⟨S8x1x256, .f32⟩
  | .local _ .vmem, ⟨2, _⟩ => ⟨S8x1x256, .f32⟩
  | .local _ .vmem, ⟨3, _⟩ => ⟨S8x1x256, .f32⟩
  | .local _ .vmem, ⟨4, _⟩ => ⟨S8x1x256, .f32⟩
  | .local _ .vmem, ⟨5, _⟩ => ⟨S8x1x256, .f32⟩
  | .local _ .vmem, ⟨6, _⟩ => ⟨S8x1x256, .f32⟩
  | .local _ .vmem, ⟨7, _⟩ => ⟨S8x1x256, .f32⟩
  | .local _ .vmem, ⟨8, _⟩ => ⟨S8x1x256, .f32⟩
  | .local _ .vmem, ⟨9, _⟩ => ⟨S8x1x256, .f32⟩
  | .local _ .vmem, ⟨10, _⟩ => ⟨S8x1x256, .f32⟩
  | .local _ .vmem, ⟨11, _⟩ => ⟨S8x1x256, .f32⟩
  | .local _ .vmem, ⟨12, _⟩ => ⟨S8x64x256, .f32⟩
  | .local _ .vmem, ⟨13, _⟩ => ⟨S8x64x256, .f32⟩
  | .local _ .vmem, ⟨14, _⟩ => ⟨S8x1x64x256, .f32⟩
  | .local _ .vmem, ⟨15, _⟩ => ⟨S8x1x64x256, .f32⟩
  | .local _ .vmem, ⟨16, _⟩ => ⟨S8x64x256, .f32⟩
  | .local _ .vmem, ⟨17, _⟩ => ⟨S8x64x256, .f32⟩
  | .local _ .vmem, ⟨18, _⟩ => ⟨S512x256, .f32⟩
  | .local _ .vmem, ⟨19, _⟩ => ⟨S512x256, .f32⟩
  | _, _ => ⟨S32x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def k0_off1 : Fin 3 → Nat :=
  let c0_40 : Index := 0#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v120 : Index := Scalar.indexCast v118
  let c0_41 : Index := 0#32
  ![0, v120.toNat, 0]
def k0_off2 : Fin 3 → Nat :=
  let c1 : Index := 1#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v125 : Index := Scalar.indexCast v118
  let c0_42 : Index := 0#32
  ![1, v125.toNat, 0]
def k0_off3 : Fin 3 → Nat :=
  let c2 : Index := 2#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v130 : Index := Scalar.indexCast v118
  let c0_43 : Index := 0#32
  ![2, v130.toNat, 0]
def k0_off4 : Fin 3 → Nat :=
  let c3 : Index := 3#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v135 : Index := Scalar.indexCast v118
  let c0_44 : Index := 0#32
  ![3, v135.toNat, 0]
def k0_off5 : Fin 3 → Nat :=
  let c4 : Index := 4#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v140 : Index := Scalar.indexCast v118
  let c0_45 : Index := 0#32
  ![4, v140.toNat, 0]
def k0_off6 : Fin 3 → Nat :=
  let c5 : Index := 5#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v145 : Index := Scalar.indexCast v118
  let c0_46 : Index := 0#32
  ![5, v145.toNat, 0]
def k0_off7 : Fin 3 → Nat :=
  let c6 : Index := 6#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v150 : Index := Scalar.indexCast v118
  let c0_47 : Index := 0#32
  ![6, v150.toNat, 0]
def k0_off8 : Fin 3 → Nat :=
  let c7 : Index := 7#32
  let c0_i32_35 : BitVec 32 := 0#32
  let c1_i32_36 : BitVec 32 := 1#32
  let v117 : BitVec 32 := Scalar.muli c0_i32_35 c1_i32_36
  let c0_i32_37 : BitVec 32 := 0#32
  let v118 : BitVec 32 := Scalar.addi v117 c0_i32_37
  let v155 : Index := Scalar.indexCast v118
  let c0_48 : Index := 0#32
  ![7, v155.toNat, 0]
def k0_cond2 (i : grid0.Coords) : BitVec 1 :=
  let arg1 : BitVec 32 := BitVec.ofNat 32 (i 1).val
  let c0_i32_151 : BitVec 32 := 0#32
  let v413 : BitVec 1 := Scalar.cmpi .eq arg1 c0_i32_151
  let v414 : BitVec 32 := Scalar.extui v413
  let c0_i32_152 : BitVec 32 := 0#32
  let v415 : BitVec 1 := Scalar.cmpi .ne v414 c0_i32_152
  v415

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference8Ideal.lean ====
abbrev S32x1x256 : Shape := ⟨3, ![32, 1, 256]⟩
abbrev S32x4x64x64 : Shape := ⟨4, ![32, 4, 64, 64]⟩
abbrev S32x4x64 : Shape := ⟨3, ![32, 4, 64]⟩
abbrev S32x4x1x64 : Shape := ⟨4, ![32, 4, 1, 64]⟩
abbrev S32x4x64x1 : Shape := ⟨4, ![32, 4, 64, 1]⟩
abbrev S32x64x4 : Shape := ⟨3, ![32, 64, 4]⟩
abbrev S32x64x4x1 : Shape := ⟨4, ![32, 64, 4, 1]⟩
abbrev S_ : Shape := ⟨0, ![]⟩
abbrev S32x64x4x64 : Shape := ⟨4, ![32, 64, 4, 64]⟩
abbrev S32x1x64x256 : Shape := ⟨4, ![32, 1, 64, 256]⟩
abbrev S32x64x256 : Shape := ⟨3, ![32, 64, 256]⟩

abbrev nBuf : Space → Nat
  | .hbm => 39
  | .vmem => 0
  | .smem => 0
  | _ => 0

abbrev bufTy : (tb : Table) → Fin (tcTables nBuf tb) → BufTy
  | .hbm, ⟨0, _⟩ => ⟨S32x1x256, .f32⟩
  | .hbm, ⟨1, _⟩ => ⟨S32x1x256, .f32⟩
  | .hbm, ⟨2, _⟩ => ⟨S32x1x256, .f32⟩
  | .hbm, ⟨3, _⟩ => ⟨S32x1x256, .f32⟩
  | .hbm, ⟨4, _⟩ => ⟨S32x1x256, .f32⟩
  | .hbm, ⟨5, _⟩ => ⟨S32x1x256, .f32⟩
  | .hbm, ⟨6, _⟩ => ⟨S32x4x64x64, .f32⟩
  | .hbm, ⟨7, _⟩ => ⟨S32x4x64, .f32⟩
  | .hbm, ⟨8, _⟩ => ⟨S32x4x64, .f32⟩
  | .hbm, ⟨9, _⟩ => ⟨S32x4x64, .f32⟩
  | .hbm, ⟨10, _⟩ => ⟨S32x4x64, .f32⟩
  | .hbm, ⟨11, _⟩ => ⟨S32x4x64, .f32⟩
  | .hbm, ⟨12, _⟩ => ⟨S32x4x64, .f32⟩
  | .hbm, ⟨13, _⟩ => ⟨S32x4x1x64, .f32⟩
  | .hbm, ⟨14, _⟩ => ⟨S32x4x64x64, .f32⟩
  | .hbm, ⟨15, _⟩ => ⟨S32x4x64x64, .f32⟩
  | .hbm, ⟨16, _⟩ => ⟨S32x4x64, .f32⟩
  | .hbm, ⟨17, _⟩ => ⟨S32x4x64x1, .f32⟩
  | .hbm, ⟨18, _⟩ => ⟨S32x4x64, .f32⟩
  | .hbm, ⟨19, _⟩ => ⟨S32x4x1x64, .f32⟩
  | .hbm, ⟨20, _⟩ => ⟨S32x4x64x64, .f32⟩
  | .hbm, ⟨21, _⟩ => ⟨S32x4x64x64, .f32⟩
  | .hbm, ⟨22, _⟩ => ⟨S32x4x64x64, .f32⟩
  | .hbm, ⟨23, _⟩ => ⟨S32x4x64x64, .f32⟩
  | .hbm, ⟨24, _⟩ => ⟨S32x4x64x1, .f32⟩
  | .hbm, ⟨25, _⟩ => ⟨S32x4x1x64, .f32⟩
  | .hbm, ⟨26, _⟩ => ⟨S32x4x64x64, .f32⟩
  | .hbm, ⟨27, _⟩ => ⟨S32x4x64x64, .f32⟩
  | .hbm, ⟨28, _⟩ => ⟨S32x4x64x64, .f32⟩
  | .hbm, ⟨29, _⟩ => ⟨S32x4x64x64, .f32⟩
  | .hbm, ⟨30, _⟩ => ⟨S32x4x64, .f32⟩
  | .hbm, ⟨31, _⟩ => ⟨S32x64x4, .f32⟩
  | .hbm, ⟨32, _⟩ => ⟨S32x64x4x1, .f32⟩
  | .hbm, ⟨33, _⟩ => ⟨S_, .i32⟩
  | .hbm, ⟨34, _⟩ => ⟨S_, .f32⟩
  | .hbm, ⟨35, _⟩ => ⟨S32x64x4x64, .f32⟩
  | .hbm, ⟨36, _⟩ => ⟨S32x1x64x256, .f32⟩
  | .hbm, ⟨37, _⟩ => ⟨S32x64x4x64, .f32⟩
  | .hbm, ⟨38, _⟩ => ⟨S32x64x256, .f32⟩
  | _, _ => ⟨S32x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.RefRun.lean ====
/- The reference's run stated over its step function: at a valuation that holds a state (the state at the buffers the loop
   carries, the set-up values at its constants, the trip's number at its counters) every value of one trip is the step
   module's, so one trip keeps holding with `step` applied; what the main function leaves before the loop holds `init`; and
   the results are the fields of `step` iterated from `init`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v13_7) = s.main_v13_7
  f_8 : V0 (Proc.devRef .tc main_v13_8) = s.main_v13_8
  f_0 : V0 (Proc.devRef .tc main_v13_0) = s.main_v13_0
  f_1 : V0 (Proc.devRef .tc main_v13_1) = s.main_v13_1
  f_2 : V0 (Proc.devRef .tc main_v13_2) = s.main_v13_2
  f_3 : V0 (Proc.devRef .tc main_v13_3) = s.main_v13_3
  f_4 : V0 (Proc.devRef .tc main_v13_4) = s.main_v13_4
  f_5 : V0 (Proc.devRef .tc main_v13_5) = s.main_v13_5
  n_6 : V0 (Proc.devRef .tc main_v13_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S8x4x64 (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64 : (Proc.devRef .tc main_while0b_v20 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x4x64 (V0 (Proc.devRef .tc main_v13_1)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S8x4x64 (Host.dynamicSlice S1x8x4x64 (V0 (Proc.devRef .tc main_v13_1)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64 : (Proc.devRef .tc main_while0b_v21 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x8x4x64 (V0 (Proc.devRef .tc main_v13_2)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S8x4x64 (Host.dynamicSlice S1x8x4x64 (V0 (Proc.devRef .tc main_v13_2)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64 : (Proc.devRef .tc main_while0b_v22 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S8x4x64 (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64 : (Proc.devRef .tc main_while0b_v23 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x8x4x64 (V0 (Proc.devRef .tc main_v13_4)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (res_main_while0b_v24 V0 : (Proc.devRef .tc main_while0b_v24 : DevRef τ sig).ty.Contents (Elt F)) = Cert.ReferenceIdeal.Step.b24 j s := by
  unfold res_main_while0b_v24 Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call5_c_0 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call5_c_1 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64 : (Proc.devRef .tc main_while0b_call5_v0 : DevRef τ sig).ty.Contents (Elt F)) = Cert.ReferenceIdeal.Step.b28 j s := by
  unfold Cert.ReferenceIdeal.Step.b28
  rw [← al_25 h, ← al_26 h, ← al_27 h, h.f_5, h.n_6]
  try rfl
set_option maxRecDepth 8192 in
theorem al_29 (h : Holds V0 s j) : (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64 : (Proc.devRef .tc main_while0b_v25 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (broadcastInDim S8x4x1x64 ![0, 1, 3] bcast_S8x4x64_S8x4x1x64_0_1_3 (shapeCast S8x4x64 (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64) : (Proc.devRef .tc main_while0b_v26 : DevRef τ sig).ty.Contents (Elt F)) = Cert.ReferenceIdeal.Step.b30 j s := by
  unfold Cert.ReferenceIdeal.Step.b30
  rw [← al_19 h]
  try rfl
set_option maxRecDepth 8192 in
theorem al_31 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (shapeCast S8x4x64 (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)) : (Proc.devRef .tc main_while0b_v27 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (V0 (Proc.devRef .tc main_v13_7)) (broadcastInDim S8x4x64x64 ![0, 1, 2, 3] bcast_S8x4x1x64_S8x4x64x64_0_1_2_3 (broadcastInDim S8x4x1x64 ![0, 1, 3] bcast_S8x4x64_S8x4x1x64_0_1_3 (shapeCast S8x4x64 (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) : (Proc.devRef .tc main_while0b_v28 : DevRef τ sig).ty.Contents (Elt F)) = Cert.ReferenceIdeal.Step.b32 j s := by
  unfold Cert.ReferenceIdeal.Step.b32
  rw [← al_31 h, h.f_7]
  try rfl
set_option maxRecDepth 8192 in
theorem al_33 (h : Holds V0 s j) : (Host.dotGeneral dot_S8x4x64x64_S8x4x64_S8x4x64_3_2_2_n_01_01 none (V0 (Proc.devRef .tc main_v13_7)) (res_main_while0b_v24 V0) : (Proc.devRef .tc main_while0b_v29 : DevRef τ sig).ty.Contents (Elt F)) = Cert.ReferenceIdeal.Step.b33 j s := by
  unfold Cert.ReferenceIdeal.Step.b33
  rw [← al_24 h, h.f_7]
  try rfl
set_option maxRecDepth 8192 in
theorem al_34 (h : Holds V0 s j) : (broadcastInDim S8x4x64x1 ![0, 1, 2] bcast_S8x4x64_S8x4x64x1_0_1_2 (Host.dotGeneral dot_S8x4x64x64_S8x4x64_S8x4x64_3_2_2_n_01_01 none (V0 (Proc.devRef .tc main_v13_7)) (res_main_while0b_v24 V0)) : (Proc.devRef .tc main_while0b_v30 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (mulf (res_main_while0b_v24 V0) (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64) : (Proc.devRef .tc main_while0b_v31 : DevRef τ sig).ty.Contents (Elt F)) = Cert.ReferenceIdeal.Step.b35 j s := by
  unfold Cert.ReferenceIdeal.Step.b35
  rw [← al_24 h, ← al_29 h]
  try rfl
set_option maxRecDepth 8192 in
theorem al_36 (h : Holds V0 s j) : (broadcastInDim S8x4x1x64 ![0, 1, 3] bcast_S8x4x64_S8x4x1x64_0_1_3 (mulf (res_main_while0b_v24 V0) (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)) : (Proc.devRef .tc main_while0b_v32 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (Host.dotGeneral dot_S8x4x64x64_S8x4x64_S8x4x64_3_2_2_n_01_01 none (V0 (Proc.devRef .tc main_v13_7)) (res_main_while0b_v24 V0))) : (Proc.devRef .tc main_while0b_v33 : DevRef τ sig).ty.Contents (Elt F)) = Cert.ReferenceIdeal.Step.b37 j s := by
  unfold Cert.ReferenceIdeal.Step.b37
  rw [← al_34 h]
  try rfl
set_option maxRecDepth 8192 in
theorem al_38 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (mulf (res_main_while0b_v24 V0) (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) : (Proc.devRef .tc main_while0b_v34 : DevRef τ sig).ty.Contents (Elt F)) = Cert.ReferenceIdeal.Step.b38 j s := by
  unfold Cert.ReferenceIdeal.Step.b38
  rw [← al_36 h]
  try rfl
set_option maxRecDepth 8192 in
theorem al_39 (h : Holds V0 s j) : (mulf (broadcastInDim S8x4x64x64 ![0, 1, 2, 3] bcast_S8x4x64x1_S8x4x64x64_0_1_2_3 (broadcastInDim S8x4x64x1 ![0, 1, 2] bcast_S8x4x64_S8x4x64x1_0_1_2 (Host.dotGeneral dot_S8x4x64x64_S8x4x64_S8x4x64_3_2_2_n_01_01 none (V0 (Proc.devRef .tc main_v13_7)) (res_main_while0b_v24 V0)))) (broadcastInDim S8x4x64x64 ![0, 1, 2, 3] bcast_S8x4x1x64_S8x4x64x64_0_1_2_3 (broadcastInDim S8x4x1x64 ![0, 1, 3] bcast_S8x4x64_S8x4x1x64_0_1_3 (mulf (res_main_while0b_v24 V0) (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)))) : (Proc.devRef .tc main_while0b_v35 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (subf (mulf (V0 (Proc.devRef .tc main_v13_7)) (broadcastInDim S8x4x64x64 ![0, 1, 2, 3] bcast_S8x4x1x64_S8x4x64x64_0_1_2_3 (broadcastInDim S8x4x1x64 ![0, 1, 3] bcast_S8x4x64_S8x4x1x64_0_1_3 (shapeCast S8x4x64 (Host.dynamicSlice S1x8x4x64 (V0 (Proc.devRef .tc main_v13_3)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)))) (mulf (broadcastInDim S8x4x64x64 ![0, 1, 2, 3] bcast_S8x4x64x1_S8x4x64x64_0_1_2_3 (broadcastInDim S8x4x64x1 ![0, 1, 2] bcast_S8x4x64_S8x4x64x1_0_1_2 (Host.dotGeneral dot_S8x4x64x64_S8x4x64_S8x4x64_3_2_2_n_01_01 none (V0 (Proc.devRef .tc main_v13_7)) (res_main_while0b_v24 V0)))) (broadcastInDim S8x4x64x64 ![0, 1, 2, 3] bcast_S8x4x1x64_S8x4x64x64_0_1_2_3 (broadcastInDim S8x4x1x64 ![0, 1, 3] bcast_S8x4x64_S8x4x1x64_0_1_3 (mulf (res_main_while0b_v24 V0) (shapeCast S8x4x64 (Host.dynamicSlice S1x8x4x64 (V0 (Proc.devRef .tc main_v13_5)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))))) : (Proc.devRef .tc main_while0b_v36 : DevRef τ sig).ty.Contents (Elt F)) = Cert.ReferenceIdeal.Step.b40 j s := by
  unfold Cert.ReferenceIdeal.Step.b40
  rw [← al_32 h, ← al_39 h]
  try rfl
set_option maxRecDepth 8192 in
theorem al_41 (h : Holds V0 s j) : (broadcastInDim S8x4x64x1 ![0, 1, 2] bcast_S8x4x64_S8x4x64x1_0_1_2 (shapeCast S8x4x64 (Host.dynamicSlice S1x8x4x64 (V0 (Proc.devRef .tc main_v13_2)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64) : (Proc.devRef .tc main_while0b_v37 : DevRef τ sig).ty.Contents (Elt F)) = Cert.ReferenceIdeal.Step.b41 j s := by
  unfold Cert.ReferenceIdeal.Step.b41
  rw [← al_14 h]
  try rfl
set_option maxRecDepth 8192 in
theorem al_42 (h : Holds V0 s j) : (broadcastInDim S8x4x1x64 ![0, 1, 3] bcast_S8x4x64_S8x4x1x64_0_1_3 (shapeCast S8x4x64 (Host.dynamicSlice S1x8x4x64 (V0 (Proc.devRef .tc main_v13_1)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64) : (Proc.devRef .tc main_while0b_v38 : DevRef τ sig).ty.Contents (Elt F)) = Cert.ReferenceIdeal.Step.b42 j s := by
  unfold Cert.ReferenceIdeal.Step.b42
  rw [← al_9 h]
  try rfl
set_option maxRecDepth 8192 in
theorem al_43 (h : Holds V0 s j) : (broadcastInDim S8x4x64x64 ![0, 1, 2, 3] bcast_S8x4x64x1_S8x4x64x64_0_1_2_3 (broadcastInDim S8x4x64x1 ![0, 1, 2] bcast_S8x4x64_S8x4x64x1_0_1_2 (shapeCast S8x4x64 (Host.dynamicSlice S1x8x4x64 (V0 (Proc.devRef .tc main_v13_2)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)) : (Proc.devRef .tc main_while0b_v39 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (broadcastInDim S8x4x64x64 ![0, 1, 2, 3] bcast_S8x4x1x64_S8x4x64x64_0_1_2_3 (broadcastInDim S8x4x1x64 ![0, 1, 3] bcast_S8x4x64_S8x4x1x64_0_1_3 (shapeCast S8x4x64 (Host.dynamicSlice S1x8x4x64 (V0 (Proc.devRef .tc main_v13_1)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)) : (Proc.devRef .tc main_while0b_v40 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (mulf (broadcastInDim S8x4x64x64 ![0, 1, 2, 3] bcast_S8x4x64x1_S8x4x64x64_0_1_2_3 (broadcastInDim S8x4x64x1 ![0, 1, 2] bcast_S8x4x64_S8x4x64x1_0_1_2 (shapeCast S8x4x64 (Host.dynamicSlice S1x8x4x64 (V0 (Proc.devRef .tc main_v13_2)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) (broadcastInDim S8x4x64x64 ![0, 1, 2, 3] bcast_S8x4x1x64_S8x4x64x64_0_1_2_3 (broadcastInDim S8x4x1x64 ![0, 1, 3] bcast_S8x4x64_S8x4x1x64_0_1_3 (shapeCast S8x4x64 (Host.dynamicSlice S1x8x4x64 (V0 (Proc.devRef .tc main_v13_1)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) : (Proc.devRef .tc main_while0b_v41 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (res_main_while0b_v42 V0 : (Proc.devRef .tc main_while0b_v42 : DevRef τ sig).ty.Contents (Elt F)) = Cert.ReferenceIdeal.Step.b46 j s := by
  unfold res_main_while0b_v42 Cert.ReferenceIdeal.Step.b46
  rw [← al_40 h, ← al_45 h]
  try rfl
set_option maxRecDepth 8192 in
theorem al_47 (h : Holds V0 s j) : (Host.dotGeneral dot_S8x4x64x64_S8x4x64_S8x4x64_3_2_2_n_01_01 none (res_main_while0b_v42 V0) (shapeCast S8x4x64 (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64) : (Proc.devRef .tc main_while0b_v43 : DevRef τ sig).ty.Contents (Elt F)) = Cert.ReferenceIdeal.Step.b47 j s := by
  unfold Cert.ReferenceIdeal.Step.b47
  rw [← al_46 h, ← al_4 h]
  try rfl
set_option maxRecDepth 8192 in
theorem al_48 (h : Holds V0 s j) : (broadcastInDim S1x8x4x64 ![1, 2, 3] bcast_S8x4x64_S1x8x4x64_1_2_3 (Host.dotGeneral dot_S8x4x64x64_S8x4x64_S8x4x64_3_2_2_n_01_01 none (res_main_while0b_v42 V0) (shapeCast S8x4x64 (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64)) : (Proc.devRef .tc main_while0b_call6_v0 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (constantI S_ 32 0#32 : (Proc.devRef .tc main_while0b_call6_c : DevRef τ sig).ty.Contents (Elt F)) = Cert.ReferenceIdeal.Step.b49 j s := by
  unfold Cert.ReferenceIdeal.Step.b49
  rfl
set_option maxRecDepth 8192 in
theorem al_50 (h : Holds V0 s j) : (constantI S_ 32 0#32 : (Proc.devRef .tc main_while0b_call6_c_0 : DevRef τ sig).ty.Contents (Elt F)) = Cert.ReferenceIdeal.Step.b50 j s := by
  unfold Cert.ReferenceIdeal.Step.b50
  rfl
set_option maxRecDepth 8192 in
theorem al_51 (h : Holds V0 s j) : (constantI S_ 32 0#32 : (Proc.devRef .tc main_while0b_call6_c_1 : DevRef τ sig).ty.Contents (Elt F)) = Cert.ReferenceIdeal.Step.b51 j s := by
  unfold Cert.ReferenceIdeal.Step.b51
  rfl
set_option maxRecDepth 8192 in
theorem al_52 (h : Holds V0 s j) : (Host.dynamicUpdateSlice (V0 (Proc.devRef .tc main_v13_8)) (broadcastInDim S1x8x4x64 ![1, 2, 3] bcast_S8x4x64_S1x8x4x64_1_2_3 (Host.dotGeneral dot_S8x4x64x64_S8x4x64_S8x4x64_3_2_2_n_01_01 none (res_main_while0b_v42 V0) (shapeCast S8x4x64 (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) updateFits_S4096x8x4x64_S1x8x4x64 : (Proc.devRef .tc main_while0b_v44 : DevRef τ sig).ty.Contents (Elt F)) = Cert.ReferenceIdeal.Step.b52 j s := by
  unfold Cert.ReferenceIdeal.Step.b52
  rw [← al_48 h, ← al_49 h, ← al_50 h, ← al_51 h, h.f_8, h.n_6]
  try rfl

/-! One trip's step of the carried values is `step`, field by field; a counter steps to the next number. -/

theorem step_7 (h : Holds V0 s j) : step_main_v13_7 V0 = (step j s).main_v13_7 := by
  unfold step_main_v13_7 Cert.ReferenceIdeal.Step.step
  show id (res_main_while0b_v42 V0) = _
  rw [al_46 h]
  try rfl
theorem step_8 (h : Holds V0 s j) : step_main_v13_8 V0 = (step j s).main_v13_8 := by
  unfold step_main_v13_8 Cert.ReferenceIdeal.Step.step
  show id (Host.dynamicUpdateSlice (V0 (Proc.devRef .tc main_v13_8)) (broadcastInDim S1x8x4x64 ![1, 2, 3] bcast_S8x4x64_S1x8x4x64_1_2_3 (Host.dotGeneral dot_S8x4x64x64_S8x4x64_S8x4x64_3_2_2_n_01_01 none (res_main_while0b_v42 V0) (shapeCast S8x4x64 (Host.dynamicSlice S1x8x4x64 (V0 (Proc.devRef .tc main_v13_0)) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) sliceFits_S4096x8x4x64_S1x8x4x64) shapeCasts_S1x8x4x64_S8x4x64))) (fun k => (((![V0 (Proc.devRef .tc main_v13_6), constantI S_ 32 0#32, constantI S_ 32 0#32, constantI S_ 32 0#32] : Fin 4 → (⟨S_, .i32⟩ : BufTy).Contents (Elt F))) k (Shape.Idx.first h_S_)).toInt) updateFits_S4096x8x4x64_S1x8x4x64) = _
  exact al_52 h
theorem step_6 (h : Holds V0 s j) : step_main_v13_6 V0 = constantI S_ 32 (BitVec.ofNat 32 (j + 1)) := by
  unfold step_main_v13_6
  rw [h.n_6]
  funext i
  show BitVec.ofNat 32 j + 1#32 = BitVec.ofNat 32 (j + 1)
  simp only [BitVec.ofNat_add]

set_option maxRecDepth 8192 in
theorem out_main_v17_holds (h : Holds V0 s j) : out_main_v17 V0 = Cert.ReferenceIdeal.Step.R_main_v17 s := by
  unfold out_main_v17 Cert.ReferenceIdeal.Step.R_main_v17
  rw [h.f_8]
  try rfl

set_option maxRecDepth 8192 in
theorem out_main_v19_holds (h : Holds V0 s j) : out_main_v19 V0 = Cert.ReferenceIdeal.Step.R_main_v19 s := by
  unfold out_main_v19 Cert.ReferenceIdeal.Step.R_main_v19
  rw [h.f_7]
  try rfl

/-- One trip keeps the valuation holding: `step` of the state, the same set-up values, the next number. -/
theorem holds_step (h : Holds V0 s j) : Holds (STEP V0) (step j s) (j + 1) where
  f_7 := (STEP_main_v13_7 V0).trans (step_7 h)
  f_8 := (STEP_main_v13_8 V0).trans (step_8 h)
  n_6 := (STEP_main_v13_6 V0).trans (step_6 h)
  f_0 := (STEP_main_v13_0 V0).trans h.f_0
  f_1 := (STEP_main_v13_1 V0).trans h.f_1
  f_2 := (STEP_main_v13_2 V0).trans h.f_2
  f_3 := (STEP_main_v13_3 V0).trans h.f_3
  f_4 := (STEP_main_v13_4 V0).trans h.f_4
  f_5 := (STEP_main_v13_5 V0).trans h.f_5

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v17) = Cert.ReferenceIdeal.Step.R_main_v17 (it c 4096)
      ∧ r.2.mem ((c.tc : Thread nD τ).loc main_v19) = Cert.ReferenceIdeal.Step.R_main_v19 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 4096
    ⟨(h c).1.trans (out_main_v17_holds hk), (h c).2.1.trans (out_main_v19_holds hk), (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.RefRun

end
-- ==== Proof.Step.lean ====
/- One step of the recurrence as the kernel runs it, on whole arrays of 512 rows (sequence and value coordinate) by
   256 lanes (head and key coordinate), and the trip of eight unrolled steps as these steps in a row. -/
module

public import proofs.«01_k».proof.Proof.Gen.KernelIdeal.Loops
public import Idealize.ShloMosaic.Lib.Pipeline.Value
public import Idealize.ShloMosaic.Lib.Pipeline.ValueKit

@[expose] public section

set_option maxRecDepth 65536

noncomputable section

namespace Cert.KernelIdeal.Scan

open Cert.KernelIdeal Cert.KernelIdeal.Gen Idealize.ShloMosaic Idealize.ShloMosaic.TcCoe Idealize.SL.Sem

variable {F : FTy → Type} [FloatOps F]

/-- One row of 256 lanes repeated over 64 rows. -/
def bc1 (x : Vec F S1x1x256 .f32) : FVec F S64x256 .f32 :=
  broadcastTo S64x256 (shapeCast S1x256 (shapeCast S1x256 x shapeCasts_S1x1x256_S1x256) shapeCasts_S1x256_S1x256)
    broadcasts_S1x256_S64x256

/-- Eight rows, one per sequence, each repeated over the sequence's 64 rows. -/
def bc8 (x : Fin 8 → Vec F S1x1x256 .f32) : FVec F S512x256 .f32 :=
  concatenate S512x256 0 [⟨S64x256, bc1 (x 0)⟩, ⟨S64x256, bc1 (x 1)⟩, ⟨S64x256, bc1 (x 2)⟩, ⟨S64x256, bc1 (x 3)⟩,
    ⟨S64x256, bc1 (x 4)⟩, ⟨S64x256, bc1 (x 5)⟩, ⟨S64x256, bc1 (x 6)⟩, ⟨S64x256, bc1 (x 7)⟩]
    concatenates_S64x256_S64x256_S64x256_S64x256_S64x256_S64x256_S64x256_S64x256_S512x256_d0

/-- The sum over the lanes of a head, of a product split into its bf16 rounding and the rest. -/
def segSum2 (ones2 : FVec F S512x256 .bf16) (x : FVec F S512x256 .f32) : FVec F S512x256 .f32 :=
  matmul dot_S512x512_S512x256_S512x256_1_0_0_1_n_n none
    (concatenate S512x512 1 [⟨S512x256, truncf .bf16 x bitsLt_bf16_f32⟩,
      ⟨S512x256, truncf .bf16 (subf x (extf .f32 (truncf .bf16 x bitsLt_bf16_f32) bitsLt_bf16_f32)) bitsLt_bf16_f32⟩]
      concatenates_S512x256_S512x256_S512x512_d1) ones2 (constant S512x256 .f32 0x00000000#32)

/-- The sum over the lanes of a head, of a product rounded to bf16. -/
def segSum1 (ones1 : FVec F S256x256 .bf16) (x : FVec F S512x256 .f32) : FVec F S512x256 .f32 :=
  matmul dot_S512x256_S256x256_S512x256_1_0_0_1_n_n none (truncf .bf16 x bitsLt_bf16_f32) ones1
    (constant S512x256 .f32 0x00000000#32)

/-- The state after one step. -/
def stepS (ones2 : FVec F S512x256 .bf16) (ones1 : FVec F S256x256 .bf16) (diag kk v w kka k s : FVec F S512x256 .f32) :
    FVec F S512x256 .f32 :=
  addf (subf (mulf s w) (mulf (segSum2 ones2 (mulf s kk)) kka)) (mulf (segSum1 ones1 (mulf v diag)) k)

/-- The lane's number within its head, as the kernel computes it. -/
def laneMod (v75 : IVec S512x256 32) : IVec S512x256 32 :=
  have m : BitVec 32 := Scalar.select (Scalar.cmpi .eq 64#32 0#32) 1#32 64#32
  have q : IVec S512x256 32 := remsi v75 (broadcast S512x256 m)
  select (andi (xori (cmpi .slt q (broadcast S512x256 0#32))
      (broadcastTo S512x256 (broadcast S512x256 (Scalar.cmpi .slt m 0#32)) broadcasts_S512x256_S512x256))
      (cmpi .ne q (broadcast S512x256 0#32))) (addi q (broadcast S512x256 m)) q

/-- The buffer of outputs after one step: the lanes of this step's number get the new state's product with `r`. -/
def stepY (ones1 : FVec F S256x256 .bf16) (v75 : IVec S512x256 32) (t : BitVec 32) (r s y : FVec F S512x256 .f32) :
    FVec F S512x256 .f32 :=
  select (cmpi .eq (laneMod v75) (broadcast S512x256 t)) (segSum1 ones1 (mulf s r)) y

/-- The row of one sequence at the time of step `u` of trip `k`. -/
def rows (M : Memref sig .tc .vmem S8x64x256 .f32) (X : BufTy.Contents (Elt F) M.view.ty) (k : Fin k0_t1_loop.trips)
    (u : Fin 8) : Fin 8 → Vec F S1x1x256 .f32 :=
  ![M.view.readAt (Elt F) (Rect.unit (s := S8x64x256) (k0_off1 k (BitVec.ofNat 32 u.val)) S1x1x256.size (k0_off1_inb k u)).toLoadRect X,
    M.view.readAt (Elt F) (Rect.unit (s := S8x64x256) (k0_off2 k (BitVec.ofNat 32 u.val)) S1x1x256.size (k0_off2_inb k u)).toLoadRect X,
    M.view.readAt (Elt F) (Rect.unit (s := S8x64x256) (k0_off3 k (BitVec.ofNat 32 u.val)) S1x1x256.size (k0_off3_inb k u)).toLoadRect X,
    M.view.readAt (Elt F) (Rect.unit (s := S8x64x256) (k0_off4 k (BitVec.ofNat 32 u.val)) S1x1x256.size (k0_off4_inb k u)).toLoadRect X,
    M.view.readAt (Elt F) (Rect.unit (s := S8x64x256) (k0_off5 k (BitVec.ofNat 32 u.val)) S1x1x256.size (k0_off5_inb k u)).toLoadRect X,
    M.view.readAt (Elt F) (Rect.unit (s := S8x64x256) (k0_off6 k (BitVec.ofNat 32 u.val)) S1x1x256.size (k0_off6_inb k u)).toLoadRect X,
    M.view.readAt (Elt F) (Rect.unit (s := S8x64x256) (k0_off7 k (BitVec.ofNat 32 u.val)) S1x1x256.size (k0_off7_inb k u)).toLoadRect X,
    M.view.readAt (Elt F) (Rect.unit (s := S8x64x256) (k0_off8 k (BitVec.ofNat 32 u.val)) S1x1x256.size (k0_off8_inb k u)).toLoadRect X]

variable (arg2 arg3 arg4 arg5 arg6 arg7 : Memref sig .tc .vmem S8x64x256 .f32)
  (arg11 arg12 : Memref sig .tc .vmem S512x256 .f32)
  (v73 : FVec F S512x256 .bf16) (v74 : FVec F S256x256 .bf16) (v75 : IVec S512x256 32) (v78 : BitVec 32)
  (v80 : IVec S512x256 32) (v82 v84 v86 : IVec S512x256 1)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (k : Fin k0_t1_loop.trips) (f11 : BufTy.Contents (Elt F) arg11.view.ty) (f12 : BufTy.Contents (Elt F) arg12.view.ty)

/-- Step `u` of trip `k`, on the state. -/
def tripS (u : Fin 8) (s : FVec F S512x256 .f32) : FVec F S512x256 .f32 :=
  stepS v73 v74 (k0_pay270 v75 v78 v80 v82 v84 v86) (bc8 (rows arg6 X6 k u)) (bc8 (rows arg5 X5 k u))
    (bc8 (rows arg3 X3 k u)) (bc8 (rows arg7 X7 k u)) (bc8 (rows arg4 X4 k u)) s

/-- The rectangle of the whole state. -/
abbrev whole : Rect S512x256 := Rect.unit ![0, 0] S512x256.size inb_S512x256_S512x256_0_0

/-- What is read back of a buffer whose last store wrote all of it. -/
theorem cov_cons (v : Memref sig .tc .vmem S512x256 .f32) (x : FVec F S512x256 .f32)
    (L : List (View.Piece (Elt F) S512x256 .f32)) :
    v.view.readCov ((⟨whole, shapeCast S512x256 x shapeCasts_S512x256_S512x256⟩ : View.Piece (Elt F) S512x256 .f32) :: L)
      whole.toLoadRect = x := by
  rw [shapeCast_self]
  have hz : (![0, 0] : Fin S512x256.rank → Nat) = fun _ => 0 := funext fun a => by fin_cases a <;> rfl
  rw [View.readCov_eq_canon', View.canon_cons_unit_zero hz]
  exact View.ld_unit_zero (Val := Elt F) (e := .f32) (S := S512x256) hz inb_S512x256_S512x256_0_0 x

/-- The time of step `u` of trip `k` within the grid point. -/
def tOf (u : Fin 8) : BitVec 32 :=
  Scalar.addi (Scalar.muli (Scf.iv 0#32 1#32 k.val) 8#32) (BitVec.ofNat 32 u.val)

/-- Step `u` of trip `k`, on the buffer of outputs, from the new state. -/
def tripY (u : Fin 8) (s y : FVec F S512x256 .f32) : FVec F S512x256 .f32 :=
  stepY v74 v75 (tOf k u) (bc8 (rows arg2 X2 k u)) s y

/-- The state before step `u` of a trip that starts from `s`. -/
def iS (s : FVec F S512x256 .f32) : ℕ → FVec F S512x256 .f32
  | 0 => s
  | u + 1 => tripS arg3 arg4 arg5 arg6 arg7 v73 v74 v75 v78 v80 v82 v84 v86 X3 X4 X5 X6 X7 k (Fin.ofNat 8 u) (iS s u)

/-- The outputs before step `u` of a trip that starts from `s` and `y`. -/
def iY (s y : FVec F S512x256 .f32) : ℕ → FVec F S512x256 .f32
  | 0 => y
  | u + 1 => tripY arg2 v74 v75 X2 k (Fin.ofNat 8 u) (iS arg3 arg4 arg5 arg6 arg7 v73 v74 v75 v78 v80 v82 v84 v86 X3 X4 X5 X6 X7 k s (u + 1)) (iY s y u)

/-- The state read back after the first 1 steps of a trip. -/
theorem cov11_1 : arg11.view.readCov (trip_k0_t1.sl.HW_arg11_1 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 1 :=
  cov_cons arg11 _ []

/-- The state read back after the first 2 steps of a trip. -/
theorem cov11_2 : arg11.view.readCov (trip_k0_t1.sl.HW_arg11_2 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 2 :=
  (cov_cons arg11 (tripS arg3 arg4 arg5 arg6 arg7 v73 v74 v75 v78 v80 v82 v84 v86 X3 X4 X5 X6 X7 k (Fin.ofNat 8 1) (arg11.view.readCov (trip_k0_t1.sl.HW_arg11_1 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 1)) (cov11_1 arg3 arg4 arg5 arg6 arg7 arg11 v73 v74 v75 v78 v80 v82 v84 v86 X3 X4 X5 X6 X7 k f11))

/-- The state read back after the first 3 steps of a trip. -/
theorem cov11_3 : arg11.view.readCov (trip_k0_t1.sl.HW_arg11_3 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 3 :=
  (cov_cons arg11 (tripS arg3 arg4 arg5 arg6 arg7 v73 v74 v75 v78 v80 v82 v84 v86 X3 X4 X5 X6 X7 k (Fin.ofNat 8 2) (arg11.view.readCov (trip_k0_t1.sl.HW_arg11_2 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 2)) (cov11_2 arg3 arg4 arg5 arg6 arg7 arg11 v73 v74 v75 v78 v80 v82 v84 v86 X3 X4 X5 X6 X7 k f11))

/-- The state read back after the first 4 steps of a trip. -/
theorem cov11_4 : arg11.view.readCov (trip_k0_t1.sl.HW_arg11_4 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 4 :=
  (cov_cons arg11 (tripS arg3 arg4 arg5 arg6 arg7 v73 v74 v75 v78 v80 v82 v84 v86 X3 X4 X5 X6 X7 k (Fin.ofNat 8 3) (arg11.view.readCov (trip_k0_t1.sl.HW_arg11_3 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 3)) (cov11_3 arg3 arg4 arg5 arg6 arg7 arg11 v73 v74 v75 v78 v80 v82 v84 v86 X3 X4 X5 X6 X7 k f11))

/-- The state read back after the first 5 steps of a trip. -/
theorem cov11_5 : arg11.view.readCov (trip_k0_t1.sl.HW_arg11_5 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 5 :=
  (cov_cons arg11 (tripS arg3 arg4 arg5 arg6 arg7 v73 v74 v75 v78 v80 v82 v84 v86 X3 X4 X5 X6 X7 k (Fin.ofNat 8 4) (arg11.view.readCov (trip_k0_t1.sl.HW_arg11_4 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 4)) (cov11_4 arg3 arg4 arg5 arg6 arg7 arg11 v73 v74 v75 v78 v80 v82 v84 v86 X3 X4 X5 X6 X7 k f11))

/-- The state read back after the first 6 steps of a trip. -/
theorem cov11_6 : arg11.view.readCov (trip_k0_t1.sl.HW_arg11_6 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 6 :=
  (cov_cons arg11 (tripS arg3 arg4 arg5 arg6 arg7 v73 v74 v75 v78 v80 v82 v84 v86 X3 X4 X5 X6 X7 k (Fin.ofNat 8 5) (arg11.view.readCov (trip_k0_t1.sl.HW_arg11_5 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 5)) (cov11_5 arg3 arg4 arg5 arg6 arg7 arg11 v73 v74 v75 v78 v80 v82 v84 v86 X3 X4 X5 X6 X7 k f11))

/-- The state read back after the first 7 steps of a trip. -/
theorem cov11_7 : arg11.view.readCov (trip_k0_t1.sl.HW_arg11_7 arg3 arg4 arg5 arg6 arg7 arg11 v73 v74 v75 v78 v80 v82 v84 v86 X3 X4 X5 X6 X7 k f11) whole.toLoadRect
    = iS arg3 arg4 arg5 arg6 arg7 v73 v74 v75 v78 v80 v82 v84 v86 X3 X4 X5 X6 X7 k (arg11.view.readAt (Elt F) whole.toLoadRect f11) 7 :=
  (cov_cons arg11 (tripS arg3 arg4 arg5 arg6 arg7 v73 v74 v75 v78 v80 v82 v84 v86 X3 X4 X5 X6 X7 k (Fin.ofNat 8 6) (arg11.view.readCov (trip_k0_t1.sl.HW_arg11_6 arg3 arg4 arg5 arg6 arg7 arg11 v73 v74 v75 v78 v80 v82 v84 v86 X3 X4 X5 X6 X7 k f11) whole.toLoadRect)) _).trans (congrArg (tripS arg3 arg4 arg5 arg6 arg7 v73 v74 v75 v78 v80 v82 v84 v86 X3 X4 X5 X6 X7 k (Fin.ofNat 8 6)) (cov11_6 arg3 arg4 arg5 arg6 arg7 arg11 v73 v74 v75 v78 v80 v82 v84 v86 X3 X4 X5 X6 X7 k f11))

/-- The outputs read back after the first 1 steps of a trip. -/
theorem cov12_1 : arg12.view.readCov (trip_k0_t1.sl.HW_arg12_1 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 1 :=
  cov_cons arg12 _ []

/-- The outputs read back after the first 2 steps of a trip. -/
theorem cov12_2 : arg12.view.readCov (trip_k0_t1.sl.HW_arg12_2 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 2 :=
  (cov_cons arg12 (tripY arg2 v74 v75 X2 k (Fin.ofNat 8 1) (tripS arg3 arg4 arg5 arg6 arg7 v73 v74 v75 v78 v80 v82 v84 v86 X3 X4 X5 X6 X7 k (Fin.ofNat 8 1) (arg11.view.readCov (trip_k0_t1.sl.HW_arg11_1 arg3 arg4 arg5 arg6 arg7 arg11 v73 v74 v75 v78 v80 v82 v84 v86 X3 X4 X5 X6 X7 k f11) whole.toLoadRect)) (arg12.view.readCov (trip_k0_t1.sl.HW_arg12_1 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 1)) (congrArg (tripS arg3 arg4 arg5 arg6 arg7 v73 v74 v75 v78 v80 v82 v84 v86 X3 X4 X5 X6 X7 k (Fin.ofNat 8 1)) (cov11_1 arg3 arg4 arg5 arg6 arg7 arg11 v73 v74 v75 v78 v80 v82 v84 v86 X3 X4 X5 X6 X7 k f11)) (cov12_1 arg2 arg3 arg4 arg5 arg6 arg7 arg11 arg12 v73 v74 v75 v78 v80 v82 v84 v86 X2 X3 X4 X5 X6 X7 k f11 f12))

/-- The outputs read back after the first 3 steps of a trip. -/
theorem cov12_3 : arg12.view.readCov (trip_k0_t1.sl.HW_arg12_3 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 3 :=
  (cov_cons arg12 (tripY arg2 v74 v75 X2 k (Fin.ofNat 8 2) (tripS arg3 arg4 arg5 arg6 arg7 v73 v74 v75 v78 v80 v82 v84 v86 X3 X4 X5 X6 X7 k (Fin.ofNat 8 2) (arg11.view.readCov (trip_k0_t1.sl.HW_arg11_2 arg3 arg4 arg5 arg6 arg7 arg11 v73 v74 v75 v78 v80 v82 v84 v86 X3 X4 X5 X6 X7 k f11) whole.toLoadRect)) (arg12.view.readCov (trip_k0_t1.sl.HW_arg12_2 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 2)) (congrArg (tripS arg3 arg4 arg5 arg6 arg7 v73 v74 v75 v78 v80 v82 v84 v86 X3 X4 X5 X6 X7 k (Fin.ofNat 8 2)) (cov11_2 arg3 arg4 arg5 arg6 arg7 arg11 v73 v74 v75 v78 v80 v82 v84 v86 X3 X4 X5 X6 X7 k f11)) (cov12_2 arg2 arg3 arg4 arg5 arg6 arg7 arg11 arg12 v73 v74 v75 v78 v80 v82 v84 v86 X2 X3 X4 X5 X6 X7 k f11 f12))

/-- The outputs read back after the first 4 steps of a trip. -/
theorem cov12_4 : arg12.view.readCov (trip_k0_t1.sl.HW_arg12_4 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 4 :=
  (cov_cons arg12 (tripY arg2 v74 v75 X2 k (Fin.ofNat 8 3) (tripS arg3 arg4 arg5 arg6 arg7 v73 v74 v75 v78 v80 v82 v84 v86 X3 X4 X5 X6 X7 k (Fin.ofNat 8 3) (arg11.view.readCov (trip_k0_t1.sl.HW_arg11_3 arg3 arg4 arg5 arg6 arg7 arg11 v73 v74 v75 v78 v80 v82 v84 v86 X3 X4 X5 X6 X7 k f11) whole.toLoadRect)) (arg12.view.readCov (trip_k0_t1.sl.HW_arg12_3 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 3)) (congrArg (tripS arg3 arg4 arg5 arg6 arg7 v73 v74 v75 v78 v80 v82 v84 v86 X3 X4 X5 X6 X7 k (Fin.ofNat 8 3)) (cov11_3 arg3 arg4 arg5 arg6 arg7 arg11 v73 v74 v75 v78 v80 v82 v84 v86 X3 X4 X5 X6 X7 k f11)) (cov12_3 arg2 arg3 arg4 arg5 arg6 arg7 arg11 arg12 v73 v74 v75 v78 v80 v82 v84 v86 X2 X3 X4 X5 X6 X7 k f11 f12))

/-- The outputs read back after the first 5 steps of a trip. -/
theorem cov12_5 : arg12.view.readCov (trip_k0_t1.sl.HW_arg12_5 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 5 :=
  (cov_cons arg12 (tripY arg2 v74 v75 X2 k (Fin.ofNat 8 4) (tripS arg3 arg4 arg5 arg6 arg7 v73 v74 v75 v78 v80 v82 v84 v86 X3 X4 X5 X6 X7 k (Fin.ofNat 8 4) (arg11.view.readCov (trip_k0_t1.sl.HW_arg11_4 arg3 arg4 arg5 arg6 arg7 arg11 v73 v74 v75 v78 v80 v82 v84 v86 X3 X4 X5 X6 X7 k f11) whole.toLoadRect)) (arg12.view.readCov (trip_k0_t1.sl.HW_arg12_4 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 4)) (congrArg (tripS arg3 arg4 arg5 arg6 arg7 v73 v74 v75 v78 v80 v82 v84 v86 X3 X4 X5 X6 X7 k (Fin.ofNat 8 4)) (cov11_4 arg3 arg4 arg5 arg6 arg7 arg11 v73 v74 v75 v78 v80 v82 v84 v86 X3 X4 X5 X6 X7 k f11)) (cov12_4 arg2 arg3 arg4 arg5 arg6 arg7 arg11 arg12 v73 v74 v75 v78 v80 v82 v84 v86 X2 X3 X4 X5 X6 X7 k f11 f12))

/-- The outputs read back after the first 6 steps of a trip. -/
theorem cov12_6 : arg12.view.readCov (trip_k0_t1.sl.HW_arg12_6 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 6 :=
  (cov_cons arg12 (tripY arg2 v74 v75 X2 k (Fin.ofNat 8 5) (tripS arg3 arg4 arg5 arg6 arg7 v73 v74 v75 v78 v80 v82 v84 v86 X3 X4 X5 X6 X7 k (Fin.ofNat 8 5) (arg11.view.readCov (trip_k0_t1.sl.HW_arg11_5 arg3 arg4 arg5 arg6 arg7 arg11 v73 v74 v75 v78 v80 v82 v84 v86 X3 X4 X5 X6 X7 k f11) whole.toLoadRect)) (arg12.view.readCov (trip_k0_t1.sl.HW_arg12_5 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 5)) (congrArg (tripS arg3 arg4 arg5 arg6 arg7 v73 v74 v75 v78 v80 v82 v84 v86 X3 X4 X5 X6 X7 k (Fin.ofNat 8 5)) (cov11_5 arg3 arg4 arg5 arg6 arg7 arg11 v73 v74 v75 v78 v80 v82 v84 v86 X3 X4 X5 X6 X7 k f11)) (cov12_5 arg2 arg3 arg4 arg5 arg6 arg7 arg11 arg12 v73 v74 v75 v78 v80 v82 v84 v86 X2 X3 X4 X5 X6 X7 k f11 f12))

/-- The outputs read back after the first 7 steps of a trip. -/
theorem cov12_7 : arg12.view.readCov (trip_k0_t1.sl.HW_arg12_7 arg2 arg3 arg4 arg5 arg6 arg7 arg11 arg12 v73 v74 v75 v78 v80 v82 v84 v86 X2 X3 X4 X5 X6 X7 k f11 f12) whole.toLoadRect
    = iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 7 :=
  (cov_cons arg12 (tripY arg2 v74 v75 X2 k (Fin.ofNat 8 6) (tripS arg3 arg4 arg5 arg6 arg7 v73 v74 v75 v78 v80 v82 v84 v86 X3 X4 X5 X6 X7 k (Fin.ofNat 8 6) (arg11.view.readCov (trip_k0_t1.sl.HW_arg11_6 arg3 arg4 arg5 arg6 arg7 arg11 v73 v74 v75 v78 v80 v82 v84 v86 X3 X4 X5 X6 X7 k f11) whole.toLoadRect)) (arg12.view.readCov (trip_k0_t1.sl.HW_arg12_6 arg2 arg3 arg4 arg5 arg6 arg7 arg11 arg12 v73 v74 v75 v78 v80 v82 v84 v86 X2 X3 X4 X5 X6 X7 k f11 f12) whole.toLoadRect)) _).trans
    (congrArg₂ (tripY arg2 v74 v75 X2 k (Fin.ofNat 8 6)) (congrArg (tripS arg3 arg4 arg5 arg6 arg7 v73 v74 v75 v78 v80 v82 v84 v86 X3 X4 X5 X6 X7 k (Fin.ofNat 8 6)) (cov11_6 arg3 arg4 arg5 arg6 arg7 arg11 v73 v74 v75 v78 v80 v82 v84 v86 X3 X4 X5 X6 X7 k f11)) (cov12_6 arg2 arg3 arg4 arg5 arg6 arg7 arg11 arg12 v73 v74 v75 v78 v80 v82 v84 v86 X2 X3 X4 X5 X6 X7 k f11 f12))

/-- A trip leaves the state after eight steps. -/
theorem trip_11 (𝒱 : Variants) (c : Dev nD) (bd : Option 𝒱.V) (i : grid0.Coords) (harg2 : arg2.IsWhole) (harg3 : arg3.IsWhole)
    (harg4 : arg4.IsWhole) (harg5 : arg5.IsWhole) (harg6 : arg6.IsWhole) (harg7 : arg7.IsWhole)
    (arg8 : Memref sig .tc .vmem S8x64x256 .f32) (harg8 : arg8.IsWhole)
    (arg9 : Memref sig .tc .vmem S8x1x64x256 .f32) (harg9 : arg9.IsWhole)
    (arg10 : Memref sig .tc .vmem S8x64x256 .f32) (harg10 : arg10.IsWhole) (harg11 : arg11.IsWhole)
    (harg12 : arg12.IsWhole) (arg1 : BitVec 32) :
    ∃ L, (trip_k0_t1 (F := F) 𝒱 c bd i arg2 harg2 arg3 harg3 arg4 harg4 arg5 harg5 arg6 harg6 arg7 harg7 arg8 harg8 arg9 harg9 arg10 harg10 arg11 harg11 arg12 harg12 arg1 v73 v74 v75 v78 v80 v82 v84 v86 X2 X3 X4 X5 X6 X7 k).1 f11 f12
      = ⟨whole, iS arg3 arg4 arg5 arg6 arg7 v73 v74 v75 v78 v80 v82 v84 v86 X3 X4 X5 X6 X7 k (arg11.view.readAt (Elt F) whole.toLoadRect f11) 8⟩ :: L := by
  refine ⟨trip_k0_t1.sl.HW_arg11_7 arg3 arg4 arg5 arg6 arg7 arg11 v73 v74 v75 v78 v80 v82 v84 v86 X3 X4 X5 X6 X7 k f11, ?_⟩
  have e : (trip_k0_t1 (F := F) 𝒱 c bd i arg2 harg2 arg3 harg3 arg4 harg4 arg5 harg5 arg6 harg6 arg7 harg7 arg8 harg8 arg9 harg9 arg10 harg10 arg11 harg11 arg12 harg12 arg1 v73 v74 v75 v78 v80 v82 v84 v86 X2 X3 X4 X5 X6 X7 k).1 f11 f12
      = ⟨whole, shapeCast S512x256 (tripS arg3 arg4 arg5 arg6 arg7 v73 v74 v75 v78 v80 v82 v84 v86 X3 X4 X5 X6 X7 k (Fin.ofNat 8 7) (arg11.view.readCov (trip_k0_t1.sl.HW_arg11_7 arg3 arg4 arg5 arg6 arg7 arg11 v73 v74 v75 v78 v80 v82 v84 v86 X3 X4 X5 X6 X7 k f11) whole.toLoadRect))
          shapeCasts_S512x256_S512x256⟩ :: trip_k0_t1.sl.HW_arg11_7 arg3 arg4 arg5 arg6 arg7 arg11 v73 v74 v75 v78 v80 v82 v84 v86 X3 X4 X5 X6 X7 k f11 := by
    unfold trip_k0_t1
    rfl
  rw [e, shapeCast_self, cov11_7]
  rfl

/-- A trip leaves the outputs of its eight steps. -/
theorem trip_12 (𝒱 : Variants) (c : Dev nD) (bd : Option 𝒱.V) (i : grid0.Coords) (harg2 : arg2.IsWhole) (harg3 : arg3.IsWhole)
    (harg4 : arg4.IsWhole) (harg5 : arg5.IsWhole) (harg6 : arg6.IsWhole) (harg7 : arg7.IsWhole)
    (arg8 : Memref sig .tc .vmem S8x64x256 .f32) (harg8 : arg8.IsWhole)
    (arg9 : Memref sig .tc .vmem S8x1x64x256 .f32) (harg9 : arg9.IsWhole)
    (arg10 : Memref sig .tc .vmem S8x64x256 .f32) (harg10 : arg10.IsWhole) (harg11 : arg11.IsWhole)
    (harg12 : arg12.IsWhole) (arg1 : BitVec 32) :
    ∃ L, (trip_k0_t1 (F := F) 𝒱 c bd i arg2 harg2 arg3 harg3 arg4 harg4 arg5 harg5 arg6 harg6 arg7 harg7 arg8 harg8 arg9 harg9 arg10 harg10 arg11 harg11 arg12 harg12 arg1 v73 v74 v75 v78 v80 v82 v84 v86 X2 X3 X4 X5 X6 X7 k).2.1 f11 f12
      = ⟨whole, iY arg2 arg3 arg4 arg5 arg6 arg7 v73 v74 v75 v78 v80 v82 v84 v86 X2 X3 X4 X5 X6 X7 k (arg11.view.readAt (Elt F) whole.toLoadRect f11) (arg12.view.readAt (Elt F) whole.toLoadRect f12) 8⟩ :: L := by
  refine ⟨trip_k0_t1.sl.HW_arg12_7 arg2 arg3 arg4 arg5 arg6 arg7 arg11 arg12 v73 v74 v75 v78 v80 v82 v84 v86 X2 X3 X4 X5 X6 X7 k f11 f12, ?_⟩
  have e : (trip_k0_t1 (F := F) 𝒱 c bd i arg2 harg2 arg3 harg3 arg4 harg4 arg5 harg5 arg6 harg6 arg7 harg7 arg8 harg8 arg9 harg9 arg10 harg10 arg11 harg11 arg12 harg12 arg1 v73 v74 v75 v78 v80 v82 v84 v86 X2 X3 X4 X5 X6 X7 k).2.1 f11 f12
      = ⟨whole, shapeCast S512x256 (tripY arg2 v74 v75 X2 k (Fin.ofNat 8 7) (tripS arg3 arg4 arg5 arg6 arg7 v73 v74 v75 v78 v80 v82 v84 v86 X3 X4 X5 X6 X7 k (Fin.ofNat 8 7) (arg11.view.readCov (trip_k0_t1.sl.HW_arg11_7 arg3 arg4 arg5 arg6 arg7 arg11 v73 v74 v75 v78 v80 v82 v84 v86 X3 X4 X5 X6 X7 k f11) whole.toLoadRect)) (arg12.view.readCov (trip_k0_t1.sl.HW_arg12_7 arg2 arg3 arg4 arg5 arg6 arg7 arg11 arg12 v73 v74 v75 v78 v80 v82 v84 v86 X2 X3 X4 X5 X6 X7 k f11 f12) whole.toLoadRect))
          shapeCasts_S512x256_S512x256⟩ :: trip_k0_t1.sl.HW_arg12_7 arg2 arg3 arg4 arg5 arg6 arg7 arg11 arg12 v73 v74 v75 v78 v80 v82 v84 v86 X2 X3 X4 X5 X6 X7 k f11 f12 := by
    unfold trip_k0_t1
    rfl
  rw [e, shapeCast_self, cov11_7, cov12_7]
  rfl

end Cert.KernelIdeal.Scan

end
-- ==== Proof.Loop.lean ====
/- The loop over the 64 steps of one grid point: the steps written on the blocks themselves, and the generated
   pieces of the trips as these steps in a row. -/
module

public import proofs.«01_k».proof.Proof.Step
public import Idealize.ShloMosaic.Lib.Pointwise

@[expose] public section

set_option maxRecDepth 65536

noncomputable section

namespace Cert.KernelIdeal.Scan

open Cert.KernelIdeal Cert.KernelIdeal.Gen Idealize.ShloMosaic Idealize.ShloMosaic.TcCoe Idealize.SL.Sem

variable {F : FTy → Type} [FloatOps F]

/-- The lanes' numbers. -/
abbrev lanes : IVec S512x256 32 := iota Kind.tc S512x256 32 [1] iota_S512x256_d1_w32

/-- The zero-one matrix of the lanes of one head, twice. -/
abbrev ones2 : FVec F S512x256 .bf16 := k0_pay264 lanes k0_pay262 k0_pay263 1#32

/-- The zero-one matrix of the lanes of one head. -/
abbrev ones1 : FVec F S256x256 .bf16 := k0_pay265 lanes k0_pay262 k0_pay263 1#32

/-- The zero-one mask of a lane whose number in its head is the row's number in its sequence. -/
abbrev diag : FVec F S512x256 .f32 := k0_pay270 lanes 64#32 k0_pay266 k0_pay267 k0_pay268 k0_pay269

/-- The rows of a block at time `t`, one per sequence. -/
def rowsOf (x : FVec F S8x64x256 .f32) (t : ℕ) : Fin 8 → Vec F S1x1x256 .f32 :=
  fun b j => x (ix3 b (Fin.ofNat 64 t) (j 2))

variable (x0 x1 x2 x3 x4 x5 : FVec F S8x64x256 .f32)

/-- The state after the step at time `t`. -/
def stS (t : ℕ) (s : FVec F S512x256 .f32) : FVec F S512x256 .f32 :=
  stepS ones2 ones1 diag (bc8 (rowsOf x4 t)) (bc8 (rowsOf x3 t)) (bc8 (rowsOf x1 t)) (bc8 (rowsOf x5 t))
    (bc8 (rowsOf x2 t)) s

/-- The outputs after the step at time `t`, from the new state. -/
def stY (t : ℕ) (s y : FVec F S512x256 .f32) : FVec F S512x256 .f32 :=
  stepY ones1 lanes (BitVec.ofNat 32 t) (bc8 (rowsOf x0 t)) s y

/-- The state before the step at time `t`, from `s` before the first. -/
def pS (s : FVec F S512x256 .f32) : ℕ → FVec F S512x256 .f32
  | 0 => s
  | t + 1 => stS x1 x2 x3 x4 x5 t (pS s t)

/-- The outputs before the step at time `t`, from the state `s` and the outputs `y` before the first. -/
def pY (s y : FVec F S512x256 .f32) : ℕ → FVec F S512x256 .f32
  | 0 => y
  | t + 1 => stY x0 t (pS x1 x2 x3 x4 x5 s (t + 1)) (pY s y t)

theorem trips_eq : k0_t1_loop.trips = 8 := by decide

variable {M : Memref sig .tc .vmem S8x64x256 .f32}

/-- A row read of a whole block at literal offsets. -/
theorem row_eq (h : M.IsWhole) (x : FVec F S8x64x256 .f32) (off : Fin 3 → ℕ) (b : Fin 8) (t : ℕ) (ht : t < 64)
    (ho : off = ![b.val, t, 0]) (inb : ∀ a, off a + S1x1x256.size a ≤ S8x64x256.size a) :
    M.view.readAt (Elt F) (Rect.unit (s := S8x64x256) off S1x1x256.size inb).toLoadRect (h.unread x)
      = rowsOf x t b := by
  subst ho
  rw [View.readAt_eq_ld, h.read_unread]
  funext j
  unfold rowsOf
  refine congrArg x (funext fun a => Fin.ext ?_)
  have h0 : (j 0).val < 1 := (j 0).isLt
  have h1 : (j 1).val < 1 := (j 1).isLt
  rw [Rect.idx_unit_val]
  fin_cases a
  · show b.val + (j 0).val = b.val; omega
  · show t + (j 1).val = t % 64; omega
  · show 0 + (j 2).val = (j 2).val; omega

/-- The rows a step reads are the block's rows at its time. -/
theorem rows_eq (h : M.IsWhole) (x : FVec F S8x64x256 .f32) (k : Fin k0_t1_loop.trips) (u : Fin 8) :
    rows M (h.unread x) k u = rowsOf x (8 * k.val + u.val) := by
  have hk : k.val < 8 := lt_of_lt_of_eq k.isLt trips_eq
  have hu : u.val < 8 := u.isLt
  have ht : 8 * k.val + u.val < 64 := by omega
  funext b
  fin_cases b
  · exact row_eq h x _ 0 _ ht (k0_off1_eq k u) _
  · exact row_eq h x _ 1 _ ht (k0_off2_eq k u) _
  · exact row_eq h x _ 2 _ ht (k0_off3_eq k u) _
  · exact row_eq h x _ 3 _ ht (k0_off4_eq k u) _
  · exact row_eq h x _ 4 _ ht (k0_off5_eq k u) _
  · exact row_eq h x _ 5 _ ht (k0_off6_eq k u) _
  · exact row_eq h x _ 6 _ ht (k0_off7_eq k u) _
  · exact row_eq h x _ 7 _ ht (k0_off8_eq k u) _

/-- A step's number as the kernel computes it. -/
theorem tOf_eq : ∀ (k : Fin k0_t1_loop.trips) (u : Fin 8), tOf k u = BitVec.ofNat 32 (8 * k.val + u.val) := by
  decide +kernel

variable {arg2 arg3 arg4 arg5 arg6 arg7 : Memref sig .tc .vmem S8x64x256 .f32}
  (h2 : arg2.IsWhole) (h3 : arg3.IsWhole) (h4 : arg4.IsWhole) (h5 : arg5.IsWhole) (h6 : arg6.IsWhole)
  (h7 : arg7.IsWhole)

/-- A trip's state after `u` steps is the state at time `8 k + u`. -/
theorem iS_eq (s : FVec F S512x256 .f32) (k : Fin k0_t1_loop.trips) (u : ℕ) (hu : u ≤ 8) :
    iS arg3 arg4 arg5 arg6 arg7 ones2 ones1 lanes 64#32 k0_pay266 k0_pay267 k0_pay268 k0_pay269 (h3.unread x1)
      (h4.unread x2) (h5.unread x3) (h6.unread x4) (h7.unread x5) k (pS x1 x2 x3 x4 x5 s (8 * k.val)) u
      = pS x1 x2 x3 x4 x5 s (8 * k.val + u) := by
  induction u with
  | zero => rfl
  | succ u ih =>
    have e : (Fin.ofNat 8 u).val = u := Nat.mod_eq_of_lt (by omega)
    show tripS _ _ _ _ _ _ _ _ _ _ _ _ _ _ _ _ _ _ _ (Fin.ofNat 8 u) (iS _ _ _ _ _ _ _ _ _ _ _ _ _ _ _ _ _ _ _ _ u) = _
    rw [ih (by omega)]
    unfold tripS
    rw [rows_eq, rows_eq, rows_eq, rows_eq, rows_eq, e]
    rfl

/-- A trip's outputs after `u` steps are the outputs at time `8 k + u`. -/
theorem iY_eq (s y : FVec F S512x256 .f32) (k : Fin k0_t1_loop.trips) (u : ℕ) (hu : u ≤ 8) :
    iY arg2 arg3 arg4 arg5 arg6 arg7 ones2 ones1 lanes 64#32 k0_pay266 k0_pay267 k0_pay268 k0_pay269 (h2.unread x0)
      (h3.unread x1) (h4.unread x2) (h5.unread x3) (h6.unread x4) (h7.unread x5) k
      (pS x1 x2 x3 x4 x5 s (8 * k.val)) (pY x0 x1 x2 x3 x4 x5 s y (8 * k.val)) u
      = pY x0 x1 x2 x3 x4 x5 s y (8 * k.val + u) := by
  induction u with
  | zero => rfl
  | succ u ih =>
    have e : (Fin.ofNat 8 u).val = u := Nat.mod_eq_of_lt (by omega)
    show tripY _ _ _ _ _ (Fin.ofNat 8 u) (iS _ _ _ _ _ _ _ _ _ _ _ _ _ _ _ _ _ _ _ _ (u + 1)) (iY _ _ _ _ _ _ _ _ _ _ _ _ _ _ _ _ _ _ _ _ _ _ _ u) = _
    rw [ih (by omega), iS_eq x1 x2 x3 x4 x5 h3 h4 h5 h6 h7 s k (u + 1) (by omega)]
    unfold tripY
    rw [rows_eq, tOf_eq, e]
    rfl

/-- What is read of a whole buffer whose last store wrote all of it. -/
theorem read_cons (v : Memref sig .tc .vmem S512x256 .f32) (f : BufTy.Contents (Elt F) v.view.ty)
    (x : FVec F S512x256 .f32) (L : List (View.Piece (Elt F) S512x256 .f32)) :
    v.view.readAt (Elt F) whole.toLoadRect (v.view.writes (Elt F) f ((⟨whole, x⟩ : View.Piece (Elt F) S512x256 .f32) :: L))
      = x := by
  have hz : (![0, 0] : Fin S512x256.rank → Nat) = fun _ => 0 := funext fun a => by fin_cases a <;> rfl
  rw [View.readAt_eq_ld, View.read_writes_eq_canon, View.canon_cons_unit_zero hz]
  · exact View.ld_unit_zero (Val := Elt F) (e := .f32) (S := S512x256) hz inb_S512x256_S512x256_0_0 x
  · intro y
    exact ⟨_, List.mem_cons_self, View.mem_set_unit_zero hz inb_S512x256_S512x256_0_0 y⟩

section Loop

variable (𝒱 : Variants) (c : Dev nD) (bd : Option 𝒱.V) (i : grid0.Coords)
  {arg8 : Memref sig .tc .vmem S8x64x256 .f32} (h8 : arg8.IsWhole)
  {arg9 : Memref sig .tc .vmem S8x1x64x256 .f32} (h9 : arg9.IsWhole)
  {arg10 : Memref sig .tc .vmem S8x64x256 .f32} (h10 : arg10.IsWhole)
  {arg11 : Memref sig .tc .vmem S512x256 .f32} (h11 : arg11.IsWhole)
  {arg12 : Memref sig .tc .vmem S512x256 .f32} (h12 : arg12.IsWhole) (arg1 : BitVec 32)
  (G11 : BufTy.Contents (Elt F) arg11.view.ty) (G12 : BufTy.Contents (Elt F) arg12.view.ty)

/-- The pieces of the trips before `k`. -/
abbrev pieces (k : ℕ) :=
  pb_k0_t1 (F := F) 𝒱 c bd i arg2 h2 arg3 h3 arg4 h4 arg5 h5 arg6 h6 arg7 h7 arg8 h8 arg9 h9 arg10 h10 arg11 h11 arg12 h12
    arg1 ones2 ones1 lanes 64#32 k0_pay266 k0_pay267 k0_pay268 k0_pay269 (h2.unread x0) (h3.unread x1) (h4.unread x2)
    (h5.unread x3) (h6.unread x4) (h7.unread x5) G11 G12 k

/-- After `k + 1` trips the last stores left the state and the outputs at time `8 (k + 1)`. -/
theorem loop_eq (s y : FVec F S512x256 .f32) (hs : arg11.view.readAt (Elt F) whole.toLoadRect G11 = s)
    (hy : arg12.view.readAt (Elt F) whole.toLoadRect G12 = y) (k : ℕ) (hk : k < 8) :
    (∃ L, (pieces x0 x1 x2 x3 x4 x5 h2 h3 h4 h5 h6 h7 𝒱 c bd i h8 h9 h10 h11 h12 arg1 G11 G12 (k + 1)).1
      = ⟨whole, pS x1 x2 x3 x4 x5 s (8 * (k + 1))⟩ :: L)
    ∧ ∃ L, (pieces x0 x1 x2 x3 x4 x5 h2 h3 h4 h5 h6 h7 𝒱 c bd i h8 h9 h10 h11 h12 arg1 G11 G12 (k + 1)).2
      = ⟨whole, pY x0 x1 x2 x3 x4 x5 s y (8 * (k + 1))⟩ :: L := by
  have step : ∀ k : Fin k0_t1_loop.trips,
      arg11.view.readAt (Elt F) whole.toLoadRect (arg11.view.writes (Elt F) G11
        (pieces x0 x1 x2 x3 x4 x5 h2 h3 h4 h5 h6 h7 𝒱 c bd i h8 h9 h10 h11 h12 arg1 G11 G12 k.val).1)
        = pS x1 x2 x3 x4 x5 s (8 * k.val) →
      arg12.view.readAt (Elt F) whole.toLoadRect (arg12.view.writes (Elt F) G12
        (pieces x0 x1 x2 x3 x4 x5 h2 h3 h4 h5 h6 h7 𝒱 c bd i h8 h9 h10 h11 h12 arg1 G11 G12 k.val).2)
        = pY x0 x1 x2 x3 x4 x5 s y (8 * k.val) →
      (∃ L, (pieces x0 x1 x2 x3 x4 x5 h2 h3 h4 h5 h6 h7 𝒱 c bd i h8 h9 h10 h11 h12 arg1 G11 G12 (k.val + 1)).1
        = ⟨whole, pS x1 x2 x3 x4 x5 s (8 * (k.val + 1))⟩ :: L)
      ∧ ∃ L, (pieces x0 x1 x2 x3 x4 x5 h2 h3 h4 h5 h6 h7 𝒱 c bd i h8 h9 h10 h11 h12 arg1 G11 G12 (k.val + 1)).2
        = ⟨whole, pY x0 x1 x2 x3 x4 x5 s y (8 * (k.val + 1))⟩ :: L := by
    intro k e1 e2
    unfold pieces at e1 e2 ⊢
    rw [pb_k0_t1_succ]
    dsimp only [tripL_k0_t1]
    obtain ⟨L1, q1⟩ := trip_11 (F := F) arg2 arg3 arg4 arg5 arg6 arg7 arg11 arg12 ones2 ones1 lanes 64#32 k0_pay266 k0_pay267
      k0_pay268 k0_pay269 (h2.unread x0) (h3.unread x1) (h4.unread x2) (h5.unread x3) (h6.unread x4) (h7.unread x5) k
      _ _ 𝒱 c bd i h2 h3 h4 h5 h6 h7 arg8 h8 arg9 h9 arg10 h10 h11 h12 arg1
    obtain ⟨L2, q2⟩ := trip_12 (F := F) arg2 arg3 arg4 arg5 arg6 arg7 arg11 arg12 ones2 ones1 lanes 64#32 k0_pay266 k0_pay267
      k0_pay268 k0_pay269 (h2.unread x0) (h3.unread x1) (h4.unread x2) (h5.unread x3) (h6.unread x4) (h7.unread x5) k
      _ _ 𝒱 c bd i h2 h3 h4 h5 h6 h7 arg8 h8 arg9 h9 arg10 h10 h11 h12 arg1
    rw [q1, q2, e1, e2, iS_eq x1 x2 x3 x4 x5 h3 h4 h5 h6 h7 s k 8 le_rfl,
      iY_eq x0 x1 x2 x3 x4 x5 h2 h3 h4 h5 h6 h7 s y k 8 le_rfl]
    exact ⟨⟨_, rfl⟩, ⟨_, rfl⟩⟩
  induction k with
  | zero => exact step ⟨0, by rw [trips_eq]; omega⟩ hs hy
  | succ k ih =>
    obtain ⟨⟨L1, q1⟩, ⟨L2, q2⟩⟩ := ih (by omega)
    refine step ⟨k + 1, by rw [trips_eq]; omega⟩ ?_ ?_
    · show arg11.view.readAt (Elt F) whole.toLoadRect (arg11.view.writes (Elt F) G11
        (pieces x0 x1 x2 x3 x4 x5 h2 h3 h4 h5 h6 h7 𝒱 c bd i h8 h9 h10 h11 h12 arg1 G11 G12 (k + 1)).1) = _
      rw [q1, read_cons]
    · show arg12.view.readAt (Elt F) whole.toLoadRect (arg12.view.writes (Elt F) G12
        (pieces x0 x1 x2 x3 x4 x5 h2 h3 h4 h5 h6 h7 𝒱 c bd i h8 h9 h10 h11 h12 arg1 G11 G12 (k + 1)).2) = _
      rw [q2, read_cons]

end Loop

end Cert.KernelIdeal.Scan

end
-- ==== Proof.Blocks.lean ====
/- What one grid point leaves in its output blocks and in the carried state: the loop's result. -/
module

public import proofs.«01_k».proof.Proof.Loop
public import proofs.«01_k».proof.Proof.Gen.KernelIdeal.Value

@[expose] public section

set_option maxRecDepth 65536

noncomputable section

namespace Cert.KernelIdeal.Scan

open Cert.KernelIdeal Cert.KernelIdeal.Gen Idealize.ShloMosaic Idealize.ShloMosaic.TcCoe Idealize.SL.Sem

variable {F : FTy → Type} [FloatOps F]

theorem hz2 : (![0, 0] : Fin S512x256.rank → Nat) = fun _ => 0 := funext fun a => by fin_cases a <;> rfl
theorem hz3 : (![0, 0, 0] : Fin S8x64x256.rank → Nat) = fun _ => 0 := funext fun a => by fin_cases a <;> rfl
theorem hz4 : (![0, 0, 0, 0] : Fin S8x1x64x256.rank → Nat) = fun _ => 0 := funext fun a => by fin_cases a <;> rfl

/-- A covered read of a whole buffer whose last store wrote all of it. -/
theorem cov_head (v : Memref sig .tc .vmem S512x256 .f32) (x : FVec F S512x256 .f32)
    (L : List (View.Piece (Elt F) S512x256 .f32)) :
    v.view.readCov ((⟨whole, x⟩ : View.Piece (Elt F) S512x256 .f32) :: L) whole.toLoadRect = x := by
  rw [View.readCov_eq_canon', View.canon_cons_unit_zero hz2]
  exact View.ld_unit_zero (Val := Elt F) (e := .f32) (S := S512x256) hz2 inb_S512x256_S512x256_0_0 x

/-- The initial state as the kernel reads it. -/
theorem readInit {arg8 : Memref sig .tc .vmem S8x64x256 .f32} (harg8 : arg8.IsWhole) (x6 : FVec F S8x64x256 .f32)
    (inb : ∀ a, (![0, 0, 0] : Fin S8x64x256.rank → Nat) a + S8x64x256.size a ≤ S8x64x256.size a) :
    arg8.view.readAt (Elt F) (Rect.unit (s := S8x64x256) ![0, 0, 0] S8x64x256.size inb).toLoadRect (harg8.unread x6) = x6 := by
  rw [View.readAt_eq_ld, harg8.read_unread]
  exact View.ld_unit_zero (Val := Elt F) (e := .f32) (S := S8x64x256) hz3 inb x6

/-- A carried state as the kernel reads it. -/
theorem readState {arg11 : Memref sig .tc .vmem S512x256 .f32} (harg11 : arg11.IsWhole) (s : FVec F S512x256 .f32) :
    arg11.view.readAt (Elt F) whole.toLoadRect (harg11.unread s) = s := by
  rw [View.readAt_eq_ld, harg11.read_unread]
  exact View.ld_unit_zero (Val := Elt F) (e := .f32) (S := S512x256) hz2 inb_S512x256_S512x256_0_0 s

/-- What is left of a whole buffer whose last store wrote all of it. -/
theorem readLast (x : FVec F S512x256 .f32) (L : List (View.Piece (Elt F) S512x256 .f32)) :
    VS0_0.read (Elt F) (VS0_0.writes (Elt F) VS0_0.junk ((⟨whole, x⟩ : View.Piece (Elt F) S512x256 .f32) :: L)) = x := by
  rw [View.read_writes_eq_canon, View.canon_cons_unit_zero hz2]
  intro y
  exact ⟨_, List.mem_cons_self, View.mem_set_unit_zero hz2 inb_S512x256_S512x256_0_0 y⟩

/-- What is left of the outputs' block. -/
theorem readOut7 (x : FVec F S8x1x64x256 .f32)
    (inb : ∀ a, (![0, 0, 0, 0] : Fin S8x1x64x256.rank → Nat) a + S8x1x64x256.size a ≤ S8x1x64x256.size a) :
    VO0_7.read (Elt F) (VO0_7.writes (Elt F) VO0_7.junk
      [(⟨Rect.unit (s := S8x1x64x256) ![0, 0, 0, 0] S8x1x64x256.size inb, x⟩ : View.Piece (Elt F) S8x1x64x256 .f32)]) = x := by
  rw [View.read_writes_eq_canon, View.canon_cons_unit_zero hz4]
  intro y
  exact ⟨_, List.mem_cons_self, View.mem_set_unit_zero hz4 inb y⟩

/-- What is left of the final state's block. -/
theorem readOut8 (x : FVec F S8x64x256 .f32)
    (inb : ∀ a, (![0, 0, 0] : Fin S8x64x256.rank → Nat) a + S8x64x256.size a ≤ S8x64x256.size a) :
    VO0_8.read (Elt F) (VO0_8.writes (Elt F) VO0_8.junk
      [(⟨Rect.unit (s := S8x64x256) ![0, 0, 0] S8x64x256.size inb, x⟩ : View.Piece (Elt F) S8x64x256 .f32)]) = x := by
  rw [View.read_writes_eq_canon, View.canon_cons_unit_zero hz3]
  intro y
  exact ⟨_, List.mem_cons_self, View.mem_set_unit_zero hz3 inb y⟩

section Point

variable (c : Dev nD) (i : grid0.Coords)
    (arg2 : Memref sig .tc .vmem S8x64x256 .f32) (harg2 : arg2.IsWhole)
    (arg3 : Memref sig .tc .vmem S8x64x256 .f32) (harg3 : arg3.IsWhole)
    (arg4 : Memref sig .tc .vmem S8x64x256 .f32) (harg4 : arg4.IsWhole)
    (arg5 : Memref sig .tc .vmem S8x64x256 .f32) (harg5 : arg5.IsWhole)
    (arg6 : Memref sig .tc .vmem S8x64x256 .f32) (harg6 : arg6.IsWhole)
    (arg7 : Memref sig .tc .vmem S8x64x256 .f32) (harg7 : arg7.IsWhole)
    (arg8 : Memref sig .tc .vmem S8x64x256 .f32) (harg8 : arg8.IsWhole)
    (arg9 : Memref sig .tc .vmem S8x1x64x256 .f32) (harg9 : arg9.IsWhole)
    (arg10 : Memref sig .tc .vmem S8x64x256 .f32) (harg10 : arg10.IsWhole)
    (arg11 : Memref sig .tc .vmem S512x256 .f32) (harg11 : arg11.IsWhole)
    (arg12 : Memref sig .tc .vmem S512x256 .f32) (harg12 : arg12.IsWhole)
    (x0 x1 x2 x3 x4 x5 x6 : FVec F S8x64x256 .f32)
    (xs0 : FVec F S512x256 .f32)

theorem out7_A (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6
      = k0_pay273 (pY x0 x1 x2 x3 x4 x5 (k0_pay260 x6) k0_pay271 64) := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (arg11.view.writes (Elt F) arg11.view.junk [⟨whole, k0_pay260 (arg8.view.readAt (Elt F) (Rect.unit (s := S8x64x256) ![0, 0, 0] S8x64x256.size inb_S8x64x256_S8x64x256_0_0_0).toLoadRect (harg8.unread x6))⟩])
    (arg12.view.writes (Elt F) arg12.view.junk [⟨whole, k0_pay271⟩]) _ _ ((read_cons arg11 _ _ []).trans (congrArg k0_pay260 (readInit harg8 x6 _))) (read_cons arg12 _ k0_pay271 []) 7 (by omega)
  unfold out0_A_7 kernelRun0_A
  dsimp only
  sl_unfold_run_names
  refine (readOut7 _ _).trans (congrArg k0_pay273 ?_)
  refine Eq.trans (congrArg (fun L => arg12.view.readCov (L ++ _) whole.toLoadRect) q2) ?_
  exact cov_head arg12 _ _

theorem outS_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6
      = pS x1 x2 x3 x4 x5 (k0_pay260 x6) 64 := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (arg11.view.writes (Elt F) arg11.view.junk [⟨whole, k0_pay260 (arg8.view.readAt (Elt F) (Rect.unit (s := S8x64x256) ![0, 0, 0] S8x64x256.size inb_S8x64x256_S8x64x256_0_0_0).toLoadRect (harg8.unread x6))⟩])
    (arg12.view.writes (Elt F) arg12.view.junk [⟨whole, k0_pay271⟩]) _ _ ((read_cons arg11 _ _ []).trans (congrArg k0_pay260 (readInit harg8 x6 _))) (read_cons arg12 _ k0_pay271 []) 7 (by omega)
  unfold sout0_A_0 kernelRun0_A
  dsimp only
  sl_unfold_run_names
  refine Eq.trans (congrArg (fun L => VS0_0.read (Elt F) (VS0_0.writes (Elt F) VS0_0.junk (L ++ _))) q1) ?_
  exact readLast _ _

theorem out7_B (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = k0_pay273 (pY x0 x1 x2 x3 x4 x5 xs0 k0_pay271 64) := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (harg11.unread xs0)
    (arg12.view.writes (Elt F) arg12.view.junk [⟨whole, k0_pay271⟩]) _ _ (readState harg11 xs0) (read_cons arg12 _ k0_pay271 []) 7 (by omega)
  unfold out0_B_7 kernelRun0_B
  dsimp only
  sl_unfold_run_names
  refine (readOut7 _ _).trans (congrArg k0_pay273 ?_)
  refine Eq.trans (congrArg (fun L => arg12.view.readCov (L ++ _) whole.toLoadRect) q2) ?_
  exact cov_head arg12 _ _

theorem outS_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = pS x1 x2 x3 x4 x5 xs0 64 := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (harg11.unread xs0)
    (arg12.view.writes (Elt F) arg12.view.junk [⟨whole, k0_pay271⟩]) _ _ (readState harg11 xs0) (read_cons arg12 _ k0_pay271 []) 7 (by omega)
  unfold sout0_B_0 kernelRun0_B
  dsimp only
  sl_unfold_run_names
  refine Eq.trans (congrArg (fun L => VS0_0.read (Elt F) (VS0_0.writes (Elt F) VS0_0.junk L)) q1) ?_
  exact readLast _ _

theorem out7_C (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = k0_pay273 (pY x0 x1 x2 x3 x4 x5 xs0 k0_pay271 64) := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (harg11.unread xs0)
    (arg12.view.writes (Elt F) arg12.view.junk [⟨whole, k0_pay271⟩]) _ _ (readState harg11 xs0) (read_cons arg12 _ k0_pay271 []) 7 (by omega)
  unfold out0_C_7 kernelRun0_C
  dsimp only
  sl_unfold_run_names
  refine (readOut7 _ _).trans (congrArg k0_pay273 ?_)
  refine Eq.trans (congrArg (fun L => arg12.view.readCov (L ++ _) whole.toLoadRect) q2) ?_
  exact cov_head arg12 _ _

theorem outS_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = pS x1 x2 x3 x4 x5 xs0 64 := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (harg11.unread xs0)
    (arg12.view.writes (Elt F) arg12.view.junk [⟨whole, k0_pay271⟩]) _ _ (readState harg11 xs0) (read_cons arg12 _ k0_pay271 []) 7 (by omega)
  unfold sout0_C_0 kernelRun0_C
  dsimp only
  sl_unfold_run_names
  refine Eq.trans (congrArg (fun L => VS0_0.read (Elt F) (VS0_0.writes (Elt F) VS0_0.junk L)) q1) ?_
  exact readLast _ _

theorem out8_C (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0
      = k0_pay1 (pS x1 x2 x3 x4 x5 xs0 64) := by
  obtain ⟨⟨L1, q1⟩, ⟨L2, q2⟩⟩ := loop_eq x0 x1 x2 x3 x4 x5 harg2 harg3 harg4 harg5 harg6 harg7 Variants.none c none i harg8 harg9 harg10 harg11 harg12
    (BitVec.ofNat 32 (i 1).val) (harg11.unread xs0)
    (arg12.view.writes (Elt F) arg12.view.junk [⟨whole, k0_pay271⟩]) _ _ (readState harg11 xs0) (read_cons arg12 _ k0_pay271 []) 7 (by omega)
  unfold out0_C_8 kernelRun0_C
  dsimp only
  sl_unfold_run_names
  refine (readOut8 _ _).trans (congrArg k0_pay1 ?_)
  refine Eq.trans (congrArg (fun L => arg11.view.readAt (Elt F) whole.toLoadRect (arg11.view.writes (Elt F) _ L)) q1) ?_
  exact read_cons arg11 _ _ _

end Point

end Cert.KernelIdeal.Scan

end
-- ==== Proof.Masks.lean ====
/- The zero-one matrices and masks the kernel builds from row and lane numbers, read at an index. -/
module

public import proofs.«01_k».proof.Proof.Loop
public import Idealize.ShloMosaic.Lib.IdealHost

@[expose] public section

set_option maxRecDepth 65536

noncomputable section

namespace Cert.KernelIdeal.Scan

open Cert.KernelIdeal Cert.KernelIdeal.Gen Idealize.ShloMosaic Idealize.ShloMosaic.TcCoe Idealize.SL.Sem

/-- The lane's number within its head. -/
theorem laneMod_zero : ∀ l : Fin 256, laneMod lanes (ix2 (0 : Fin 512) l) = BitVec.ofNat 32 (l.val % 64) := by
  decide +kernel

theorem laneMod_at (k : Fin 512) (l : Fin 256) : laneMod lanes (ix2 k l) = BitVec.ofNat 32 (l.val % 64) :=
  laneMod_zero l

/-- The row's number within its sequence. -/
def rowMod : IVec S512x256 32 :=
  select (andi (xori k0_pay268 (broadcastTo S512x256 k0_pay269 broadcasts_S512x256_S512x256)) k0_pay267)
    (addi k0_pay266 (broadcast S512x256 64#32)) k0_pay266

theorem rowMod_zero : ∀ k : Fin 512, rowMod (ix2 k (0 : Fin 256)) = BitVec.ofNat 32 (k.val % 64) := by
  decide +kernel

theorem rowMod_at (k : Fin 512) (l : Fin 256) : rowMod (ix2 k l) = BitVec.ofNat 32 (k.val % 64) :=
  rowMod_zero k

/-- The head a row of the doubled matrix stands for. -/
def rowHead : IVec S512x256 32 :=
  select k0_pay263 (subi k0_pay262 (broadcast S512x256 1#32)) k0_pay262

theorem rowHead_zero : ∀ k : Fin 512, rowHead (ix2 k (0 : Fin 256)) = BitVec.ofNat 32 (k.val % 256 / 64) := by
  decide +kernel

theorem rowHead_at (k : Fin 512) (l : Fin 256) : rowHead (ix2 k l) = BitVec.ofNat 32 (k.val % 256 / 64) :=
  rowHead_zero k

/-- The quotient by 64 rounded down, of a lane's number. -/
def laneHead : IVec S512x256 32 :=
  have q : IVec S512x256 32 := divsi lanes (broadcast S512x256 64#32)
  have z : IVec S512x256 32 := broadcast S512x256 0#32
  select (andi (cmpi .ne (subi (extui 32 (cmpi .sgt lanes z) natLt_1_32) (extui 32 (cmpi .slt lanes z) natLt_1_32))
      (broadcast S512x256 (Scalar.subi (Scalar.extui (Scalar.cmpi .sgt 64#32 0#32)) (Scalar.extui (Scalar.cmpi .slt 64#32 0#32)))))
      (cmpi .ne (remsi lanes (broadcast S512x256 64#32)) z))
    (subi q (broadcast S512x256 1#32)) q

theorem laneHead_zero : ∀ l : Fin 256, laneHead (ix2 (0 : Fin 512) l) = BitVec.ofNat 32 (l.val / 64) := by
  decide +kernel

theorem laneHead_at (k : Fin 512) (l : Fin 256) : laneHead (ix2 k l) = BitVec.ofNat 32 (l.val / 64) :=
  laneHead_zero l

/-- A selection on the equality of two small numbers. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have : (BitVec.ofNat 32 a == BitVec.ofNat 32 b) = false := by
      rw [beq_eq_false_iff_ne]
      intro e
      have := congrArg BitVec.toNat e
      rw [BitVec.toNat_ofNat, BitVec.toNat_ofNat, Nat.mod_eq_of_lt ha, Nat.mod_eq_of_lt hb] at this
      exact h this
    simp [this, h]

theorem ones2_at (k : Fin 512) (l : Fin 256) :
    ones2 (F := Ideal) (ix2 k l) = if k.val % 256 / 64 = l.val / 64 then (1 : EReal) else 0 := by
  show Scalar.select (IntOp.cmpi .eq (rowHead (ix2 k l)) (laneHead (ix2 k l))) (Ideal.ofBits .f32 0x3F800000#32)
    (Ideal.ofBits .f32 0x00000000#32) = _
  rw [rowHead_at, laneHead_at, select_eq _ _ (by omega) (by omega), Ideal.ofBits_one_f32, Ideal.ofBits_zero_f32]

theorem ones1_at (k l : Fin 256) :
    ones1 (F := Ideal) (ix2 k l) = if k.val / 64 = l.val / 64 then (1 : EReal) else 0 := by
  have e : ones1 (F := Ideal) (ix2 k l) = ones2 (F := Ideal) (ix2 (⟨k.val, by omega⟩ : Fin 512) l) := by
    show ones2 (F := Ideal) _ = _
    refine congrArg _ (funext fun a => Fin.ext ?_)
    fin_cases a
    · show 0 + k.val = k.val; omega
    · show 0 + l.val = l.val; omega
  rw [e, ones2_at]
  show (if k.val % 256 / 64 = l.val / 64 then (1 : EReal) else 0) = _
  rw [Nat.mod_eq_of_lt k.isLt]

theorem diag_at (k : Fin 512) (l : Fin 256) :
    diag (F := Ideal) (ix2 k l) = if k.val % 64 = l.val % 64 then (1 : EReal) else 0 := by
  show Scalar.select (IntOp.cmpi .eq (rowMod (ix2 k l)) (laneMod lanes (ix2 k l))) (Ideal.ofBits .f32 0x3F800000#32)
    (Ideal.ofBits .f32 0x00000000#32) = _
  rw [rowMod_at, laneMod_at, select_eq _ _ (by omega) (by omega), Ideal.ofBits_one_f32, Ideal.ofBits_zero_f32]

end Cert.KernelIdeal.Scan

end
-- ==== Proof.StepValue.lean ====
/- One step of the recurrence over the extended reals, at an index: for finite states the split products sum to the
   plain sum over the head's lanes. -/
module

public import proofs.«01_k».proof.Proof.Masks

@[expose] public section

set_option maxRecDepth 65536

noncomputable section

namespace Cert.KernelIdeal.Scan

open Cert.KernelIdeal Cert.KernelIdeal.Gen Idealize.ShloMosaic Idealize.ShloMosaic.TcCoe Idealize.SL.Sem

/-- The row of sequence `b` and value coordinate `v`. -/
abbrev rc (b : Fin 8) (v : Fin 64) : Fin 512 := ⟨b.val * 64 + v.val, by omega⟩

/-- The lane of head `h` and key coordinate `k`. -/
abbrev ln (h : Fin 4) (k : Fin 64) : Fin 256 := ⟨h.val * 64 + k.val, by omega⟩

/-- A sum over the lanes is a sum over heads and key coordinates. -/
theorem sum_lanes (f : Fin 256 → EReal) : ∑ l, f l = ∑ h : Fin 4, ∑ k : Fin 64, f (ln h k) := by
  rw [← Fintype.sum_prod_type' (f := fun h k => f (ln h k))]
  refine (Fintype.sum_equiv (finProdFinEquiv (m := 4) (n := 64)) _ _ fun p => ?_).symm
  refine congrArg f (Fin.ext ?_)
  show p.1.val * 64 + p.2.val = p.2.val + 64 * p.1.val
  omega

/-- The lanes of one head kept, the others times zero. -/
theorem sum_head (f : Fin 256 → EReal) (l : Fin 256) :
    ∑ k : Fin 256, f k * (if k.val / 64 = l.val / 64 then (1 : EReal) else 0)
      = ∑ k : Fin 64, f (ln ⟨l.val / 64, by omega⟩ k) := by
  rw [sum_lanes, Finset.sum_eq_single (⟨l.val / 64, by omega⟩ : Fin 4)]
  · refine Finset.sum_congr rfl fun k _ => ?_
    rw [if_pos (by show (l.val / 64 * 64 + k.val) / 64 = _; omega), mul_one]
  · intro h _ hne
    refine Finset.sum_eq_zero fun k _ => ?_
    rw [if_neg, mul_zero]
    intro e
    refine hne (Fin.ext ?_)
    have e' : (h.val * 64 + k.val) / 64 = l.val / 64 := e
    show h.val = l.val / 64
    omega
  · intro h; exact absurd (Finset.mem_univ _) h

theorem segSum1_at (x : FVec Ideal S512x256 .f32) (r : Fin 512) (l : Fin 256) :
    segSum1 ones1 x (ix2 r l) = ∑ k : Fin 64, x (ix2 r (ln ⟨l.val / 64, by omega⟩ k)) := by
  rw [← sum_head (fun k => x (ix2 r k)) l]
  unfold segSum1
  generalize hO : ones1 (F := Ideal) = O
  pointwise
  subst hO
  simp only [ones1_at]

theorem segSum2_at (x : FVec Ideal S512x256 .f32) (r : Fin 512) (l : Fin 256)
    (hx : ∀ k, ∃ q : ℝ, x (ix2 r k) = (q : EReal)) :
    segSum2 ones2 x (ix2 r l) = ∑ k : Fin 64, x (ix2 r (ln ⟨l.val / 64, by omega⟩ k)) := by
  rw [← sum_head (fun k => x (ix2 r k)) l]
  unfold segSum2
  generalize hO : ones2 (F := Ideal) = O
  pointwise
  subst hO
  simp only [ones2_at]
  have hz : ∀ k : Fin 256, x (ix2 r k) - x (ix2 r k) = 0 := fun k => by
    obtain ⟨q, e⟩ := hx k
    rw [e, ← EReal.coe_sub, sub_self, EReal.coe_zero]
  rw [Finset.sum_eq_zero (f := fun k : Fin 256 => (x (ix2 r k) - x (ix2 r k)) * _) fun k _ => by rw [hz, zero_mul], add_zero]
  refine Finset.sum_congr rfl fun k _ => ?_
  rw [Nat.mod_eq_of_lt k.isLt]

theorem bc8_at (x : Fin 8 → Vec Ideal S1x1x256 .f32) (b : Fin 8) (v : Fin 64) (l : Fin 256) :
    bc8 x (ix2 (rc b v) l) = x b (ix3 (0 : Fin 1) (0 : Fin 1) l) := by
  have e : bc8 x (ix2 (rc b v) l) = bc1 (x b) (ix2 v l) := by
    refine (concatenate_ofFn_apply (t := S512x256) (s₁ := S64x256) 0 (fun n => bc1 (x n)) _ rfl 64 rfl
      (ix2 (rc b v) l) b ?_ (ix2 v l) ?_ ?_)
    · show (b.val * 64 + v.val) / 64 = b.val; omega
    · show v.val = (b.val * 64 + v.val) % 64; omega
    · intro a ha
      fin_cases a
      · exact absurd rfl ha
      · rfl
  rw [e]
  unfold bc1
  pointwise

/-- Real values. -/
def Real1 (x : EReal) : Prop := ∃ q : ℝ, x = (q : EReal)

theorem Real1.mul {x y : EReal} (hx : Real1 x) (hy : Real1 y) : Real1 (x * y) := by
  obtain ⟨p, rfl⟩ := hx; obtain ⟨q, rfl⟩ := hy; exact ⟨p * q, (EReal.coe_mul p q).symm⟩

theorem Real1.add {x y : EReal} (hx : Real1 x) (hy : Real1 y) : Real1 (x + y) := by
  obtain ⟨p, rfl⟩ := hx; obtain ⟨q, rfl⟩ := hy; exact ⟨p + q, (EReal.coe_add p q).symm⟩

theorem Real1.sub {x y : EReal} (hx : Real1 x) (hy : Real1 y) : Real1 (x - y) := by
  obtain ⟨p, rfl⟩ := hx; obtain ⟨q, rfl⟩ := hy; exact ⟨p - q, (EReal.coe_sub p q).symm⟩

theorem Real1.sum {ι : Type} (t : Finset ι) (f : ι → EReal) (hf : ∀ i, Real1 (f i)) : Real1 (∑ i ∈ t, f i) := by
  classical
  induction t using Finset.induction_on with
  | empty => exact ⟨0, by rw [Finset.sum_empty, EReal.coe_zero]⟩
  | insert a t ha ih => rw [Finset.sum_insert ha]; exact (hf a).add ih

/-- The value of head `h`'s lane `v` picked by the diagonal mask. -/
theorem pick_at (x : Fin 8 → Vec Ideal S1x1x256 .f32) (b : Fin 8) (v : Fin 64) (h : Fin 4) (k : Fin 64) :
    segSum1 ones1 (mulf (bc8 x) diag) (ix2 (rc b v) (ln h k)) = x b (ix3 (0 : Fin 1) (0 : Fin 1) (ln h v)) := by
  rw [segSum1_at]
  have e : (⟨(ln h k).val / 64, by omega⟩ : Fin 4) = h := Fin.ext (by show (h.val * 64 + k.val) / 64 = h.val; omega)
  rw [e, Finset.sum_eq_single v]
  · rw [ValueIdx.mulf_apply, bc8_at, diag_at,
      if_pos (by show (b.val * 64 + v.val) % 64 = (h.val * 64 + v.val) % 64; omega), mul_one]
  · intro k' _ hne
    rw [ValueIdx.mulf_apply, diag_at, if_neg, mul_zero]
    intro e
    have e' : (b.val * 64 + v.val) % 64 = (h.val * 64 + k'.val) % 64 := e
    exact hne (Fin.ext (by omega))
  · intro hn; exact absurd (Finset.mem_univ _) hn

/-- One step at an index. -/
theorem stepS_at (kk v w kka k : Fin 8 → Vec Ideal S1x1x256 .f32) (s : FVec Ideal S512x256 .f32)
    (hs : ∀ r l, Real1 (s (ix2 r l))) (hk : ∀ b l, Real1 (kk b (ix3 (0 : Fin 1) (0 : Fin 1) l)))
    (b : Fin 8) (vc : Fin 64) (h : Fin 4) (kc : Fin 64) :
    stepS ones2 ones1 diag (bc8 kk) (bc8 v) (bc8 w) (bc8 kka) (bc8 k) s (ix2 (rc b vc) (ln h kc))
      = s (ix2 (rc b vc) (ln h kc)) * w b (ix3 (0 : Fin 1) (0 : Fin 1) (ln h kc))
          - (∑ k' : Fin 64, s (ix2 (rc b vc) (ln h k')) * kk b (ix3 (0 : Fin 1) (0 : Fin 1) (ln h k')))
            * kka b (ix3 (0 : Fin 1) (0 : Fin 1) (ln h kc))
        + v b (ix3 (0 : Fin 1) (0 : Fin 1) (ln h vc)) * k b (ix3 (0 : Fin 1) (0 : Fin 1) (ln h kc)) := by
  unfold stepS
  have e : (⟨(ln h kc).val / 64, by omega⟩ : Fin 4) = h := Fin.ext (by show (h.val * 64 + kc.val) / 64 = h.val; omega)
  rw [ValueIdx.addf_apply, ValueIdx.subf_apply, ValueIdx.mulf_apply, ValueIdx.mulf_apply, ValueIdx.mulf_apply,
    pick_at, bc8_at, bc8_at, bc8_at, segSum2_at]
  · rw [e]
    simp only [ValueIdx.mulf_apply, bc8_at]
  · intro l
    rw [ValueIdx.mulf_apply, bc8_at]
    exact (hs _ _).mul (hk _ _)

/-- One step's outputs at an index of the lanes of its number, and the others kept. -/
theorem stepY_at (t : Fin 64) (r : Fin 8 → Vec Ideal S1x1x256 .f32) (s y : FVec Ideal S512x256 .f32)
    (b : Fin 8) (vc : Fin 64) (h : Fin 4) (l : Fin 64) :
    stepY ones1 lanes (BitVec.ofNat 32 t.val) (bc8 r) s y (ix2 (rc b vc) (ln h l))
      = if l = t then ∑ k' : Fin 64, s (ix2 (rc b vc) (ln h k')) * r b (ix3 (0 : Fin 1) (0 : Fin 1) (ln h k'))
        else y (ix2 (rc b vc) (ln h l)) := by
  show Scalar.select (IntOp.cmpi .eq (laneMod lanes (ix2 (rc b vc) (ln h l))) (BitVec.ofNat 32 t.val)) _ _ = _
  rw [laneMod_at, select_eq _ _ (by omega) (by omega), segSum1_at]
  have e : (⟨(ln h l).val / 64, by omega⟩ : Fin 4) = h := Fin.ext (by show (h.val * 64 + l.val) / 64 = h.val; omega)
  have e2 : (h.val * 64 + l.val) % 64 = l.val := by omega
  simp only [e, e2, ValueIdx.mulf_apply, bc8_at, Fin.ext_iff]

end Cert.KernelIdeal.Scan

end
-- ==== Proof.Sweep.lean ====
/- The sweep of the grid: the carried state after every grid point is the recurrence's state at the time reached, and
   the two arrays the kernel leaves, read at an index. -/
module

public import proofs.«01_k».proof.Proof.Blocks
public import proofs.«01_k».proof.Proof.StepValue
public import Idealize.ShloMosaic.Lib.Claim

@[expose] public section

set_option maxRecDepth 65536

noncomputable section

namespace Cert.KernelIdeal.Scan

open Cert.KernelIdeal Cert.KernelIdeal.Gen Idealize.ShloMosaic Idealize.ShloMosaic.TcCoe Idealize.SL.Sem

/-- The rows of an array at time `T`, one per sequence. -/
def rowX (X : FVec Ideal S8x4096x256 .f32) (T : ℕ) : Fin 8 → Vec Ideal S1x1x256 .f32 :=
  fun b j => X (ix3 b (Fin.ofNat 4096 T) (j 2))

/-- The array's block at grid point `n`. -/
def blkOf (X : FVec Ideal S8x4096x256 .f32) (n : ℕ) : FVec Ideal S8x64x256 .f32 :=
  fun j => X (ix3 (j 0) (Fin.ofNat 4096 (64 * n + (j 1).val)) (j 2))

theorem rowsOf_blkOf (X : FVec Ideal S8x4096x256 .f32) (n t : ℕ) (ht : t < 64) :
    rowsOf (blkOf X n) t = rowX X (64 * n + t) := by
  funext b j
  show X (ix3 b (Fin.ofNat 4096 (64 * n + t % 64)) (j 2)) = X (ix3 b (Fin.ofNat 4096 (64 * n + t)) (j 2))
  rw [Nat.mod_eq_of_lt ht]

variable (X0 X1 X2 X3 X4 X5 : FVec Ideal S8x4096x256 .f32) (S0 : FVec Ideal S512x256 .f32)

/-- The state before time `T`. -/
def St : ℕ → FVec Ideal S512x256 .f32
  | 0 => S0
  | T + 1 => stepS ones2 ones1 diag (bc8 (rowX X4 T)) (bc8 (rowX X3 T)) (bc8 (rowX X1 T)) (bc8 (rowX X5 T))
      (bc8 (rowX X2 T)) (St T)

/-- The output at time `T`: the new state's product with `r`, summed over the key coordinate. -/
def Yt (T : ℕ) (b : Fin 8) (h : Fin 4) (v : Fin 64) : EReal :=
  ∑ k' : Fin 64, St X1 X2 X3 X4 X5 S0 (T + 1) (ix2 (rc b v) (ln h k')) * X0 (ix3 b (Fin.ofNat 4096 T) (ln h k'))

theorem pS_blk (n t : ℕ) (ht : t ≤ 64) :
    pS (blkOf X1 n) (blkOf X2 n) (blkOf X3 n) (blkOf X4 n) (blkOf X5 n) (St X1 X2 X3 X4 X5 S0 (64 * n)) t
      = St X1 X2 X3 X4 X5 S0 (64 * n + t) := by
  induction t with
  | zero => rfl
  | succ t ih =>
    show stS _ _ _ _ _ t (pS _ _ _ _ _ _ t) = _
    rw [ih (by omega)]
    unfold stS
    rw [rowsOf_blkOf _ _ _ (by omega), rowsOf_blkOf _ _ _ (by omega), rowsOf_blkOf _ _ _ (by omega),
      rowsOf_blkOf _ _ _ (by omega), rowsOf_blkOf _ _ _ (by omega)]
    rfl

theorem pY_blk (n : ℕ) (y : FVec Ideal S512x256 .f32) (b : Fin 8) (v : Fin 64) (h : Fin 4) (l : Fin 64) (t : ℕ)
    (ht : t ≤ 64) :
    pY (blkOf X0 n) (blkOf X1 n) (blkOf X2 n) (blkOf X3 n) (blkOf X4 n) (blkOf X5 n) (St X1 X2 X3 X4 X5 S0 (64 * n)) y t
        (ix2 (rc b v) (ln h l))
      = if l.val < t then Yt X0 X1 X2 X3 X4 X5 S0 (64 * n + l.val) b h v else y (ix2 (rc b v) (ln h l)) := by
  induction t with
  | zero => rfl
  | succ t ih =>
    show stY _ t (pS _ _ _ _ _ _ (t + 1)) (pY _ _ _ _ _ _ _ _ t) _ = _
    rw [pS_blk X1 X2 X3 X4 X5 S0 n (t + 1) ht]
    unfold stY
    refine (stepY_at ⟨t, by omega⟩ _ _ _ b v h l).trans ?_
    rw [rowsOf_blkOf _ _ _ (by omega), ih (by omega)]
    by_cases e : l = ⟨t, by omega⟩
    · subst e
      rw [if_pos rfl, if_pos (Nat.lt_succ_self t)]
      rfl
    · rw [if_neg e]
      have e' : l.val ≠ t := fun q => e (Fin.ext q)
      by_cases q : l.val < t
      · rw [if_pos q, if_pos (by omega)]
      · rw [if_neg q, if_neg (by omega)]

section Grid

variable (m : (ℓ : Loc nD τ sig) → Buf (Elt Ideal) ℓ) (c : Dev nD)

/-- The product of `kk` and `a` that the region is entered with. -/
abbrev kka : FVec Ideal S8x4096x256 .f32 :=
  mulf (m ((c : Thread nD τ).loc main_arg4) : FVec Ideal S8x4096x256 .f32) (m ((c : Thread nD τ).loc main_arg5))

/-- The initial state as the region is entered with it. -/
abbrev s0in : FVec Ideal S8x64x256 .f32 :=
  shapeCast S8x64x256 (transpose S8x64x4x64 [0, 2, 1, 3] (m ((c : Thread nD τ).loc main_arg6) : FVec Ideal S8x4x64x64 .f32)
    transposes_S8x4x64x64_S8x64x4x64_0_2_1_3) shapeCasts_S8x64x4x64_S8x64x256

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, 0, 0] := (by decide +kernel : ∀ t : Fin grid0.N, _)

theorem iblk0 (t : Fin cfg0.N) : (iblk m c 0 t : FVec Ideal S8x64x256 .f32) = blkOf (m ((c : Thread nD τ).loc main_arg0)) t.val := by
  have hN : t.val < 64 := lt_of_lt_of_eq t.isLt N_0
  funext j
  have h1 : (j 1).val < 64 := (j 1).isLt
  have e := index0 t
  blk_ext [iblk, V_main_arg0, V_main_arg1, V_main_arg2, V_main_arg3, V_main_arg4, e]
  show t.val * 64 + (j 1).val = (64 * t.val + (j 1).val) % 4096
  omega

theorem iblk1 (t : Fin cfg0.N) : (iblk m c 1 t : FVec Ideal S8x64x256 .f32) = blkOf (m ((c : Thread nD τ).loc main_arg1)) t.val := by
  have hN : t.val < 64 := lt_of_lt_of_eq t.isLt N_0
  funext j
  have h1 : (j 1).val < 64 := (j 1).isLt
  have e := index1 t
  blk_ext [iblk, V_main_arg0, V_main_arg1, V_main_arg2, V_main_arg3, V_main_arg4, e]
  show t.val * 64 + (j 1).val = (64 * t.val + (j 1).val) % 4096
  omega

theorem iblk2 (t : Fin cfg0.N) : (iblk m c 2 t : FVec Ideal S8x64x256 .f32) = blkOf (m ((c : Thread nD τ).loc main_arg2)) t.val := by
  have hN : t.val < 64 := lt_of_lt_of_eq t.isLt N_0
  funext j
  have h1 : (j 1).val < 64 := (j 1).isLt
  have e := index2 t
  blk_ext [iblk, V_main_arg0, V_main_arg1, V_main_arg2, V_main_arg3, V_main_arg4, e]
  show t.val * 64 + (j 1).val = (64 * t.val + (j 1).val) % 4096
  omega

theorem iblk3 (t : Fin cfg0.N) : (iblk m c 3 t : FVec Ideal S8x64x256 .f32) = blkOf (m ((c : Thread nD τ).loc main_arg3)) t.val := by
  have hN : t.val < 64 := lt_of_lt_of_eq t.isLt N_0
  funext j
  have h1 : (j 1).val < 64 := (j 1).isLt
  have e := index3 t
  blk_ext [iblk, V_main_arg0, V_main_arg1, V_main_arg2, V_main_arg3, V_main_arg4, e]
  show t.val * 64 + (j 1).val = (64 * t.val + (j 1).val) % 4096
  omega

theorem iblk4 (t : Fin cfg0.N) : (iblk m c 4 t : FVec Ideal S8x64x256 .f32) = blkOf (m ((c : Thread nD τ).loc main_arg4)) t.val := by
  have hN : t.val < 64 := lt_of_lt_of_eq t.isLt N_0
  funext j
  have h1 : (j 1).val < 64 := (j 1).isLt
  have e := index4 t
  blk_ext [iblk, V_main_arg0, V_main_arg1, V_main_arg2, V_main_arg3, V_main_arg4, e]
  show t.val * 64 + (j 1).val = (64 * t.val + (j 1).val) % 4096
  omega

theorem iblk5 (t : Fin cfg0.N) : (iblk m c 5 t : FVec Ideal S8x64x256 .f32) = blkOf (kka m c) t.val := by
  have hN : t.val < 64 := lt_of_lt_of_eq t.isLt N_0
  funext j
  have h1 : (j 1).val < 64 := (j 1).isLt
  have e := index5 t
  unfold iblk
  entry_read
  blk_ext [e]
  show t.val * 64 + (j 1).val = (64 * t.val + (j 1).val) % 4096
  omega

theorem iblk6 (t : Fin cfg0.N) : (iblk m c 6 t : FVec Ideal S8x64x256 .f32) = s0in m c := by
  funext j
  have e := index6 t
  unfold iblk
  entry_read
  blk_ext [e]

/-- The state at time `T`, from the launch's arguments. -/
abbrev stAt (T : ℕ) : FVec Ideal S512x256 .f32 :=
  St (m ((c : Thread nD τ).loc main_arg1)) (m ((c : Thread nD τ).loc main_arg2)) (m ((c : Thread nD τ).loc main_arg3))
    (m ((c : Thread nD τ).loc main_arg4)) (kka m c) (k0_pay260 (F := Ideal) (s0in m c)) T

/-- The grid point's outputs, from the launch's arguments. -/
abbrev yAt (n : ℕ) : FVec Ideal S512x256 .f32 :=
  pY (blkOf (m ((c : Thread nD τ).loc main_arg0)) n) (blkOf (m ((c : Thread nD τ).loc main_arg1)) n)
    (blkOf (m ((c : Thread nD τ).loc main_arg2)) n) (blkOf (m ((c : Thread nD τ).loc main_arg3)) n)
    (blkOf (m ((c : Thread nD τ).loc main_arg4)) n) (blkOf (kka m c) n) (stAt m c (64 * n)) k0_pay271 64

/-- What a grid point leaves, from the carried state it finds. -/
theorem point (t : Fin cfg0.N) (acc : Vec Ideal S8x1x64x256 .f32 × Vec Ideal S8x64x256 .f32 × Vec Ideal S512x256 .f32)
    (hacc : t.val ≠ 0 → acc.2.2 = stAt m c (64 * t.val)) :
    (Value.stAt0 m c t.val t.isLt acc).1 = k0_pay273 (F := Ideal) (yAt m c t.val)
      ∧ (Value.stAt0 m c t.val t.isLt acc).2.2 = stAt m c (64 * t.val + 64)
      ∧ (t.val = 63 → (Value.stAt0 m c t.val t.isLt acc).2.1 = k0_pay1 (F := Ideal) (stAt m c (64 * t.val + 64))) := by
  have hN : t.val < 64 := lt_of_lt_of_eq t.isLt N_0
  by_cases h0 : t.val % 64 = 0
  · have e0 : t.val = 0 := by omega
    have h1 : ¬ t.val % 64 = 63 := by omega
    rw [Value.stAt0_A m c t acc h0 h1]
    refine ⟨?_, ?_, fun h => absurd h (by omega)⟩
    · dsimp only
      refine (out7_A ..).trans ?_
      rw [iblk0, iblk1, iblk2, iblk3, iblk4, iblk5, iblk6, e0]
      rfl
    · dsimp only
      refine (outS_A ..).trans ?_
      rw [iblk1, iblk2, iblk3, iblk4, iblk5, iblk6, e0]
      exact pS_blk _ _ _ _ _ _ 0 64 le_rfl
  · have hs := hacc (by omega)
    by_cases h1 : t.val % 64 = 63
    · rw [Value.stAt0_C m c t acc h0 h1]
      refine ⟨?_, ?_, fun _ => ?_⟩
      · dsimp only
        refine (out7_C ..).trans ?_
        rw [iblk0, iblk1, iblk2, iblk3, iblk4, iblk5, hs]
      · dsimp only
        refine (outS_C ..).trans ?_
        rw [iblk1, iblk2, iblk3, iblk4, iblk5, hs]
        exact pS_blk _ _ _ _ _ _ t.val 64 le_rfl
      · dsimp only
        refine (out8_C ..).trans ?_
        rw [iblk1, iblk2, iblk3, iblk4, iblk5, hs]
        exact congrArg k0_pay1 (pS_blk _ _ _ _ _ _ t.val 64 le_rfl)
    · rw [Value.stAt0_B m c t acc h0 h1]
      refine ⟨?_, ?_, fun h => absurd h (by omega)⟩
      · dsimp only
        refine (out7_B ..).trans ?_
        rw [iblk0, iblk1, iblk2, iblk3, iblk4, iblk5, hs]
      · dsimp only
        refine (outS_B ..).trans ?_
        rw [iblk1, iblk2, iblk3, iblk4, iblk5, hs]
        exact pS_blk _ _ _ _ _ _ t.val 64 le_rfl

/-- What every grid point leaves. -/
theorem fold (n : ℕ) (hn : 0 + n < cfg0.N) :
    (Pipeline.accAt (fun n h => Value.stAt0 m c n h Value.junk0) (Value.stAt0 m c) 0 n hn).1 = k0_pay273 (F := Ideal) (yAt m c n)
      ∧ (Pipeline.accAt (fun n h => Value.stAt0 m c n h Value.junk0) (Value.stAt0 m c) 0 n hn).2.2 = stAt m c (64 * (n + 1))
      ∧ (n = 63 → (Pipeline.accAt (fun n h => Value.stAt0 m c n h Value.junk0) (Value.stAt0 m c) 0 n hn).2.1
          = k0_pay1 (F := Ideal) (stAt m c 4096)) := by
  induction n with
  | zero =>
    obtain ⟨p, q, r⟩ := point m c ⟨0, by omega⟩ Value.junk0 (fun h => absurd rfl h)
    exact ⟨p, q, fun h => absurd h (by omega)⟩
  | succ n ih =>
    obtain ⟨-, i2, -⟩ := ih (by omega)
    have e : 0 + (n + 1) = n + 1 := Nat.zero_add _
    obtain ⟨p, q, r⟩ := point m c ⟨0 + (n + 1), hn⟩
      (Pipeline.accAt (fun n h => Value.stAt0 m c n h Value.junk0) (Value.stAt0 m c) 0 n (by omega))
      (fun _ => i2.trans (congrArg (fun q => stAt m c (64 * q)) e.symm))
    dsimp only at p q r
    refine ⟨?_, ?_, fun h => ?_⟩
    · refine Eq.trans p ?_
      rw [e]
    · refine Eq.trans q ?_
      rw [e]
      rfl
    · refine Eq.trans (r (by omega)) ?_
      rw [e, h]

/-- The outputs' array at an index. -/
theorem G7_at (b : Fin 8) (n : Fin 64) (v : Fin 64) (h : Fin 4) (l : Fin 64) :
    (Value.G7 m c : FVec Ideal S8x64x64x256 .f32) (ix4 b n v (ln h l))
      = Yt (m ((c : Thread nD τ).loc main_arg0)) (m ((c : Thread nD τ).loc main_arg1)) (m ((c : Thread nD τ).loc main_arg2))
        (m ((c : Thread nD τ).loc main_arg3)) (m ((c : Thread nD τ).loc main_arg4)) (kka m c) (k0_pay260 (F := Ideal) (s0in m c))
        (64 * n.val + l.val) b h v := by
  have hp : Value.pt7Of (ix4 b n v (ln h l)) = n.val := by
    show 64 * (b.val / 8 - 0) + 1 * (n.val / 1 - 0) + 1 * (v.val / 64 - 0) + 1 * ((h.val * 64 + l.val) / 256 - 0) = n.val
    omega
  have hl : Value.loc7Of (ix4 b n v (ln h l)) = ix4 b (0 : Fin 1) v (ln h l) := by
    funext a
    apply Fin.ext
    fin_cases a
    · show b.val % 8 = b.val; omega
    · show n.val % 1 = 0; omega
    · show v.val % 64 = v.val; omega
    · show (h.val * 64 + l.val) % 256 = h.val * 64 + l.val; omega
  unfold Value.G7
  rw [dif_pos (show Value.pt7Of (ix4 b n v (ln h l)) < cfg0.N from lt_of_lt_of_eq (by rw [hp]; omega) N_0.symm), hl,
    (fold m c _ _).1, hp]
  have e : (k0_pay273 (F := Ideal) (yAt m c n.val)) (ix4 b (0 : Fin 1) v (ln h l)) = yAt m c n.val (ix2 (rc b v) (ln h l)) := by
    unfold k0_pay273
    pointwise
  rw [e]
  unfold yAt
  rw [pY_blk _ _ _ _ _ _ _ n.val _ b v h l 64 le_rfl, if_pos l.isLt]

/-- The final state's array at an index. -/
theorem G8_at (b : Fin 8) (v : Fin 64) (l : Fin 256) :
    (Value.G8 m c : FVec Ideal S8x64x256 .f32) (ix3 b v l) = stAt m c 4096 (ix2 (rc b v) l) := by
  rw [Value.G8_last, (fold m c 63 _).2.2 rfl]
  unfold k0_pay1
  pointwise

/-- The initial state at an index. -/
theorem init_at (b : Fin 8) (v : Fin 64) (h : Fin 4) (k : Fin 64) :
    stAt m c 0 (ix2 (rc b v) (ln h k)) = (m ((c : Thread nD τ).loc main_arg6) : FVec Ideal S8x4x64x64 .f32) (ix4 b h v k) := by
  show k0_pay260 (F := Ideal) (s0in m c) _ = _
  unfold k0_pay260 s0in
  pointwise
  blk_ext []

end Grid

end Cert.KernelIdeal.Scan

end
-- ==== Proof.RefValue.lean ====
/- The reference's state after `n` steps and its outputs, read at an index. -/
module

public import proofs.«01_k».proof.Proof.RefRun
public import Idealize.ShloMosaic.Lib.Pointwise
public import Idealize.ShloMosaic.Lib.DynamicIndex
public import Idealize.ShloMosaic.Lib.ValueIdx
public import Idealize.ShloMosaic.Lib.Pipeline.Value
public import Idealize.ShloMosaic.Lib.Pipeline.ValueKit

@[expose] public section

set_option maxRecDepth 65536

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Step

/-- The place of time `j`'s row. -/
theorem start_at (j : ℕ) (hj : j < 4096) (a : Fin 4) :
    (((![(constantI S_ 32 (BitVec.ofNat 32 j) : (⟨S_, .i32⟩ : BufTy).Contents (Elt Ideal)), constantI S_ 32 0#32, constantI S_ 32 0#32, constantI S_ 32 0#32] : Fin 4 → (⟨S_, .i32⟩ : BufTy).Contents (Elt Ideal))) a (Shape.Idx.first h_S_)).toInt
      = (((![j, 0, 0, 0] : Fin 4 → ℕ) a : ℕ) : ℤ) := by
  fin_cases a
  · exact toInt_ofNat_of_lt (by omega)
  · rfl
  · rfl
  · rfl

/-- The row of an array at time `j`. -/
theorem row_at (X : FVec Ideal S4096x8x4x64 .f32) (j : ℕ) (hj : j < 4096) (b : Fin 8) (h : Fin 4) (k : Fin 64) :
    shapeCast S8x4x64 (Host.dynamicSlice S1x8x4x64 X (fun k => (((![(constantI S_ 32 (BitVec.ofNat 32 j) : (⟨S_, .i32⟩ : BufTy).Contents (Elt Ideal)), constantI S_ 32 0#32, constantI S_ 32 0#32, constantI S_ 32 0#32] : Fin 4 → (⟨S_, .i32⟩ : BufTy).Contents (Elt Ideal))) k (Shape.Idx.first h_S_)).toInt) sliceFits_S4096x8x4x64_S1x8x4x64)
      shapeCasts_S1x8x4x64_S8x4x64 (ix3 b h k) = X (ix4 ⟨j, hj⟩ b h k) := by
  rw [Host.dynamicSlice_eq_extractStridedSlice S1x8x4x64 X _ ![j, 0, 0, 0] _ ⟨rfl, fun a => by
    fin_cases a
    · show j + 1 ≤ 4096; omega
    · show 0 + 8 ≤ 8; omega
    · show 0 + 4 ≤ 4; omega
    · show 0 + 64 ≤ 64; omega⟩ (start_at j hj)]
  pointwise

section Step

variable (j : ℕ) (hj : j < 4096) (s : State Ideal)

include hj in
/-- The state one step makes, at an index. -/
theorem b46_at (b : Fin 8) (h : Fin 4) (v k : Fin 64) :
    b46 j s (ix4 b h v k)
      = s.main_v13_7 (ix4 b h v k) * s.main_v13_3 (ix4 ⟨j, hj⟩ b h k)
          - (∑ k' : Fin 64, s.main_v13_7 (ix4 b h v k') * s.main_v13_4 (ix4 ⟨j, hj⟩ b h k'))
            * (s.main_v13_4 (ix4 ⟨j, hj⟩ b h k) * s.main_v13_5 (ix4 ⟨j, hj⟩ b h k))
        + s.main_v13_2 (ix4 ⟨j, hj⟩ b h v) * s.main_v13_1 (ix4 ⟨j, hj⟩ b h k) := by
  have e1 : ∀ k, b9 j s (ix3 b h k) = s.main_v13_1 (ix4 ⟨j, hj⟩ b h k) := row_at s.main_v13_1 j hj b h
  have e2 : ∀ k, b14 j s (ix3 b h k) = s.main_v13_2 (ix4 ⟨j, hj⟩ b h k) := row_at s.main_v13_2 j hj b h
  have e3 : ∀ k, b19 j s (ix3 b h k) = s.main_v13_3 (ix4 ⟨j, hj⟩ b h k) := row_at s.main_v13_3 j hj b h
  have e4 : ∀ k, b24 j s (ix3 b h k) = s.main_v13_4 (ix4 ⟨j, hj⟩ b h k) := row_at s.main_v13_4 j hj b h
  have e5 : ∀ k, b29 j s (ix3 b h k) = s.main_v13_5 (ix4 ⟨j, hj⟩ b h k) := row_at s.main_v13_5 j hj b h
  unfold b46 b45 b44 b43 b42 b41 b40 b39 b38 b37 b36 b35 b34 b33 b32 b31 b30
  pointwise
  simp only [e1, e2, e3, e4, e5]

include hj in
/-- The outputs of one step, at an index. -/
theorem b47_at (b : Fin 8) (h : Fin 4) (v : Fin 64) :
    b47 j s (ix3 b h v) = ∑ k' : Fin 64, b46 j s (ix4 b h v k') * s.main_v13_0 (ix4 ⟨j, hj⟩ b h k') := by
  have e0 : ∀ k, b4 j s (ix3 b h k) = s.main_v13_0 (ix4 ⟨j, hj⟩ b h k) := row_at s.main_v13_0 j hj b h
  unfold b47
  generalize b46 j s = S
  pointwise
  simp only [e0]

include hj in
/-- The array of outputs after one step, at an index: the step's row replaced. -/
theorem b52_at (T : Fin 4096) (b : Fin 8) (h : Fin 4) (v : Fin 64) :
    b52 j s (ix4 T b h v) = if T.val = j then b47 j s (ix3 b h v) else s.main_v13_8 (ix4 T b h v) := by
  have hf : S4096x8x4x64.Slices ![j, 0, 0, 0] S1x8x4x64 := ⟨rfl, fun a => by
    fin_cases a
    · show j + 1 ≤ 4096; omega
    · show 0 + 8 ≤ 8; omega
    · show 0 + 4 ≤ 4; omega
    · show 0 + 64 ≤ 64; omega⟩
  have e : b52 j s = updateSlice s.main_v13_8 (b48 j s) ![j, 0, 0, 0] hf := by
    refine Host.dynamicUpdateSlice_eq_updateSlice (s := S4096x8x4x64) (u := S1x8x4x64) s.main_v13_8 (b48 j s) _ _ ![j, 0, 0, 0] (fun a => ?_) hf
    refine (congrArg (fun q : ℤ => (min (max q 0) ((S4096x8x4x64.size a - S1x8x4x64.size a : ℕ) : ℤ)).toNat) (start_at j hj a)).trans ?_
    fin_cases a
    · show (min (max (j : ℤ) 0) ((4096 - 1 : ℕ) : ℤ)).toNat = j; omega
    · rfl
    · rfl
    · rfl
  rw [e]
  unfold b48
  generalize b47 j s = Y
  pointwise
  by_cases q : T.val = j
  · rw [if_pos q, dif_pos (by omega)]
  · rw [if_neg q, dif_neg (by omega)]

/-- The results at an index of the loop's last state. -/
theorem R17_at (b : Fin 8) (n v : Fin 64) (h : Fin 4) (l : Fin 64) :
    R_main_v17 s (ix4 b n v ⟨h.val * 64 + l.val, by omega⟩)
      = s.main_v13_8 (ix4 ⟨64 * n.val + l.val, by omega⟩ b h v) := by
  unfold R_main_v17
  pointwise
  blk_ext []

theorem R19_at (b : Fin 8) (v : Fin 64) (h : Fin 4) (l : Fin 64) :
    R_main_v19 s (ix3 b v ⟨h.val * 64 + l.val, by omega⟩) = s.main_v13_7 (ix4 b h v l) := by
  unfold R_main_v19
  pointwise
  blk_ext []

end Step

/-- An array's row as the loop finds it. -/
theorem in_at (A : FVec Ideal S8x4096x256 .f32) (T : Fin 4096) (b : Fin 8) (h : Fin 4) (k : Fin 64) :
    transpose S4096x8x4x64 [1, 0, 2, 3] (shapeCast S8x4096x4x64 A shapeCasts_S8x4096x256_S8x4096x4x64)
      transposes_S8x4096x4x64_S4096x8x4x64_1_0_2_3 (ix4 T b h k) = A (ix3 b T ⟨h.val * 64 + k.val, by omega⟩) := by
  pointwise
  blk_ext []

section Run

variable (m : (ℓ : Loc nD τ sig) → Buf (Elt Ideal) ℓ) (c : Dev nD)

/-- The loop's states. -/
def it : ℕ → State Ideal
  | 0 => RefRun.initState m c
  | n + 1 => step n (it n)

/-! The arguments. -/

abbrev A0 : FVec Ideal S8x4096x256 .f32 := m ((c.tc : Thread nD τ).loc main_arg0)
abbrev A1 : FVec Ideal S8x4096x256 .f32 := m ((c.tc : Thread nD τ).loc main_arg1)
abbrev A2 : FVec Ideal S8x4096x256 .f32 := m ((c.tc : Thread nD τ).loc main_arg2)
abbrev A3 : FVec Ideal S8x4096x256 .f32 := m ((c.tc : Thread nD τ).loc main_arg3)
abbrev A4 : FVec Ideal S8x4096x256 .f32 := m ((c.tc : Thread nD τ).loc main_arg4)
abbrev A5 : FVec Ideal S8x4096x256 .f32 := m ((c.tc : Thread nD τ).loc main_arg5)
abbrev A6 : FVec Ideal S8x4x64x64 .f32 := m ((c.tc : Thread nD τ).loc main_arg6)

theorem it_in (n : ℕ) (T : Fin 4096) (b : Fin 8) (h : Fin 4) (k : Fin 64) :
    (it m c n).main_v13_0 (ix4 T b h k) = A0 m c (ix3 b T ⟨h.val * 64 + k.val, by omega⟩)
    ∧ (it m c n).main_v13_1 (ix4 T b h k) = A2 m c (ix3 b T ⟨h.val * 64 + k.val, by omega⟩)
    ∧ (it m c n).main_v13_2 (ix4 T b h k) = A3 m c (ix3 b T ⟨h.val * 64 + k.val, by omega⟩)
    ∧ (it m c n).main_v13_3 (ix4 T b h k) = A1 m c (ix3 b T ⟨h.val * 64 + k.val, by omega⟩)
    ∧ (it m c n).main_v13_4 (ix4 T b h k) = A4 m c (ix3 b T ⟨h.val * 64 + k.val, by omega⟩)
    ∧ (it m c n).main_v13_5 (ix4 T b h k) = A5 m c (ix3 b T ⟨h.val * 64 + k.val, by omega⟩) := by
  induction n with
  | zero => exact ⟨in_at _ T b h k, in_at _ T b h k, in_at _ T b h k, in_at _ T b h k, in_at _ T b h k, in_at _ T b h k⟩
  | succ n ih => exact ih

/-- The initial state. -/
theorem it_zero : (it m c 0).main_v13_7 = A6 m c := rfl

/-- One step of the state, at an index, from the arguments. -/
theorem it_succ (n : ℕ) (hn : n < 4096) (b : Fin 8) (h : Fin 4) (v k : Fin 64) :
    (it m c (n + 1)).main_v13_7 (ix4 b h v k)
      = (it m c n).main_v13_7 (ix4 b h v k) * A1 m c (ix3 b ⟨n, hn⟩ ⟨h.val * 64 + k.val, by omega⟩)
          - (∑ k' : Fin 64, (it m c n).main_v13_7 (ix4 b h v k') * A4 m c (ix3 b ⟨n, hn⟩ ⟨h.val * 64 + k'.val, by omega⟩))
            * (A4 m c (ix3 b ⟨n, hn⟩ ⟨h.val * 64 + k.val, by omega⟩)
              * A5 m c (ix3 b ⟨n, hn⟩ ⟨h.val * 64 + k.val, by omega⟩))
        + A3 m c (ix3 b ⟨n, hn⟩ ⟨h.val * 64 + v.val, by omega⟩)
          * A2 m c (ix3 b ⟨n, hn⟩ ⟨h.val * 64 + k.val, by omega⟩) := by
  have e := fun k => it_in m c n ⟨n, hn⟩ b h k
  show b46 n (it m c n) (ix4 b h v k) = _
  rw [b46_at n hn, (e k).2.1, (e v).2.2.1, (e k).2.2.2.1, (e k).2.2.2.2.1, (e k).2.2.2.2.2]
  simp only [fun k => (e k).2.2.2.2.1]

/-- The outputs written so far, at an index. -/
theorem it_out (n : ℕ) (hn : n ≤ 4096) (T : Fin 4096) (hT : T.val < n) (b : Fin 8) (h : Fin 4) (v : Fin 64) :
    (it m c n).main_v13_8 (ix4 T b h v)
      = ∑ k' : Fin 64, (it m c (T.val + 1)).main_v13_7 (ix4 b h v k')
        * A0 m c (ix3 b T ⟨h.val * 64 + k'.val, by omega⟩) := by
  induction n with
  | zero => exact absurd hT (Nat.not_lt_zero _)
  | succ n ih =>
    show b52 n (it m c n) (ix4 T b h v) = _
    rw [b52_at n (by omega)]
    by_cases q : T.val = n
    · rw [if_pos q, b47_at n (by omega)]
      refine Finset.sum_congr rfl fun k' _ => ?_
      rw [(it_in m c n ⟨n, by omega⟩ b h k').1, q, show (⟨n, by omega⟩ : Fin 4096) = T from Fin.ext q.symm]
      rfl
    · rw [if_neg q]
      exact ih (by omega) (by omega)

end Run

end Cert.ReferenceIdeal.RefValue

end
-- ==== Proof.Join.lean ====
/- The kernel's arrays and the reference's are one: the two recurrences take the same step at every index, given finite
   arguments, and the results read the same states. -/
module

public import proofs.«01_k».proof.Defs
public import proofs.«01_k».proof.Proof.Sweep
public import proofs.«01_k».proof.Proof.RefValue

@[expose] public section

set_option maxRecDepth 65536

noncomputable section

namespace Cert.Join

open Idealize.ShloMosaic Idealize.ShloMosaic.TcCoe Idealize.SL.Sem
open Cert.KernelIdeal.Scan (rc ln Real1 rowX stAt kka)

/-! What the precondition says of an entry. -/

/-- The pattern of positive infinity reads as the top element. -/
theorem ofBits_top : Ideal.ofBits .f32 0x7F800000#32 = ⊤ := by
  simp [Ideal.ofBits, Ideal.ieee]

/-- An entry whose absolute value is below infinity is a real number. -/
theorem real_of_lt (x : EReal) (h : Ideal.cmp .olt (max x (-x)) (Ideal.ofBits .f32 0x7F800000#32) = 1#1) : Real1 x := by
  rw [ofBits_top] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  have h1 : x ≠ ⊤ := fun e => by rw [e] at hlt; exact absurd hlt (by simp)
  have h2 : x ≠ ⊥ := fun e => by rw [e] at hlt; exact absurd hlt (by simp)
  exact ⟨x.toReal, (EReal.coe_toReal h1 h2).symm⟩

/-- The arguments' entries the recurrence reads, as extended reals. -/
def Finite (m : (ℓ : Loc Cert.KernelIdeal.nD Cert.KernelIdeal.τ Cert.KernelIdeal.sig) → Buf (Elt Ideal) ℓ)
    (c : Dev Cert.KernelIdeal.nD) : Prop :=
  (∀ i, Real1 ((m ((c.tc : Thread Cert.KernelIdeal.nD Cert.KernelIdeal.τ).loc Cert.KernelIdeal.main_arg1) : FVec Ideal Cert.KernelIdeal.S8x4096x256 .f32) i))
  ∧ (∀ i, Real1 ((m ((c.tc : Thread Cert.KernelIdeal.nD Cert.KernelIdeal.τ).loc Cert.KernelIdeal.main_arg2) : FVec Ideal Cert.KernelIdeal.S8x4096x256 .f32) i))
  ∧ (∀ i, Real1 ((m ((c.tc : Thread Cert.KernelIdeal.nD Cert.KernelIdeal.τ).loc Cert.KernelIdeal.main_arg3) : FVec Ideal Cert.KernelIdeal.S8x4096x256 .f32) i))
  ∧ (∀ i, Real1 ((m ((c.tc : Thread Cert.KernelIdeal.nD Cert.KernelIdeal.τ).loc Cert.KernelIdeal.main_arg4) : FVec Ideal Cert.KernelIdeal.S8x4096x256 .f32) i))
  ∧ (∀ i, Real1 ((m ((c.tc : Thread Cert.KernelIdeal.nD Cert.KernelIdeal.τ).loc Cert.KernelIdeal.main_arg5) : FVec Ideal Cert.KernelIdeal.S8x4096x256 .f32) i))
  ∧ (∀ i, Real1 ((m ((c.tc : Thread Cert.KernelIdeal.nD Cert.KernelIdeal.τ).loc Cert.KernelIdeal.main_arg6) : FVec Ideal Cert.KernelIdeal.S8x4x64x64 .f32) i))

theorem finite_of_pre [Cert.Pre_finite.Facts]
    (m : (ℓ : Loc Cert.KernelIdeal.nD Cert.KernelIdeal.τ Cert.KernelIdeal.sig) → Buf (Elt Ideal) ℓ)
    (h : Cert.Pre_KernelIdeal_finite m) (c : Dev Cert.KernelIdeal.nD) : Finite m c := by
  obtain ⟨h1, h2, h3, h4, h5, h6⟩ := h c
  exact ⟨fun i => real_of_lt _ (congrFun h1 i), fun i => real_of_lt _ (congrFun h2 i),
    fun i => real_of_lt _ (congrFun h3 i), fun i => real_of_lt _ (congrFun h4 i),
    fun i => real_of_lt _ (congrFun h5 i), fun i => real_of_lt _ (congrFun h6 i)⟩

/-! Every row and lane of the kernel's state is a sequence's value row and a head's key lane. -/

theorem rc_surj (r : Fin 512) : ∃ b v, r = rc b v :=
  ⟨⟨r.val / 64, by omega⟩, ⟨r.val % 64, by omega⟩, Fin.ext (by show r.val = r.val / 64 * 64 + r.val % 64; omega)⟩

theorem ln_surj (l : Fin 256) : ∃ h k, l = ln h k :=
  ⟨⟨l.val / 64, by omega⟩, ⟨l.val % 64, by omega⟩, Fin.ext (by show l.val = l.val / 64 * 64 + l.val % 64; omega)⟩

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments agree. -/
structure Agree : Prop where
  a0 : Cert.ReferenceIdeal.RefValue.A0 m' c = m ((c.tc : Thread Cert.KernelIdeal.nD Cert.KernelIdeal.τ).loc Cert.KernelIdeal.main_arg0)
  a1 : Cert.ReferenceIdeal.RefValue.A1 m' c = m ((c.tc : Thread Cert.KernelIdeal.nD Cert.KernelIdeal.τ).loc Cert.KernelIdeal.main_arg1)
  a2 : Cert.ReferenceIdeal.RefValue.A2 m' c = m ((c.tc : Thread Cert.KernelIdeal.nD Cert.KernelIdeal.τ).loc Cert.KernelIdeal.main_arg2)
  a3 : Cert.ReferenceIdeal.RefValue.A3 m' c = m ((c.tc : Thread Cert.KernelIdeal.nD Cert.KernelIdeal.τ).loc Cert.KernelIdeal.main_arg3)
  a4 : Cert.ReferenceIdeal.RefValue.A4 m' c = m ((c.tc : Thread Cert.KernelIdeal.nD Cert.KernelIdeal.τ).loc Cert.KernelIdeal.main_arg4)
  a5 : Cert.ReferenceIdeal.RefValue.A5 m' c = m ((c.tc : Thread Cert.KernelIdeal.nD Cert.KernelIdeal.τ).loc Cert.KernelIdeal.main_arg5)
  a6 : Cert.ReferenceIdeal.RefValue.A6 m' c = m ((c.tc : Thread Cert.KernelIdeal.nD Cert.KernelIdeal.τ).loc Cert.KernelIdeal.main_arg6)

/-- The kernel's state is the reference's after every number of steps, and every entry of it is a real number. -/
theorem state_eq (hf : Finite m c) (ha : Agree m m' c) (n : ℕ) (hn : n ≤ 4096) (b : Fin 8) (v : Fin 64) (h : Fin 4)
    (k : Fin 64) :
    stAt m c n (ix2 (rc b v) (ln h k)) = (Cert.ReferenceIdeal.RefValue.it m' c n).main_v13_7 (ix4 b h v k)
      ∧ Real1 (stAt m c n (ix2 (rc b v) (ln h k))) := by
  obtain ⟨f1, f2, f3, f4, f5, f6⟩ := hf
  induction n generalizing b v h k with
  | zero =>
    rw [Cert.KernelIdeal.Scan.init_at, Cert.ReferenceIdeal.RefValue.it_zero, ha.a6]
    exact ⟨rfl, f6 _⟩
  | succ n ih =>
    have hs : ∀ r l, Real1 (stAt m c n (ix2 r l)) := fun r l => by
      obtain ⟨b, v, rfl⟩ := rc_surj r
      obtain ⟨h, k, rfl⟩ := ln_surj l
      exact (ih (by omega) b v h k).2
    have hT : (Fin.ofNat 4096 n : Fin 4096) = ⟨n, by omega⟩ := Fin.ext (Nat.mod_eq_of_lt (by omega))
    have e := Cert.KernelIdeal.Scan.stepS_at
      (rowX (m ((c.tc : Thread Cert.KernelIdeal.nD Cert.KernelIdeal.τ).loc Cert.KernelIdeal.main_arg4)) n)
      (rowX (m ((c.tc : Thread Cert.KernelIdeal.nD Cert.KernelIdeal.τ).loc Cert.KernelIdeal.main_arg3)) n)
      (rowX (m ((c.tc : Thread Cert.KernelIdeal.nD Cert.KernelIdeal.τ).loc Cert.KernelIdeal.main_arg1)) n)
      (rowX (kka m c) n)
      (rowX (m ((c.tc : Thread Cert.KernelIdeal.nD Cert.KernelIdeal.τ).loc Cert.KernelIdeal.main_arg2)) n)
      (stAt m c n) hs (fun b l => f4 _) b v h k
    have e1 : stAt m c (n + 1) (ix2 (rc b v) (ln h k)) = _ := e
    constructor
    · rw [e1, Cert.ReferenceIdeal.RefValue.it_succ m' c n (by omega) b h v k, ← (ih (by omega) b v h k).1,
        ha.a1, ha.a2, ha.a3, ha.a4, ha.a5]
      simp only [← fun k' => (ih (by omega) b v h k').1]
      unfold rowX
      rw [hT]
      rfl
    · rw [e1]
      exact (((hs _ _).mul (f1 _)).sub ((Real1.sum _ _ (fun k' => (hs _ _).mul (f4 _))).mul
        ((f4 _).mul (f5 _)))).add ((f3 _).mul (f2 _))

/-- The outputs agree. -/
theorem out_eq (hf : Finite m c) (ha : Agree m m' c) :
    Cert.ReferenceIdeal.Step.R_main_v17 (Cert.ReferenceIdeal.RefValue.it m' c 4096) = Cert.KernelIdeal.Value.G7 m c := by
  funext i
  obtain ⟨b, n, v, l, rfl⟩ : ∃ (b : Fin 8) (n v : Fin 64) (l : Fin 256), i = ix4 b n v l :=
    ⟨i 0, i 1, i 2, i 3, by blk_ext []⟩
  obtain ⟨h, l, rfl⟩ := ln_surj l
  rw [Cert.KernelIdeal.Scan.G7_at]
  refine (Cert.ReferenceIdeal.RefValue.R17_at 0 _ b n v h l).trans ?_
  rw [Cert.ReferenceIdeal.RefValue.it_out m' c 4096 le_rfl ⟨64 * n.val + l.val, by omega⟩ (by show 64 * n.val + l.val < 4096; omega) b h v, ha.a0]
  have hT : (Fin.ofNat 4096 (64 * n.val + l.val) : Fin 4096) = ⟨64 * n.val + l.val, by omega⟩ :=
    Fin.ext (Nat.mod_eq_of_lt (by omega))
  unfold Cert.KernelIdeal.Scan.Yt
  rw [hT]
  refine Finset.sum_congr rfl fun k' _ => ?_
  rw [← (state_eq m m' c hf ha (64 * n.val + l.val + 1) (by omega) b v h k').1]

/-- The final states agree. -/
theorem fin_eq (hf : Finite m c) (ha : Agree m m' c) :
    Cert.ReferenceIdeal.Step.R_main_v19 (Cert.ReferenceIdeal.RefValue.it m' c 4096) = Cert.KernelIdeal.Value.G8 m c := by
  funext i
  obtain ⟨b, v, l, rfl⟩ : ∃ (b : Fin 8) (v : Fin 64) (l : Fin 256), i = ix3 b v l :=
    ⟨i 0, i 1, i 2, by blk_ext []⟩
  obtain ⟨h, l, rfl⟩ := ln_surj l
  rw [Cert.KernelIdeal.Scan.G8_at, (state_eq m m' c hf ha 4096 le_rfl b v h l).1]
  exact Cert.ReferenceIdeal.RefValue.R19_at 0 _ b v h l

end Cert.Join

end
-- ==== Proof.MoeBody.lean ====
/- The experts' kernel body at one grid point, on symbolic staging memrefs: what it leaves in the output block and in the
   two weight scratches, as functions of the blocks and table words it reads. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.VecWindow
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource the triples are stated over. -/
local notation "𝕄" => MT nD τ sig Unit (Elt F) ℕ (UR sig nD τ) ℕ

/-- The experts' table, the count of blocks in use and the two weight scratches, whole. -/
abbrev tbl : Memref sig .tc .smem S288 .i32 := Memref.whole main_arg0
abbrev cnt : Memref sig .tc .smem S1 .i32 := Memref.whole main_arg1
abbrev scU : Memref sig .tc .vmem S1024x2048 .bf16 := Memref.whole cc0_scratch0
abbrev scD : Memref sig .tc .vmem S1024x1024 .bf16 := Memref.whole cc0_scratch1

/-- The words the body reads at a point: the point's expert, the expert of the point before, the count. -/
abbrev wCur (T : S288.Idx → BitVec 32) (i : grid0.Coords) : BitVec 32 :=
  T ((Rect.unit (s := S288) (k0_off1 i) S1.size (k0_off1_inb i)).emb (Shape.Idx.first (numel1_S1.symm ▸ Nat.one_pos)))
abbrev wPrev (T : S288.Idx → BitVec 32) (i : grid0.Coords) : BitVec 32 :=
  T ((Rect.unit (s := S288) (k0_off2 i) S1.size (k0_off2_inb i)).emb (Shape.Idx.first (numel1_S1.symm ▸ Nat.one_pos)))
abbrev wCnt (N : S1.Idx → BitVec 32) : BitVec 32 :=
  N ((Rect.unit (s := S1) ![0] S1.size inb_S1_S1_0).emb (Shape.Idx.first (numel1_S1.symm ▸ Nat.one_pos)))

/-- The point loads its expert's weights into the scratches: it is the first, or its expert is not the one before's. -/
abbrev Loads (T : S288.Idx → BitVec 32) (i : grid0.Coords) : Prop :=
  Scalar.cmpi .ne (Scalar.extui (Scalar.ori (Scalar.cmpi .eq (BitVec.ofNat 32 (i 0).val) 0#32) (Scalar.cmpi .ne (wCur T i) (wPrev T i)))) 0#32 = 1#1

/-- The point's block is in use. -/
abbrev Used (N : S1.Idx → BitVec 32) (i : grid0.Coords) : Prop := k0_cond2 i (wCnt N) = 1#1

/-- A one-bit word widened is not zero exactly when it is one. -/
theorem ne_zero_ext : ∀ b : BitVec 1, (Scalar.cmpi .ne (Scalar.extui b) 0#32 = 1#1) ↔ b = 1#1 := by decide

theorem ofBool_one : ∀ b : Bool, BitVec.ofBool b = 1#1 ↔ b = true := by decide

theorem cond2_iff (i : grid0.Coords) (v : BitVec 32) : k0_cond2 i v = 1#1 ↔ (BitVec.ofNat 32 (i 0).val).slt v = true :=
  (ne_zero_ext _).trans (ofBool_one _)

theorem cond3_iff (i : grid0.Coords) (v : BitVec 32) : k0_cond3 i v = 1#1 ↔ v.sle (BitVec.ofNat 32 (i 0).val) = true :=
  (ne_zero_ext _).trans (ofBool_one _)

/-- The body's two block conditions are each other's negation. -/
theorem cond3_iff_not (i : grid0.Coords) (v : BitVec 32) : k0_cond3 i v = 1#1 ↔ ¬ k0_cond2 i v = 1#1 := by
  rw [cond2_iff, cond3_iff, BitVec.sle_iff_toInt_le, BitVec.slt_iff_toInt_lt]; omega

theorem pay3_congr {v v' : Vec F S512x1024 .bf16} {a a' : Vec F S1024x2048 .bf16} {b b' : Vec F S1x1x2048 .f32}
    {e e' : Vec F S1024x1024 .bf16} {g g' : Vec F S1x1x1024 .f32} (h1 : v = v') (h2 : a = a') (h3 : b = b') (h4 : e = e') (h5 : g = g') :
    k0_pay3 v a b e g = k0_pay3 v' a' b' e' g' := by subst h1 h2 h3 h4 h5; rfl

/-- A whole buffer after one store of its own sizes holds the payload. -/
theorem writes_whole (b : Ref sig .tc) (f : b.ty.Contents (Elt F)) {off : Fin b.ty.shape.rank → ℕ}
    (inb : ∀ a, off a + b.ty.shape.size a ≤ b.ty.shape.size a) (w : b.ty.Contents (Elt F)) :
    (View.whole b).writes (Elt F) f [⟨Rect.unit off b.ty.shape.size inb, w⟩] = w :=
  (View.read_whole b _).symm.trans (View.read_writes_full (View.whole b) f inb w [])

theorem held_congr {ℓ : Loc nD τ sig} {f g : Buf (Elt F) ℓ} (h : f = g) :
    (ℓ ↦{fullShare} f : sProp 𝕄) ⊢ (ℓ ↦{fullShare} g) := by subst h; iintro H; iexact H

/-- A weight scratch after its one store of a loaded block. -/
theorem scU_end (c : Dev nD) (a : Memref sig .tc .vmem S1x1024x2048 .f32) (w : S1x1024x2048.Idx → Elt F .f32) :
    (scU.view.loc (c : Thread nD τ) ↦{fullShare} scU.view.writes (Elt F) scU.view.junk
        [⟨Rect.unit (s := S1024x2048) ![0, 0] S1024x2048.size inb_S1024x2048_S1024x2048_0_0,
          k0_pay1 (a.view.readAt (Elt F) (Rect.unit (s := S1x1024x2048) ![0, 0, 0] S1x1024x2048.size inb_S1x1024x2048_S1x1024x2048_0_0_0).toLoadRect (a.view.rep w))⟩] : sProp 𝕄)
      ⊢ (scU.view.loc (c : Thread nD τ) ↦{fullShare} k0_pay1 w) := by
  rw [View.readAt_rep_full]
  have e := writes_whole (F := F) cc0_scratch0 scU.view.junk inb_S1024x2048_S1024x2048_0_0 (k0_pay1 w)
  exact held_congr e

theorem scD_end (c : Dev nD) (a : Memref sig .tc .vmem S1x1024x1024 .f32) (w : S1x1024x1024.Idx → Elt F .f32) :
    (scD.view.loc (c : Thread nD τ) ↦{fullShare} scD.view.writes (Elt F) scD.view.junk
        [⟨Rect.unit (s := S1024x1024) ![0, 0] S1024x1024.size inb_S1024x1024_S1024x1024_0_0,
          k0_pay2 (a.view.readAt (Elt F) (Rect.unit (s := S1x1024x1024) ![0, 0, 0] S1x1024x1024.size inb_S1x1024x1024_S1x1024x1024_0_0_0).toLoadRect (a.view.rep w))⟩] : sProp 𝕄)
      ⊢ (scD.view.loc (c : Thread nD τ) ↦{fullShare} k0_pay2 w) := by
  rw [View.readAt_rep_full]
  have e := writes_whole (F := F) cc0_scratch1 scD.view.junk inb_S1024x1024_S1024x1024_0_0 (k0_pay2 w)
  exact held_congr e

set_option backward.proofsInPublic true in
set_option maxHeartbeats 8000000 in
/-- The body at a point: the scratches reloaded where the expert changed, the output block computed from them where it is in
    use and zero elsewhere. -/
theorem body_wp (c : Dev nD) (i : grid0.Coords) (a3 : Memref sig .tc .vmem S512x1024 .bf16) (h3 : a3.IsWhole)
    (a4 : Memref sig .tc .vmem S1x1024x2048 .f32) (h4 : a4.IsWhole) (a5 : Memref sig .tc .vmem S1x1x2048 .f32) (h5 : a5.IsWhole)
    (a6 : Memref sig .tc .vmem S1x1024x1024 .f32) (h6 : a6.IsWhole) (a7 : Memref sig .tc .vmem S1x1x1024 .f32) (h7 : a7.IsWhole)
    (a8 : Memref sig .tc .vmem S512x1024 .f32) (h8 : a8.IsWhole) (T : S288.Idx → Elt F .i32) (N : S1.Idx → Elt F .i32)
    (x : S512x1024.Idx → Elt F .bf16) (wu : S1x1024x2048.Idx → Elt F .f32) (bu : S1x1x2048.Idx → Elt F .f32)
    (wd : S1x1024x1024.Idx → Elt F .f32) (bd : S1x1x1024.Idx → Elt F .f32)
    (u : S1024x2048.Idx → Elt F .bf16) (d : S1024x1024.Idx → Elt F .bf16) (K : PUnit → sProp 𝕄) :
    iprop(owns (c : Thread nD τ) a3 fullShare x ∗ owns (c : Thread nD τ) a4 fullShare wu ∗ owns (c : Thread nD τ) a5 fullShare bu
        ∗ owns (c : Thread nD τ) a6 fullShare wd ∗ owns (c : Thread nD τ) a7 fullShare bd
        ∗ (tbl.view.loc (c : Thread nD τ) ↦{fullShare.right} T) ∗ (cnt.view.loc (c : Thread nD τ) ↦{fullShare.right} N)
        ∗ (∃ y, owns (c : Thread nD τ) a8 fullShare y)
        ∗ (scU.view.loc (c : Thread nD τ) ↦{fullShare} u) ∗ (scD.view.loc (c : Thread nD τ) ↦{fullShare} d)
        ∗ (iprop(owns (c : Thread nD τ) a3 fullShare x ∗ owns (c : Thread nD τ) a4 fullShare wu ∗ owns (c : Thread nD τ) a5 fullShare bu
              ∗ owns (c : Thread nD τ) a6 fullShare wd ∗ owns (c : Thread nD τ) a7 fullShare bd
              ∗ (tbl.view.loc (c : Thread nD τ) ↦{fullShare.right} T) ∗ (cnt.view.loc (c : Thread nD τ) ↦{fullShare.right} N)
              ∗ owns (c : Thread nD τ) a8 fullShare
                  (if Used N i then k0_pay3 x (if Loads T i then k0_pay1 wu else u) bu (if Loads T i then k0_pay2 wd else d) bd
                    else (k0_pay4 : FVec F S512x1024 .f32))
              ∗ (scU.view.loc (c : Thread nD τ) ↦{fullShare} (if Loads T i then k0_pay1 wu else u))
              ∗ (scD.view.loc (c : Thread nD τ) ↦{fullShare} (if Loads T i then k0_pay2 wd else d))) -∗ K ⟨⟩))
      ⊢ wp frame (wpE (defs₀ (F := F)) Variants.none c none) Set.univ
          (cc0_moe_experts i tbl (Memref.isWhole_whole _) cnt (Memref.isWhole_whole _) a3 h3 a4 h4 a5 h5 a6 h6 a7 h7 a8 h8
            scU (Memref.isWhole_whole _) scD (Memref.isWhole_whole _)) K := by
  have hS0 : scU.IsWhole := Memref.isWhole_whole _
  have hS1 : scD.IsWhole := Memref.isWhole_whole _
  have hT0 : tbl.IsWhole := Memref.isWhole_whole _
  have hT1 : cnt.IsWhole := Memref.isWhole_whole _
  rw [cc0_moe_experts_eq_skeleton]; unfold cc0_moe_experts_skel
  have off2 : (![0, 0] : Fin 2 → ℕ) = fun _ => 0 := by funext a; fin_cases a <;> rfl
  by_cases hl : Loads T i
  · by_cases hu : Used N i
    · have hn := fun h => (cond3_iff_not i _).1 h hu
      rewrite [if_pos hl, if_pos hl, if_pos hu]
      iintro ⟨H0, H1, H2, H3, H4, HT0, HT1, ⟨%y, HO⟩, HU, HD, Hk⟩
      ihave H0 := rep_of_owns $$ H0
      ihave H1 := rep_of_owns $$ H1
      ihave H2 := rep_of_owns $$ H2
      ihave H3 := rep_of_owns $$ H3
      ihave H4 := rep_of_owns $$ H4
      ihave HO := rep_of_owns $$ HO
      sl_exec! (disch := first | exact hl | exact hu | exact hn)
      sl_step
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [HO]
      · unfold owns; iexists _; isplitr; swap
        · iexact HO
        · ipureintro
          exact (View.read_writes_full a8.view _ _ _ _).trans (pay3_congr (View.readAt_rep_full _ _ _)
            ((View.readCov_full _ _ _ _ _).trans (congrArg k0_pay1 (View.readAt_rep_full _ _ _)))
            (View.readAt_rep_full _ _ _)
            ((View.readCov_full _ _ _ _ _).trans (congrArg k0_pay2 (View.readAt_rep_full _ _ _)))
            (View.readAt_rep_full _ _ _))
      isplitl [HU]
      · iapply (scU_end c a4 wu); iexact HU
      iapply (scD_end c a6 wd); iexact HD
    · have hn := (cond3_iff_not i _).2 hu
      rewrite [if_pos hl, if_pos hl, if_neg hu]
      iintro ⟨H0, H1, H2, H3, H4, HT0, HT1, ⟨%y, HO⟩, HU, HD, Hk⟩
      ihave H0 := rep_of_owns $$ H0
      ihave H1 := rep_of_owns $$ H1
      ihave H2 := rep_of_owns $$ H2
      ihave H3 := rep_of_owns $$ H3
      ihave H4 := rep_of_owns $$ H4
      ihave HO := rep_of_owns $$ HO
      sl_exec! (disch := first | exact hl | exact hu | exact hn)
      sl_step
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [HO]
      · unfold owns; iexists _; isplitr; swap
        · iexact HO
        · ipureintro; exact View.read_writes_full a8.view _ _ _ _
      isplitl [HU]
      · iapply (scU_end c a4 wu); iexact HU
      iapply (scD_end c a6 wd); iexact HD
  · by_cases hu : Used N i
    · have hn := fun h => (cond3_iff_not i _).1 h hu
      rewrite [if_neg hl, if_neg hl, if_pos hu]
      iintro ⟨H0, H1, H2, H3, H4, HT0, HT1, ⟨%y, HO⟩, HU, HD, Hk⟩
      ihave H0 := rep_of_owns $$ H0
      ihave H1 := rep_of_owns $$ H1
      ihave H2 := rep_of_owns $$ H2
      ihave H3 := rep_of_owns $$ H3
      ihave H4 := rep_of_owns $$ H4
      ihave HO := rep_of_owns $$ HO
      sl_exec! (disch := first | exact hl | exact hu | exact hn)
      sl_step
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [HO]
      · unfold owns; iexists _; isplitr; swap
        · iexact HO
        · ipureintro
          exact (View.read_writes_full a8.view _ _ _ _).trans (pay3_congr (View.readAt_rep_full _ _ _)
            (Memref.readAt_unit_zero (Elt F) cc0_scratch0 off2 _ _)
            (View.readAt_rep_full _ _ _)
            (Memref.readAt_unit_zero (Elt F) cc0_scratch1 off2 _ _)
            (View.readAt_rep_full _ _ _))
      isplitl [HU]; · iexact HU
      iexact HD
    · have hn := (cond3_iff_not i _).2 hu
      rewrite [if_neg hl, if_neg hl, if_neg hu]
      iintro ⟨H0, H1, H2, H3, H4, HT0, HT1, ⟨%y, HO⟩, HU, HD, Hk⟩
      ihave H0 := rep_of_owns $$ H0
      ihave H1 := rep_of_owns $$ H1
      ihave H2 := rep_of_owns $$ H2
      ihave H3 := rep_of_owns $$ H3
      ihave H4 := rep_of_owns $$ H4
      ihave HO := rep_of_owns $$ HO
      sl_exec! (disch := first | exact hl | exact hu | exact hn)
      sl_step
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [HT0]; · iexact HT0
      isplitl [HT1]; · iexact HT1
      isplitl [HO]
      · unfold owns; iexists _; isplitr; swap
        · iexact HO
        · ipureintro; exact View.read_writes_full a8.view _ _ _ _
      isplitl [HU]; · iexact HU
      iexact HD

end Cert.Kernel2Ideal.Moe
-- ==== Proof.MoeRun.lean ====
/- The experts' kernel on the whole grid, at any tables whose experts' words are in range: the body leaves at every point a
   closed form of that point's blocks, whatever the points before loaded, and the launch ends with every array at what the
   grid wrote. -/
module

public import proofs.«01_k».proof.Proof.MoeBody

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource the triples are stated over. -/
local notation "𝕄" => MT nD τ sig Unit (Elt F) ℕ (UR sig nD τ) ℕ

/-- The pipeline's rounds, embedded whole. -/
abbrev EP : Emb (UR sig nD τ) 𝕄 := emb₁

/-! ## The tables -/

/-- Every word of the experts' table names one of the 64 experts. -/
def InRange (T : S288.Idx → BitVec 32) : Prop := ∀ j, (T j).toNat < 64

/-- The tables' contents in a memory. -/
def tabs (m : (ℓ : Loc nD τ sig) → Buf (Elt F) ℓ) : pre0.Contents (Elt F) := fun j => m (((0 : Dev nD) : Thread nD τ).loc (pre0.ref j))

abbrev tabE (m : (ℓ : Loc nD τ sig) → Buf (Elt F) ℓ) : S288.Idx → BitVec 32 := m (((0 : Dev nD) : Thread nD τ).loc main_arg0)
abbrev tabN (m : (ℓ : Loc nD τ sig) → Buf (Elt F) ℓ) : S1.Idx → BitVec 32 := m (((0 : Dev nD) : Thread nD τ).loc main_arg1)

theorem index1 (m : (ℓ : Loc nD τ sig) → Buf (Elt F) ℓ) (i : grid0.Coords) :
    cc0_transform_1 k0_off1_inb numel1_S1 (tabs m) i = ![(wCur (tabE m) i).toNat, 0, 0] := rfl
theorem index2 (m : (ℓ : Loc nD τ sig) → Buf (Elt F) ℓ) (i : grid0.Coords) :
    cc0_transform_2 k0_off1_inb numel1_S1 (tabs m) i = ![(wCur (tabE m) i).toNat, 0, 0] := rfl
theorem index3 (m : (ℓ : Loc nD τ sig) → Buf (Elt F) ℓ) (i : grid0.Coords) :
    cc0_transform_3 k0_off1_inb numel1_S1 (tabs m) i = ![(wCur (tabE m) i).toNat, 0, 0] := rfl
theorem index4 (m : (ℓ : Loc nD τ sig) → Buf (Elt F) ℓ) (i : grid0.Coords) :
    cc0_transform_4 k0_off1_inb numel1_S1 (tabs m) i = ![(wCur (tabE m) i).toNat, 0, 0] := rfl

/-- A whole block at an expert in range lies inside an array of 64 experts' blocks. -/
theorem block_in {n p q : ℕ} (hn : n < 64) (a : Fin 3) : (![n, 0, 0] a + 1) * ![1, p, q] a ≤ ![64, p, q] a := by
  fin_cases a
  · show (n + 1) * 1 ≤ 64; omega
  · show (0 + 1) * p ≤ p; omega
  · show (0 + 1) * q ≤ q; omega

theorem tabs_ok {m : (ℓ : Loc nD τ sig) → Buf (Elt F) ℓ} (hr : InRange (tabE m)) : ok0 (tabs m) :=
  ⟨fun i => ⟨fun a => by rw [index1]; exact block_in (hr _) a, .inl rfl⟩, fun i => ⟨fun a => by rw [index2]; exact block_in (hr _) a, .inl rfl⟩,
    fun i => ⟨fun a => by rw [index3]; exact block_in (hr _) a, .inl rfl⟩, fun i => ⟨fun a => by rw [index4]; exact block_in (hr _) a, .inl rfl⟩⟩

section
variable (m : (ℓ : Loc nD τ sig) → Buf (Elt F) ℓ) (ρ : Dev nD → PrngReg) (hr : InRange (tabE m))

/-- The pipeline at the memory's tables. -/
def adm : (pcfg0 (F := F)).Adm := ⟨tabs m, tabs_ok hr⟩
abbrev cfgM : Cfg sig Λ₀ := cfg0 (F := F) (adm m hr)
abbrev pcs : Fin 1 → Cfg sig Λ₀ := Pipeline.pin (pcfgs (F := F)) fun _ => adm m hr
abbrev crd (t : Fin (cfgM m hr).N) : (cfgM m hr).grid.Coords := (cfgM m hr).grid.coords t

/-- The memrefs the body is called at, and their wholeness. -/
abbrev st0 (t : Fin (cfgM m hr).N) : Memref sig .tc .vmem S512x1024 .bf16 := spec0_0.stage ((cfgM m hr).slots t (0 : Fin 6))
abbrev sw0 (t : Fin (cfgM m hr).N) : (st0 m hr t).IsWhole := hstage0_0 (((cfgM m hr).slots t (0 : Fin 6)).cast nbuf0_0)
abbrev st1 (t : Fin (cfgM m hr).N) : Memref sig .tc .vmem S1x1024x2048 .f32 := spec0_1.stage ((cfgM m hr).slots t (1 : Fin 6))
abbrev sw1 (t : Fin (cfgM m hr).N) : (st1 m hr t).IsWhole := hstage0_1 (((cfgM m hr).slots t (1 : Fin 6)).cast nbuf0_1)
abbrev st2 (t : Fin (cfgM m hr).N) : Memref sig .tc .vmem S1x1x2048 .f32 := spec0_2.stage ((cfgM m hr).slots t (2 : Fin 6))
abbrev sw2 (t : Fin (cfgM m hr).N) : (st2 m hr t).IsWhole := hstage0_2 (((cfgM m hr).slots t (2 : Fin 6)).cast nbuf0_2)
abbrev st3 (t : Fin (cfgM m hr).N) : Memref sig .tc .vmem S1x1024x1024 .f32 := spec0_3.stage ((cfgM m hr).slots t (3 : Fin 6))
abbrev sw3 (t : Fin (cfgM m hr).N) : (st3 m hr t).IsWhole := hstage0_3 (((cfgM m hr).slots t (3 : Fin 6)).cast nbuf0_3)
abbrev st4 (t : Fin (cfgM m hr).N) : Memref sig .tc .vmem S1x1x1024 .f32 := spec0_4.stage ((cfgM m hr).slots t (4 : Fin 6))
abbrev sw4 (t : Fin (cfgM m hr).N) : (st4 m hr t).IsWhole := hstage0_4 (((cfgM m hr).slots t (4 : Fin 6)).cast nbuf0_4)
abbrev st5 (t : Fin (cfgM m hr).N) : Memref sig .tc .vmem S512x1024 .f32 := spec0_5.stage ((cfgM m hr).slots t (5 : Fin 6))
abbrev sw5 (t : Fin (cfgM m hr).N) : (st5 m hr t).IsWhole := hstage0_5 (((cfgM m hr).slots t (5 : Fin 6)).cast nbuf0_5)

/-- Window `w`'s block of its array at point `t`. -/
def blkAt (c : Dev nD) (w : Fin (cfgM m hr).W) (t : Fin (cfgM m hr).N) :
    (((cfgM m hr).win w).xblock (crd m hr t)).Idx → Elt F ((cfgM m hr).win w).elt :=
  (((cfgM m hr).win w).blk t).view.read (Elt F) ((s₀ m ρ).mem (((cfgM m hr).win w).arr.view.loc (c : Thread nD τ)))

/-- The two weights of point `t`'s expert, as the scratches hold them, -/
abbrev wU (c : Dev nD) (t : Fin (cfgM m hr).N) : S1024x2048.Idx → Elt F .bf16 := k0_pay1 (blkAt m ρ hr c (1 : Fin 6) t)
abbrev wD (c : Dev nD) (t : Fin (cfgM m hr).N) : S1024x1024.Idx → Elt F .bf16 := k0_pay2 (blkAt m ρ hr c (3 : Fin 6) t)

/-- and the block the point writes. -/
abbrev outAt (c : Dev nD) (t : Fin (cfgM m hr).N) : S512x1024.Idx → Elt F .f32 :=
  if Used (tabN m) (crd m hr t) then
    k0_pay3 (blkAt m ρ hr c (0 : Fin 6) t) (wU m ρ hr c t) (blkAt m ρ hr c (2 : Fin 6) t) (wD m ρ hr c t) (blkAt m ρ hr c (4 : Fin 6) t)
  else (k0_pay4 : FVec F S512x1024 .f32)

/-- Before position `n` the scratches hold the weights of the expert of the point before, once there is one; the tables stay. -/
def Phi (c : Dev nD) (n : Fin ((cfgM m hr).N + 1)) : sProp 𝕄 :=
  iprop((∃ a, ⌜∀ t : Fin (cfgM m hr).N, t.val + 1 = n.val → a = wU m ρ hr c t⌝ ∗ (scU.view.loc (c : Thread nD τ) ↦{fullShare} a))
    ∗ (∃ a, ⌜∀ t : Fin (cfgM m hr).N, t.val + 1 = n.val → a = wD m ρ hr c t⌝ ∗ (scD.view.loc (c : Thread nD τ) ↦{fullShare} a))
    ∗ (tbl.view.loc (c : Thread nD τ) ↦{fullShare.right} (tabE m : S288.Idx → Elt F .i32))
    ∗ (cnt.view.loc (c : Thread nD τ) ↦{fullShare.right} (tabN m : S1.Idx → Elt F .i32)))

/-- What the pipeline carries from point to point. -/
def dats (_ : Fin 1) (c : Dev nD) : Dat τ (Elt F) Unit ℕ (UR sig nD τ) ℕ (cfgM m hr) c where
  A w := (s₀ m ρ).mem (((cfgM m hr).win w).arr.view.loc (c : Thread nD τ))
  after w t := match w with
    | ⟨0, _⟩ => blkAt m ρ hr c (0 : Fin 6) t
    | ⟨1, _⟩ => blkAt m ρ hr c (1 : Fin 6) t
    | ⟨2, _⟩ => blkAt m ρ hr c (2 : Fin 6) t
    | ⟨3, _⟩ => blkAt m ρ hr c (3 : Fin 6) t
    | ⟨4, _⟩ => blkAt m ρ hr c (4 : Fin 6) t
    | ⟨5, _⟩ => outAt m ρ hr c t
  Φ n := Phi m ρ hr c n
  q _ := fullShare
  owed _ := 0

theorem after0 (c : Dev nD) (t : Fin (cfgM m hr).N) : (dats m ρ hr 0 c).after (0 : Fin 6) t = blkAt m ρ hr c (0 : Fin 6) t := rfl
theorem after1 (c : Dev nD) (t : Fin (cfgM m hr).N) : (dats m ρ hr 0 c).after (1 : Fin 6) t = blkAt m ρ hr c (1 : Fin 6) t := rfl
theorem after2 (c : Dev nD) (t : Fin (cfgM m hr).N) : (dats m ρ hr 0 c).after (2 : Fin 6) t = blkAt m ρ hr c (2 : Fin 6) t := rfl
theorem after3 (c : Dev nD) (t : Fin (cfgM m hr).N) : (dats m ρ hr 0 c).after (3 : Fin 6) t = blkAt m ρ hr c (3 : Fin 6) t := rfl
theorem after4 (c : Dev nD) (t : Fin (cfgM m hr).N) : (dats m ρ hr 0 c).after (4 : Fin 6) t = blkAt m ρ hr c (4 : Fin 6) t := rfl
theorem after5 (c : Dev nD) (t : Fin (cfgM m hr).N) : (dats m ρ hr 0 c).after (5 : Fin 6) t = outAt m ρ hr c t := rfl

/-- An input's buffer holds its block at every point, fetched there or before. -/
theorem before0 (c : Dev nD) (t : Fin (cfgM m hr).N) (d) : (dats m ρ hr 0 c).before (0 : Fin 6) t d = blkAt m ρ hr c (0 : Fin 6) t :=
  ((dats m ρ hr 0 c).before_in_eq_fetched (0 : Fin 6) rfl (fun _ => rfl) (fun _ _ _ => rfl) (fun t => by rw [after0]; unfold Dat.blockOf blkAt; rfl) t d).trans
    (by unfold Dat.fetched Dat.blockOf blkAt; rfl)
theorem before1 (c : Dev nD) (t : Fin (cfgM m hr).N) (d) : (dats m ρ hr 0 c).before (1 : Fin 6) t d = blkAt m ρ hr c (1 : Fin 6) t :=
  ((dats m ρ hr 0 c).before_in_eq_fetched (1 : Fin 6) rfl (fun _ => rfl) (fun _ _ _ => rfl) (fun t => by rw [after1]; unfold Dat.blockOf blkAt; rfl) t d).trans
    (by unfold Dat.fetched Dat.blockOf blkAt; rfl)
theorem before2 (c : Dev nD) (t : Fin (cfgM m hr).N) (d) : (dats m ρ hr 0 c).before (2 : Fin 6) t d = blkAt m ρ hr c (2 : Fin 6) t :=
  ((dats m ρ hr 0 c).before_in_eq_fetched (2 : Fin 6) rfl (fun _ => rfl) (fun _ _ _ => rfl) (fun t => by rw [after2]; unfold Dat.blockOf blkAt; rfl) t d).trans
    (by unfold Dat.fetched Dat.blockOf blkAt; rfl)
theorem before3 (c : Dev nD) (t : Fin (cfgM m hr).N) (d) : (dats m ρ hr 0 c).before (3 : Fin 6) t d = blkAt m ρ hr c (3 : Fin 6) t :=
  ((dats m ρ hr 0 c).before_in_eq_fetched (3 : Fin 6) rfl (fun _ => rfl) (fun _ _ _ => rfl) (fun t => by rw [after3]; unfold Dat.blockOf blkAt; rfl) t d).trans
    (by unfold Dat.fetched Dat.blockOf blkAt; rfl)
theorem before4 (c : Dev nD) (t : Fin (cfgM m hr).N) (d) : (dats m ρ hr 0 c).before (4 : Fin 6) t d = blkAt m ρ hr c (4 : Fin 6) t :=
  ((dats m ρ hr 0 c).before_in_eq_fetched (4 : Fin 6) rfl (fun _ => rfl) (fun _ _ _ => rfl) (fun t => by rw [after4]; unfold Dat.blockOf blkAt; rfl) t d).trans
    (by unfold Dat.fetched Dat.blockOf blkAt; rfl)

/-! ## A point that loads nothing finds its expert's weights in the scratches -/

/-- The grid's only coordinate is the position. -/
theorem coord_val : ∀ t : Fin grid0.N, (grid0.coords t 0).val = t.val := by decide +kernel

/-- The word before a point's is the one the point before reads as its own. -/
theorem prev_off : ∀ t u : Fin grid0.N, u.val + 1 = t.val → k0_off2 (grid0.coords t) = k0_off1 (grid0.coords u) := by
  have h : ∀ t : Fin grid0.N, k0_off2 (grid0.coords t) 0 = t.val - 1 := by decide +kernel
  have h' : ∀ t : Fin grid0.N, k0_off1 (grid0.coords t) 0 = t.val := by decide +kernel
  intro t u e
  funext a
  obtain rfl : a = 0 := Subsingleton.elim _ _
  rw [h, h']; omega

/-- Two table words at equal offsets are equal. -/
theorem word_congr (T : S288.Idx → BitVec 32) {o o' : Fin 1 → ℕ} (e : o = o') (h : ∀ a, o a + S1.size a ≤ S288.size a)
    (h' : ∀ a, o' a + S1.size a ≤ S288.size a) (k : S1.Idx) :
    T ((Rect.unit (s := S288) o S1.size h).emb k) = T ((Rect.unit (s := S288) o' S1.size h').emb k) := by subst e; rfl

theorem bit_or : ∀ a b : BitVec 1, ¬ Scalar.ori a b = 1#1 → a = 0#1 ∧ b = 0#1 := by decide

theorem not_loads (T : S288.Idx → BitVec 32) (t u : Fin grid0.N) (e : u.val + 1 = t.val) (hl : ¬ Loads T (grid0.coords t)) :
    wCur T (grid0.coords t) = wCur T (grid0.coords u) := by
  have h := (bit_or _ _ (fun hh => hl ((ne_zero_ext _).2 hh))).2
  have hw : wCur T (grid0.coords t) = wPrev T (grid0.coords t) := by
    by_contra hne
    have : Scalar.cmpi .ne (wCur T (grid0.coords t)) (wPrev T (grid0.coords t)) = 1#1 := by
      refine (ofBool_one _).2 ?_
      simpa [Scalar.cmpi] using hne
    rw [this] at h; exact absurd h (by decide)
  rw [hw]
  exact word_congr T (prev_off t u e) _ _ _

theorem loads_first (T : S288.Idx → BitVec 32) (t : Fin grid0.N) (e : t.val = 0) : Loads T (grid0.coords t) := by
  refine (ne_zero_ext _).2 ?_
  rw [coord_val t, e]
  generalize Scalar.cmpi .ne _ _ = b
  revert b; decide

/-- Blocks at one block index are one block. -/
theorem blkAt1 (c : Dev nD) (t u : Fin (cfgM m hr).N) (e : wCur (tabE m) (crd m hr t) = wCur (tabE m) (crd m hr u)) :
    (blkAt m ρ hr c (1 : Fin 6) t : S1x1024x2048.Idx → Elt F .f32) = blkAt m ρ hr c (1 : Fin 6) u :=
  (dats m ρ hr 0 c).fetched_congr (1 : Fin 6) (t := t) (t' := u)
    (show cc0_transform_1 k0_off1_inb numel1_S1 (tabs m) (crd m hr t) = cc0_transform_1 k0_off1_inb numel1_S1 (tabs m) (crd m hr u) by rw [index1, index1, e])
    rfl (Classical.arbitrary _)
theorem blkAt3 (c : Dev nD) (t u : Fin (cfgM m hr).N) (e : wCur (tabE m) (crd m hr t) = wCur (tabE m) (crd m hr u)) :
    (blkAt m ρ hr c (3 : Fin 6) t : S1x1024x1024.Idx → Elt F .f32) = blkAt m ρ hr c (3 : Fin 6) u :=
  (dats m ρ hr 0 c).fetched_congr (3 : Fin 6) (t := t) (t' := u)
    (show cc0_transform_3 k0_off1_inb numel1_S1 (tabs m) (crd m hr t) = cc0_transform_3 k0_off1_inb numel1_S1 (tabs m) (crd m hr u) by rw [index3, index3, e])
    rfl (Classical.arbitrary _)

theorem heldU (c : Dev nD) (t : Fin (cfgM m hr).N) (a : S1024x2048.Idx → Elt F .bf16)
    (ha : ∀ u : Fin (cfgM m hr).N, u.val + 1 = t.val → a = wU m ρ hr c u) :
    (if Loads (tabE m) (crd m hr t) then k0_pay1 (blkAt m ρ hr c (1 : Fin 6) t : S1x1024x2048.Idx → Elt F .f32) else a) = wU m ρ hr c t := by
  by_cases hl : Loads (tabE m) (crd m hr t)
  · rw [if_pos hl]
  · rw [if_neg hl]
    rcases Nat.eq_zero_or_pos t.val with h0 | h0
    · exact absurd (loads_first _ t h0) hl
    · rw [ha ⟨t.val - 1, by omega⟩ (Nat.sub_add_cancel h0)]
      unfold wU
      rw [blkAt1 m ρ hr c t ⟨t.val - 1, by omega⟩ (not_loads _ _ _ (Nat.sub_add_cancel h0) hl)]
theorem heldD (c : Dev nD) (t : Fin (cfgM m hr).N) (a : S1024x1024.Idx → Elt F .bf16)
    (ha : ∀ u : Fin (cfgM m hr).N, u.val + 1 = t.val → a = wD m ρ hr c u) :
    (if Loads (tabE m) (crd m hr t) then k0_pay2 (blkAt m ρ hr c (3 : Fin 6) t : S1x1024x1024.Idx → Elt F .f32) else a) = wD m ρ hr c t := by
  by_cases hl : Loads (tabE m) (crd m hr t)
  · rw [if_pos hl]
  · rw [if_neg hl]
    rcases Nat.eq_zero_or_pos t.val with h0 | h0
    · exact absurd (loads_first _ t h0) hl
    · rw [ha ⟨t.val - 1, by omega⟩ (Nat.sub_add_cancel h0)]
      unfold wD
      rw [blkAt3 m ρ hr c t ⟨t.val - 1, by omega⟩ (not_loads _ _ _ (Nat.sub_add_cancel h0) hl)]

/-- Every point stores its whole output block. -/
theorem live5 (i : grid0.Coords) : (cfgM m hr).idle (5 : Fin 6) i = false := by
  show (!(k0_cond2 i ((tabs m).atD 1 ![0]) == 1#1) && !(k0_cond3 i ((tabs m).atD 1 ![0]) == 1#1)) = false
  by_cases h : k0_cond2 i ((tabs m).atD 1 ![0]) = 1#1
  · rw [h]; rfl
  · rw [(cond3_iff_not i _).2 h]; simp

/-! ## The obligation -/

/-- The body at point `t`, as the pipeline calls it. -/
abbrev bodyAt (t : Fin (cfgM m hr).N) : Prog (TpuEff nD τ sig (Elt F) Λ₀ .tc) PUnit :=
  cc0_moe_experts (crd m hr t) tbl (Memref.isWhole_whole _) cnt (Memref.isWhole_whole _) (st0 m hr t) (sw0 m hr t) (st1 m hr t) (sw1 m hr t)
    (st2 m hr t) (sw2 m hr t) (st3 m hr t) (sw3 m hr t) (st4 m hr t) (sw4 m hr t) (st5 m hr t) (sw5 m hr t)
    scU (Memref.isWhole_whole _) scD (Memref.isWhole_whole _)

set_option maxHeartbeats 4000000 in
theorem sound_body (c : Dev nD) (t : Fin (cfgM m hr).N) :
    iprop((dats m ρ hr 0 c).Φ t.castSucc ∗ (dats m ρ hr 0 c).owesAt () t.castSucc
        ∗ (∃ d, owns (c : Thread nD τ) (st0 m hr t) fullShare ((dats m ρ hr 0 c).before (0 : Fin 6) t d))
        ∗ (∃ d, owns (c : Thread nD τ) (st1 m hr t) fullShare ((dats m ρ hr 0 c).before (1 : Fin 6) t d))
        ∗ (∃ d, owns (c : Thread nD τ) (st2 m hr t) fullShare ((dats m ρ hr 0 c).before (2 : Fin 6) t d))
        ∗ (∃ d, owns (c : Thread nD τ) (st3 m hr t) fullShare ((dats m ρ hr 0 c).before (3 : Fin 6) t d))
        ∗ (∃ d, owns (c : Thread nD τ) (st4 m hr t) fullShare ((dats m ρ hr 0 c).before (4 : Fin 6) t d))
        ∗ (∃ d, owns (c : Thread nD τ) (st5 m hr t) fullShare ((dats m ρ hr 0 c).before (5 : Fin 6) t d)))
      ⊢ wp frame (wpE (defs₀ (F := F)) Variants.none c none) Set.univ (bodyAt m hr t) fun _ =>
          iprop((dats m ρ hr 0 c).Φ t.succ ∗ (dats m ρ hr 0 c).owesAt () t.succ
            ∗ bigSep Finset.univ fun w : Fin (cfgM m hr).W =>
                match (cfgM m hr).idle w ((cfgM m hr).grid.coords t) with
                | true =>
                  match ((cfgM m hr).win w).flush t with
                  | false => iprop(∃ d, owns (c : Thread nD τ) (((cfgM m hr).win w).stage ((cfgM m hr).slots t w)) fullShare ((dats m ρ hr 0 c).before w t d))
                  | true => owns (c : Thread nD τ) (((cfgM m hr).win w).stage ((cfgM m hr).slots t w)) fullShare ((dats m ρ hr 0 c).after w t)
                | false => owns (c : Thread nD τ) (((cfgM m hr).win w).stage ((cfgM m hr).slots t w)) fullShare ((dats m ρ hr 0 c).after w t)) := by
  rw [bigSep_W0]
  rewrite [live5 m hr]
  simp only [before0, before1, before2, before3, before4, after0, after1, after2, after3, after4, after5]
  rewrite [show (dats m ρ hr 0 c).Φ t.succ = Phi m ρ hr c t.succ from rfl, show (dats m ρ hr 0 c).Φ t.castSucc = Phi m ρ hr c t.castSucc from rfl,
    show (dats m ρ hr 0 c).owesAt () t.succ = (dats m ρ hr 0 c).owesAt () t.castSucc from rfl]
  unfold Phi
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
  iapply (body_wp c (crd m hr t) (st0 m hr t) (sw0 m hr t) (st1 m hr t) (sw1 m hr t) (st2 m hr t) (sw2 m hr t) (st3 m hr t) (sw3 m hr t)
    (st4 m hr t) (sw4 m hr t) (st5 m hr t) (sw5 m hr t) (tabE m) (tabN m) (blkAt m ρ hr c (0 : Fin 6) t) (blkAt m ρ hr c (1 : Fin 6) t)
    (blkAt m ρ hr c (2 : Fin 6) t) (blkAt m ρ hr c (3 : Fin 6) t) (blkAt m ρ hr c (4 : Fin 6) t) a0 a1 _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [H5]; · iexists _; iexact H5
  isplitl [HS0]; · iexact HS0
  isplitl [HS1]; · iexact HS1
  rewrite [heldU m ρ hr c t a0 ha0, heldD m ρ hr c t a1 ha1]
  iintro ⟨H0, H1, H2, H3, H4, HT0, HT1, H5, HS0, HS1⟩
  isplitl [HS0 HS1 HT0 HT1]
  · isplitl [HS0]
    · iexists _; isplitr; swap
      · iexact HS0
      · ipureintro; intro u hu
        obtain rfl : u = t := Fin.ext (Nat.succ.inj hu)
        rfl
    isplitl [HS1]
    · iexists _; isplitr; swap
      · iexact HS1
      · ipureintro; intro u hu
        obtain rfl : u = t := Fin.ext (Nat.succ.inj hu)
        rfl
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats m ρ hr 0 c) (defs₀ (F := F)) Variants.none () Set.univ := fun t => by
  rw [bigSep_W0]
  exact sound_body m ρ hr c t

/-! ## The launch -/

/-- What the launch starts the staging cells with. -/
def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_full (c : Dev nD) (w : Fin (cfgM m hr).W) : (dats m ρ hr 0 c).share w = fullShare := by unfold Dat.share; split <;> rfl

/-- The region's tables, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem phi_first (c : Dev nD) :
    iprop(BI.emp ∗ Pipeline.prefHeld pre0 c (fun _ => fullShare.right) (adm m hr).1 ∗ Pipeline.scopedRest spec0 c) ⊢ (dats m ρ hr 0 c).Φ 0 := by
  rw [tables_held, scopedRest0_eq, show (dats m ρ hr 0 c).Φ 0 = Phi m ρ hr c 0 from rfl]
  unfold Phi
  iintro ⟨-, ⟨HT0, HT1⟩, ⟨%a0, HS0⟩, ⟨%a1, HS1⟩⟩
  isplitl [HS0]
  · iexists a0; isplitr; swap
    · iexact HS0
    · ipureintro; intro t h; exact absurd h (Nat.succ_ne_zero _)
  isplitl [HS1]
  · iexists a1; isplitr; swap
    · iexact HS1
    · ipureintro; intro t h; exact absurd h (Nat.succ_ne_zero _)
  obtain rfl : c = 0 := Subsingleton.elim _ _
  isplitl [HT0]
  · iexact HT0
  iexact HT1

theorem phi_last (c : Dev nD) : (dats m ρ hr 0 c).Φ (Fin.last (cfgM m hr).N) ⊢ iprop(BI.emp ∗ Pipeline.scopedRest spec0 c) := by
  rw [scopedRest0_eq, show (dats m ρ hr 0 c).Φ (Fin.last (cfgM m hr).N) = Phi m ρ hr c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- A final state: every array at what the grid wrote, every table as it was. -/
def Final : PUnit × MemSt nD τ sig (Elt F) → Prop := fun r =>
  ∀ c : Dev nD, (∀ w : Fin (cfgM m hr).W, r.2.mem (((cfgM m hr).win w).arr.view.loc (c : Thread nD τ)) = (dats m ρ hr 0 c).arrAt w (cfgM m hr).N)
    ∧ ∀ j, r.2.mem ((c : Thread nD τ).loc (pre0.ref j)) = (adm m hr).1 j

theorem tables_of (c : Dev nD) (j : Fin 2) : m ((c : Thread nD τ).loc (pre0.ref j)) = (adm m hr).1 j := by
  obtain rfl : c = 0 := Subsingleton.elim _ _
  rfl

set_option backward.isDefEq.respectTransparency.types false in
set_option maxHeartbeats 4000000 in
theorem run_main : θ_run (defs (F := F)) (onTc (τ := τ) (main (F := F))) (s₀ m ρ) (fun r => Final m ρ hr r ∧ r.2.sem = fun _ => 0) :=
  Pipeline.θ_run_region_noSem_pf_quiescent pcfgs (fun _ => adm m hr) (dats m ρ hr) () ((launch0 (F := F)).cellOf_inj fun _ => adm m hr) (0 : Fin 1)
    (launch0 (F := F)).win.to₀ (launch0 (F := F)).pre EP defs₀ Variants.none m ρ main
    (hbody := fun c => (body_obligation m ρ hr c).loose) (hne := (launch0 (F := F)).block_pos)
    (harr := (launch0 (F := F)).arr_whole) (hstage := (launch0 (F := F)).stage_whole) (howed := fun _ _ => rfl)
    (u₀ := u₀ m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m ρ hr) 0 (launch0 (F := F)).win.arr_inj c (launch0 (F := F)).arr_whole
      (share_full m ρ hr c) _ _ fun _ => rfl)
    (hpf := tables_of m hr)
    (X := fun _ => iprop(emp)) (Y := fun _ => iprop(emp)) (Z := fun _ => iprop(emp))
    (hX := fun c => by rw [unscopedRestP0_eq]; iintro -; isplitr <;> iempintro)
    (hin := phi_first m ρ hr)
    (hout := phi_last m ρ hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the grid leaves in the output array. -/
abbrev result (c : Dev nD) : Buf (Elt F) ((c : Thread nD τ).loc main_v0) := (dats m ρ hr 0 c).arrAt (5 : Fin 6) (cfgM m hr).N

/-- Every execution ends, with the output array at `result`, the arguments as they were and every counter at zero. -/
theorem run_post :
    θ_run (defs (F := F)) (onTc (τ := τ) (main (F := F))) ⟨m, fun _ => 0, ρ⟩ (fun r => (∀ c : Dev nD,
      r.2.mem ((c.tc : Thread nD τ).loc main_v0) = result m ρ hr c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 (5 : Fin 6), ((h.1 c).2 0).trans (tables_of m hr c 0).symm, ((h.1 c).2 1).trans (tables_of m hr c 1).symm,
    ((h.1 c).1 (0 : Fin 6)).trans ((dats m ρ hr 0 c).arrAt_in (0 : Fin 6) rfl _), ((h.1 c).1 (1 : Fin 6)).trans ((dats m ρ hr 0 c).arrAt_in (1 : Fin 6) rfl _),
    ((h.1 c).1 (2 : Fin 6)).trans ((dats m ρ hr 0 c).arrAt_in (2 : Fin 6) rfl _), ((h.1 c).1 (3 : Fin 6)).trans ((dats m ρ hr 0 c).arrAt_in (3 : Fin 6) rfl _),
    ((h.1 c).1 (4 : Fin 6)).trans ((dats m ρ hr 0 c).arrAt_in (4 : Fin 6) rfl _)⟩, h.2⟩) (run_main m ρ hr)

end
end Cert.Kernel2Ideal.Moe

end
-- ==== Proof.MoeFrame.lean ====
/- The experts' precondition says their words are in range; with it the kernel's frame, at the bits and on the ideal numbers. -/
module

public import proofs.«01_k».proof.Proof.MoeRun
public import proofs.«01_k».proof.Defs
public import proofs.«01_k».proof.Proof.Gen.Pre_experts
public import proofs.«01_k».proof.Proof.Gen.Kernel2

@[expose] public section

set_option maxRecDepth 16384
set_option Elab.async false

noncomputable section

namespace Cert.Kernel2Ideal.Moe

open Idealize.ShloMosaic Idealize.SL.Sem

theorem both_bits : ∀ a b : Bool, BitVec.ofBool a &&& BitVec.ofBool b = 1#1 → a = true ∧ b = true := by decide

theorem small_word (x : BitVec 32) (h0 : (0#32).sle x = true) (h1 : x.slt 64#32 = true) : x.toNat < 64 := by
  rw [BitVec.sle_iff_toInt_le] at h0
  rw [BitVec.slt_iff_toInt_lt] at h1
  have e : (64#32).toInt = 64 := by decide
  have e0 : (0#32).toInt = 0 := by decide
  rw [e] at h1; rw [e0] at h0
  rw [BitVec.toInt_eq_toNat_cond] at h0 h1
  have := x.isLt
  split at h0 <;> omega

theorem words_in {F : FTy → Type} [FloatOps F] [Cert.Pre_experts.Facts] (T : IVec S288 32) (N : IVec S1 32) (x : FVec F S147456x1024 .bf16)
    (wu : FVec F S64x1024x2048 .f32) (bu : FVec F S64x1x2048 .f32) (wd : FVec F S64x1024x1024 .f32) (bd : FVec F S64x1x1024 .f32)
    (h : Cert.Pre_experts.fn T N x wu bu wd bd = fun _ => 1#1) : InRange T := fun j =>
  have hj := both_bits _ _ (congrFun h j)
  small_word _ hj.1 hj.2

theorem frame_ideal (m : (ℓ : Loc nD τ sig) → Buf (Elt Ideal) ℓ) (ρ : Dev nD → PrngReg) (h : Cert.Pre_Kernel2Ideal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_post m ρ (words_in _ _ _ _ _ _ _ (h 0)))

/-! ## The programs at the bits and on the ideal numbers are one text, so the run read at the bits is the first one's. -/

theorem bodies_eq : Cert.Kernel2.defs₀ (F := Bits) = defs₀ (F := Bits) := by
  unfold Cert.Kernel2.defs₀ defs₀
  refine congrArg Defs.onTc (funext fun l => ?_)
  match l with
  | ⟨0, _⟩ => rfl

theorem defs_eq : Cert.Kernel2.defs (F := Bits) = defs (F := Bits) :=
  congrArg (fun d : Defs nD τ sig (Elt Bits) Λ₀ => Pipeline.defs (pcfgs (F := Bits)) d) bodies_eq

theorem frame_bits : Cert.quiescent_Kernel2 := fun m ρ h => by
  have hr : InRange (tabE (F := Bits) m) := words_in _ _ _ _ _ _ _ (h 0)
  have hf := (θ_run (defs (F := Bits)) _ _).mono (fun _ h => (⟨fun c => (h.1 c).2, h.2⟩ : _ ∧ _)) (run_post (F := Bits) m ρ hr)
  rw [← defs_eq] at hf
  exact hf

end Cert.Kernel2Ideal.Moe

end
-- ==== Proof.MoeExpert.lean ====
/- One expert's gated unit over the extended reals, row by row, and the kernel's block as it. -/
module

public import proofs.«01_k».proof.Proof.MoeRun
public import Idealize.ShloMosaic.Lib.Claim
public import Idealize.ShloMosaic.PureOps.Ideal
public import Idealize.ShloMosaic.Lib.Pointwise

@[expose] public section

set_option maxRecDepth 16384

noncomputable section

namespace Cert.Moe

open Idealize.ShloMosaic

/-- The hidden unit: row `x` through the expert's first weights, its bias added. -/
def hid (x : Fin 1024 → EReal) (w : Fin 1024 → Fin 2048 → EReal) (b : Fin 2048 → EReal) (j : Fin 2048) : EReal :=
  ∑ k, x k * w k j + b j

/-- The gate, cut above at seven, -/
def gate (h : Fin 2048 → EReal) (j : Fin 1024) : EReal := min (h ⟨j.val, by omega⟩) (Ideal.ofBits .f32 0x40E00000#32)

/-- the other half, cut to between minus seven and seven, -/
def lin (h : Fin 2048 → EReal) (j : Fin 1024) : EReal :=
  min (Ideal.ofBits .f32 0x40E00000#32) (max (Ideal.ofBits .f32 0xC0E00000#32) (h ⟨1024 + j.val, by omega⟩))

/-- and the activation of the two. -/
def act (h : Fin 2048 → EReal) (j : Fin 1024) : EReal :=
  (lin h j + 1) * gate h j * Ideal.logistic (Ideal.ofBits .f32 0x3FD9DB23#32 * gate h j)

/-- The expert's value of a row at an output column. -/
def expert (x : Fin 1024 → EReal) (wu : Fin 1024 → Fin 2048 → EReal) (bu : Fin 2048 → EReal) (wd : Fin 1024 → Fin 1024 → EReal)
    (bd : Fin 1024 → EReal) (c : Fin 1024) : EReal :=
  ∑ j, act (hid x wu bu) j * wd j c + bd c

end Cert.Moe

namespace Cert.Kernel2Ideal.Moe

open Cert.Kernel2Ideal Cert.Kernel2Ideal.Gen Idealize.ShloMosaic
open Cert.Moe

theorem pay1_at (wu : Vec Ideal S1x1024x2048 .f32) (k : Fin 1024) (j : Fin 2048) :
    k0_pay1 (F := Ideal) wu (ix2 k j) = wu (ix3 (0 : Fin 1) k j) := by
  unfold k0_pay1
  pointwise

theorem pay2_at (wd : Vec Ideal S1x1024x1024 .f32) (k : Fin 1024) (j : Fin 1024) :
    k0_pay2 (F := Ideal) wd (ix2 k j) = wd (ix3 (0 : Fin 1) k j) := by
  unfold k0_pay2
  pointwise

theorem pay3_at (x : Vec Ideal S512x1024 .bf16) (wu : Vec Ideal S1x1024x2048 .f32) (bu : Vec Ideal S1x1x2048 .f32)
    (wd : Vec Ideal S1x1024x1024 .f32) (bd : Vec Ideal S1x1x1024 .f32) (r : Fin 512) (c : Fin 1024) :
    k0_pay3 (F := Ideal) x (k0_pay1 wu) bu (k0_pay2 wd) bd (ix2 r c)
      = expert (fun k => x (ix2 r k)) (fun k j => wu (ix3 (0 : Fin 1) k j)) (fun j => bu (ix3 (0 : Fin 1) (0 : Fin 1) j))
          (fun j c => wd (ix3 (0 : Fin 1) j c)) (fun c => bd (ix3 (0 : Fin 1) (0 : Fin 1) c)) c := by
  unfold k0_pay3
  generalize hU : k0_pay1 (F := Ideal) wu = U
  generalize hD : k0_pay2 (F := Ideal) wd = D
  pointwise
  subst hU hD
  simp only [pay1_at, pay2_at]
  unfold expert act gate lin hid
  rfl

end Cert.Kernel2Ideal.Moe

end
-- ==== Proof.MoeValue.lean ====
/- The array the experts' kernel leaves, read at an index: a block's rows through the expert its word names, zero beyond the
   blocks in use. -/
module

public import proofs.«01_k».proof.Proof.MoeExpert
public import Idealize.ShloMosaic.Lib.ValueIdx
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.Kernel2Ideal.Moe

open Cert.Kernel2Ideal Cert.Kernel2Ideal.Gen Idealize.ShloMosaic
open Idealize.ShloMosaic.TcCoe
open Idealize.ShloMosaic.Pipeline (Dat Cfg Window)
open Cert.Moe

/-- A point's word is the table's at its position, -/
theorem wCur_at (T : S288.Idx → BitVec 32) (t : Fin grid0.N) (h : t.val < 288) : wCur T (grid0.coords t) = T (ix1 (⟨t.val, h⟩ : Fin 288)) := by
  have e : k0_off1 (grid0.coords t) = ![t.val] := (by decide +kernel : ∀ t : Fin grid0.N, k0_off1 (grid0.coords t) = ![t.val]) t
  refine congrArg T (funext fun a => Fin.ext ?_)
  obtain rfl : a = 0 := Subsingleton.elim _ _
  show k0_off1 (grid0.coords t) 0 + 1 * 0 = t.val
  rw [e]
  rfl

/-- and it is in use when its position lies below the count. -/
theorem used_iff (N : S1.Idx → BitVec 32) (t : Fin grid0.N) :
    Used N (grid0.coords t) ↔ (BitVec.ofNat 32 t.val).slt (N (ix1 (0 : Fin 1))) = true := by
  show k0_cond2 _ _ = 1#1 ↔ _
  rw [cond2_iff, coord_val]
  have : wCnt N = N (ix1 (0 : Fin 1)) := congrArg N (funext fun a => by obtain rfl : a = 0 := Subsingleton.elim _ _; rfl)
  rw [this]

section
variable (m : (ℓ : Loc nD τ sig) → Buf (Elt Ideal) ℓ) (ρ : Dev nD → PrngReg) (hr : InRange (tabE m)) (c : Dev nD)

theorem pos_lt (t : Fin (cfgM m hr).N) : t.val < 288 := lt_of_lt_of_eq t.isLt (by decide +kernel : grid0.N = 288)

/-- The expert of a point. -/
abbrev exOf (t : Fin 288) : Fin 64 := ⟨(tabE m (ix1 t)).toNat, hr _⟩

theorem place0 (t : Fin (cfgM m hr).N) : ((cfgM m hr).win (0 : Fin 6)).index t = ![t.val, 0] :=
  (by decide +kernel : ∀ t : Fin grid0.N, cc0_transform_0 (grid0.coords t) = ![t.val, 0]) t
theorem place5 (t : Fin (cfgM m hr).N) : ((cfgM m hr).win (5 : Fin 6)).index t = ![t.val, 0] :=
  (by decide +kernel : ∀ t : Fin grid0.N, cc0_transform_5 (grid0.coords t) = ![t.val, 0]) t
theorem place1 (t : Fin (cfgM m hr).N) : ((cfgM m hr).win (1 : Fin 6)).index t = ![(exOf m hr ⟨t.val, pos_lt m hr t⟩).val, 0, 0] := by
  refine (index1 m (crd m hr t)).trans ?_
  rw [wCur_at _ t (pos_lt m hr t)]
theorem place2 (t : Fin (cfgM m hr).N) : ((cfgM m hr).win (2 : Fin 6)).index t = ![(exOf m hr ⟨t.val, pos_lt m hr t⟩).val, 0, 0] := by
  refine (index2 m (crd m hr t)).trans ?_
  rw [wCur_at _ t (pos_lt m hr t)]
theorem place3 (t : Fin (cfgM m hr).N) : ((cfgM m hr).win (3 : Fin 6)).index t = ![(exOf m hr ⟨t.val, pos_lt m hr t⟩).val, 0, 0] := by
  refine (index3 m (crd m hr t)).trans ?_
  rw [wCur_at _ t (pos_lt m hr t)]
theorem place4 (t : Fin (cfgM m hr).N) : ((cfgM m hr).win (4 : Fin 6)).index t = ![(exOf m hr ⟨t.val, pos_lt m hr t⟩).val, 0, 0] := by
  refine (index4 m (crd m hr t)).trans ?_
  rw [wCur_at _ t (pos_lt m hr t)]

/-! ## The blocks -/

theorem blk0_at (t : Fin (cfgM m hr).N) (r : Fin 512) (k : Fin 1024) :
    (blkAt m ρ hr c (0 : Fin 6) t : Vec Ideal S512x1024 .bf16) (ix2 r k)
      = (m ((c : Thread nD τ).loc main_arg2) : Vec Ideal S147456x1024 .bf16) (ix2 (⟨t.val * 512 + r.val, by have := pos_lt m hr t; omega⟩ : Fin 147456) k) := by
  have e := place0 m hr t
  blk_ext [blkAt, e]

theorem blk1_at (t : Fin (cfgM m hr).N) (k : Fin 1024) (j : Fin 2048) :
    (blkAt m ρ hr c (1 : Fin 6) t : Vec Ideal S1x1024x2048 .f32) (ix3 (0 : Fin 1) k j)
      = (m ((c : Thread nD τ).loc main_arg3) : Vec Ideal S64x1024x2048 .f32) (ix3 (exOf m hr ⟨t.val, pos_lt m hr t⟩) k j) := by
  have e := place1 m hr t
  blk_ext [blkAt, e]

theorem blk2_at (t : Fin (cfgM m hr).N) (j : Fin 2048) :
    (blkAt m ρ hr c (2 : Fin 6) t : Vec Ideal S1x1x2048 .f32) (ix3 (0 : Fin 1) (0 : Fin 1) j)
      = (m ((c : Thread nD τ).loc main_arg4) : Vec Ideal S64x1x2048 .f32) (ix3 (exOf m hr ⟨t.val, pos_lt m hr t⟩) (0 : Fin 1) j) := by
  have e := place2 m hr t
  blk_ext [blkAt, e]

theorem blk3_at (t : Fin (cfgM m hr).N) (k : Fin 1024) (j : Fin 1024) :
    (blkAt m ρ hr c (3 : Fin 6) t : Vec Ideal S1x1024x1024 .f32) (ix3 (0 : Fin 1) k j)
      = (m ((c : Thread nD τ).loc main_arg5) : Vec Ideal S64x1024x1024 .f32) (ix3 (exOf m hr ⟨t.val, pos_lt m hr t⟩) k j) := by
  have e := place3 m hr t
  blk_ext [blkAt, e]

theorem blk4_at (t : Fin (cfgM m hr).N) (j : Fin 1024) :
    (blkAt m ρ hr c (4 : Fin 6) t : Vec Ideal S1x1x1024 .f32) (ix3 (0 : Fin 1) (0 : Fin 1) j)
      = (m ((c : Thread nD τ).loc main_arg6) : Vec Ideal S64x1x1024 .f32) (ix3 (exOf m hr ⟨t.val, pos_lt m hr t⟩) (0 : Fin 1) j) := by
  have e := place4 m hr t
  blk_ext [blkAt, e]

/-! ## The array -/

/-- Row `512 t + r` of the output, -/
def rowOut (t : Fin 288) (r : Fin 512) (col : Fin 1024) : EReal :=
  if (BitVec.ofNat 32 t.val).slt (tabN m (ix1 (0 : Fin 1))) = true then
    expert (fun k => (m ((c : Thread nD τ).loc main_arg2) : Vec Ideal S147456x1024 .bf16) (ix2 (⟨t.val * 512 + r.val, by omega⟩ : Fin 147456) k))
      (fun k j => (m ((c : Thread nD τ).loc main_arg3) : Vec Ideal S64x1024x2048 .f32) (ix3 (exOf m hr t) k j))
      (fun j => (m ((c : Thread nD τ).loc main_arg4) : Vec Ideal S64x1x2048 .f32) (ix3 (exOf m hr t) (0 : Fin 1) j))
      (fun k j => (m ((c : Thread nD τ).loc main_arg5) : Vec Ideal S64x1024x1024 .f32) (ix3 (exOf m hr t) k j))
      (fun j => (m ((c : Thread nD τ).loc main_arg6) : Vec Ideal S64x1x1024 .f32) (ix3 (exOf m hr t) (0 : Fin 1) j)) col
  else 0

/-- and the output whole. -/
def arrOut : Vec Ideal S147456x1024 .f32 := fun i =>
  rowOut m hr c ⟨(i 0).val / 512, by have : (i 0).val < 147456 := (i 0).isLt; omega⟩ ⟨(i 0).val % 512, Nat.mod_lt _ (by decide)⟩ (i 1)

theorem outAt_at (t : Fin (cfgM m hr).N) (r : Fin 512) (col : Fin 1024) :
    (outAt m ρ hr c t : Vec Ideal S512x1024 .f32) (ix2 r col) = rowOut m hr c ⟨t.val, pos_lt m hr t⟩ r col := by
  unfold rowOut
  have hu := used_iff (tabN m) t
  by_cases h : Used (tabN m) (crd m hr t)
  · rw [outAt, if_pos h, if_pos (hu.mp h), wU, wD, pay3_at]
    simp only [blk0_at, blk1_at, blk2_at, blk3_at, blk4_at]
  · rw [outAt, if_neg h, if_neg (fun h' => h (hu.mpr h'))]
    exact Ideal.ofBits_zero_f32

theorem result_eq : (result m ρ hr c : Vec Ideal S147456x1024 .f32) = arrOut m hr c := by
  refine (dats m ρ hr 0 c).arrAt_eq_of_covers (5 : Fin 6) _ (((cfgM m hr).win (5 : Fin 6)).covers_of_index_surj rfl (by decide : ∀ a : Fin 2, 0 < S512x1024.size a) fun β => ?_) fun t hf y => ?_
  · have h0 : (β (0 : Fin 2)).val < 288 := lt_of_lt_of_eq (β (0 : Fin 2)).isLt (by show (![147456, 1024] (0 : Fin 2) + ![512, 1024] (0 : Fin 2) - 1) / ![512, 1024] (0 : Fin 2) = 288; decide)
    have h1 : (β (1 : Fin 2)).val < 1 := lt_of_lt_of_eq (β (1 : Fin 2)).isLt (by show (![147456, 1024] (1 : Fin 2) + ![512, 1024] (1 : Fin 2) - 1) / ![512, 1024] (1 : Fin 2) = 1; decide)
    refine ⟨⟨(β (0 : Fin 2)).val, lt_of_lt_of_eq h0 (by decide +kernel : 288 = grid0.N)⟩, fun a => ?_⟩
    rw [place5]
    match a with
    | ⟨0, _⟩ => rfl
    | ⟨1, _⟩ => show 0 = (β (1 : Fin 2)).val; omega
  · have e := place5 m hr t
    have hy0 : (y (0 : Fin 2)).val < 512 := (y (0 : Fin 2)).isLt
    have e0 : ((((cfgM m hr).win (5 : Fin 6)).blk t).view.emb y (0 : Fin 2)).val = t.val * 512 + (y (0 : Fin 2)).val := by blk_simp [e]
    have e1 : ((((cfgM m hr).win (5 : Fin 6)).blk t).view.emb y (1 : Fin 2)).val = (y (1 : Fin 2)).val := by blk_simp [e]
    blk_simp
    rw [after5]
    generalize hz : (((cfgM m hr).win (5 : Fin 6)).blk t).view.emb y = z at e0 e1
    have hy : (y : S512x1024.Idx) = ix2 (⟨(y (0 : Fin 2)).val, hy0⟩ : Fin 512) (y (1 : Fin 2) : Fin 1024) := by
      funext a
      match a with
      | ⟨0, _⟩ => rfl
      | ⟨1, _⟩ => rfl
    refine (congrArg (outAt m ρ hr c t : Vec Ideal S512x1024 .f32) hy).trans ((outAt_at m ρ hr c t _ _).trans ?_)
    unfold arrOut
    congr 1
    · exact Fin.ext (by show t.val = (z (0 : Fin 2)).val / 512; omega)
    · exact Fin.ext (by show (y (0 : Fin 2)).val = (z (0 : Fin 2)).val % 512; omega)
    · exact Fin.ext e1.symm

/-- The output at row `512 t + r`. -/
theorem arrOut_at (t : Fin 288) (r : Fin 512) (col : Fin 1024) :
    arrOut m hr c (ix2 (⟨t.val * 512 + r.val, by omega⟩ : Fin 147456) col) = rowOut m hr c t r col := by
  unfold arrOut
  congr 1
  · exact Fin.ext (by show (t.val * 512 + r.val) / 512 = t.val; omega)
  · exact Fin.ext (by show (t.val * 512 + r.val) % 512 = r.val; omega)

end

end Cert.Kernel2Ideal.Moe

end
-- ==== Proof.MoeRef.lean ====
/- The experts' reference read at an index: a block's rows through the expert its word names, zero beyond the blocks in use. -/
module

public import proofs.«01_k».proof.Proof.Gen.Reference2Ideal.Run
public import proofs.«01_k».proof.Proof.MoeExpert
public import Idealize.ShloMosaic.Lib.Pointwise
public import Idealize.ShloMosaic.Lib.ValueIdx

@[expose] public section

set_option maxRecDepth 65536

noncomputable section

namespace Cert.Reference2Ideal.Moe

open Cert.Reference2Ideal Cert.Reference2Ideal.Gen Cert.Reference2Ideal.Value
open Idealize.ShloMosaic Idealize.ShloMosaic.TcCoe
open Cert.Moe

/-! ## Whole slabs gathered by one index each -/

section Slab
variable {α : Type}

/-- The dimension numbers that pick slab `idx[t, 0]` of `[N, P, Q]` for every `t`. -/
abbrev slabDims (N R P Q : ℕ)
    (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- Element `(t, p, q)` is the operand's at the slab `t`'s index names. -/
theorem slab_at {N R P Q w : ℕ}
    (wf : GatherDims.WF ⟨3, ![N, P, Q]⟩ ⟨2, ![R, 1]⟩ ⟨3, ![R, P, Q]⟩ [1, 2] [0] [] [0] [] 1 ![1, P, Q])
    (x : (⟨3, ![N, P, Q]⟩ : Shape).Idx → α) (idx : IVec ⟨2, ![R, 1]⟩ w) (t : Fin R) (p : Fin P) (q : Fin Q)
    (e : Fin N) (he : (idx (ix2 t (0 : Fin 1))).toInt = (e.val : ℤ)) :
    Host.gather (slabDims N R P Q wf) x idx (ix3 t p q) = x (ix3 e p q) := by
  unfold Host.gather
  congr 1
  funext a
  refine Fin.ext ?_
  show (slabDims N R P Q wf).start (ix3 t p q) idx a + (slabDims N R P Q wf).batchCoord (ix3 t p q) a
      + (slabDims N R P Q wf).offCoord (ix3 t p q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (slabDims N R P Q wf).startIndexMap from List.mem_singleton.mpr rfl)]
    have hsi : (slabDims N R P Q wf).siIdx (ix3 t p q) ⟨List.idxOf (0 : Fin 3) (slabDims N R P Q wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    show min (idx ((slabDims N R P Q wf).siIdx (ix3 t p q) ⟨List.idxOf (0 : Fin 3) (slabDims N R P Q wf).startIndexMap, _⟩)).toInt.toNat (N - 1) + 0 + 0 = e.val
    rw [hsi, he]
    have := e.isLt
    omega
  | ⟨1, _⟩ =>
    unfold GatherDims.start GatherDims.offCoord
    rw [dif_neg (fun h => absurd (congrArg Fin.val (List.mem_singleton.mp h)) Nat.one_ne_zero),
      dif_pos ((GatherDims.mem_sKept _ _).mpr ⟨fun h => absurd (congrArg Fin.val (List.mem_singleton.mp h)) Nat.one_ne_zero, List.not_mem_nil⟩)]
    show 0 + 0 + p.val = p.val
    omega
  | ⟨2, _⟩ =>
    unfold GatherDims.start GatherDims.offCoord
    rw [dif_neg (fun h => absurd (congrArg Fin.val (List.mem_singleton.mp h)) (Nat.succ_ne_zero 1)),
      dif_pos ((GatherDims.mem_sKept _ _).mpr ⟨fun h => absurd (congrArg Fin.val (List.mem_singleton.mp h)) (Nat.succ_ne_zero 1), List.not_mem_nil⟩)]
    show 0 + 0 + q.val = q.val
    omega

end Slab

/-! ## The index column -/

/-- The experts' words as the gathers take them: a negative one counted from the end. -/
abbrev idxOf (T : S288.Idx → BitVec 32) : IVec S288x1 32 :=
  broadcastInDim S288x1 ![0] bcast_S288_S288x1_0
    (select (cmpi .slt T (broadcastInDim S288 ![] bcast_S_S288 (constantI S_ 32 0#32)))
      (addi T (broadcastInDim S288 ![] bcast_S_S288 (constantI S_ 32 64#32))) T)

/-- A word in range is taken as it is. -/
theorem idxOf_at (T : S288.Idx → BitVec 32) (t : Fin 288) (h : (T (ix1 t)).toNat < 64) :
    (idxOf T (ix2 t (0 : Fin 1))).toInt = ((T (ix1 t)).toNat : ℤ) := by
  have e : idxOf T (ix2 t (0 : Fin 1)) = T (ix1 t) := by
    have hz : idxOf T (ix2 t (0 : Fin 1)) = Scalar.select (IntOp.cmpi .slt (T (ix1 t)) 0#32) (IntOp.addi (T (ix1 t)) 64#32) (T (ix1 t)) := by
      pointwise
    rw [hz]
    have : IntOp.cmpi .slt (T (ix1 t)) 0#32 = 0#1 := by
      show BitVec.ofBool ((T (ix1 t)).slt 0#32) = 0#1
      rw [show (T (ix1 t)).slt 0#32 = false by
        rw [BitVec.slt_eq_decide, BitVec.toInt_eq_toNat_of_lt (by omega)]
        exact decide_eq_false (by simp)]
      rfl
    rw [this]
    rfl
  rw [e, BitVec.toInt_eq_toNat_of_lt (by omega)]

/-! ## The value -/

/-- The hidden units of every block's rows. -/
abbrev hidR (T : S288.Idx → BitVec 32) (x : FVec Ideal S147456x1024 .bf16) (wu : FVec Ideal S64x1024x2048 .f32) (bu : FVec Ideal S64x1x2048 .f32) :
    FVec Ideal S288x512x2048 .f32 :=
  addf (Host.dotGeneral dot_S288x512x1024_S288x1024x2048_S288x512x2048_2_1_1_2_0_0 none
      (shapeCast _ (extf .f32 x bitsLt_bf16_f32) shapeCasts_S147456x1024_S288x512x1024)
      (Host.gather gather_S64x1024x2048_S288x1_S288x1024x2048_12_0_n_n_0_1_110242048 wu (idxOf T)))
    (broadcastInDim S288x512x2048 ![0, 1, 2] bcast_S288x1x2048_S288x512x2048_0_1_2
      (Host.gather gather_S64x1x2048_S288x1_S288x1x2048_12_0_n_n_0_1_112048 bu (idxOf T)))

theorem hidR_at (T : S288.Idx → BitVec 32) (x : FVec Ideal S147456x1024 .bf16) (wu : FVec Ideal S64x1024x2048 .f32) (bu : FVec Ideal S64x1x2048 .f32)
    (t : Fin 288) (r : Fin 512) (j : Fin 2048) (h : (T (ix1 t)).toNat < 64) :
    hidR T x wu bu (ix3 t r j) = hid (fun k => x (ix2 (⟨t.val * 512 + r.val, by omega⟩ : Fin 147456) k))
      (fun k j => wu (ix3 (⟨(T (ix1 t)).toNat, h⟩ : Fin 64) k j)) (fun j => bu (ix3 (⟨(T (ix1 t)).toNat, h⟩ : Fin 64) (0 : Fin 1) j)) j := by
  have hw : ∀ k j, Host.gather gather_S64x1024x2048_S288x1_S288x1024x2048_12_0_n_n_0_1_110242048 wu (idxOf T) (ix3 t k j)
      = wu (ix3 (⟨(T (ix1 t)).toNat, h⟩ : Fin 64) k j) := fun k j => slab_at _ wu (idxOf T) t k j ⟨_, h⟩ (idxOf_at T t h)
  have hb : ∀ j, Host.gather gather_S64x1x2048_S288x1_S288x1x2048_12_0_n_n_0_1_112048 bu (idxOf T) (ix3 t (0 : Fin 1) j)
      = bu (ix3 (⟨(T (ix1 t)).toNat, h⟩ : Fin 64) (0 : Fin 1) j) := fun j => slab_at _ bu (idxOf T) t (0 : Fin 1) j ⟨_, h⟩ (idxOf_at T t h)
  unfold hidR hid
  generalize Host.gather gather_S64x1024x2048_S288x1_S288x1024x2048_12_0_n_n_0_1_110242048 wu (idxOf T) = W at hw ⊢
  generalize Host.gather gather_S64x1x2048_S288x1_S288x1x2048_12_0_n_n_0_1_112048 bu (idxOf T) = B at hb ⊢
  simp only [← hw, ← hb]
  pointwise

/-- The rows before the mask. -/
abbrev rowsR (T : S288.Idx → BitVec 32) (H : FVec Ideal S288x512x2048 .f32) (wd : FVec Ideal S64x1024x1024 .f32) (bd : FVec Ideal S64x1x1024 .f32) :
    FVec Ideal S288x512x1024 .f32 :=
  addf (Host.dotGeneral dot_S288x512x1024_S288x1024x1024_S288x512x1024_2_1_1_2_0_0 none
      (mulf (mulf (addf (minimumf (broadcastInDim S288x512x1024 ![] bcast_S_S288x512x1024 (id (constant S_ .f32 0x40E00000#32)))
              (maximumf (broadcastInDim S288x512x1024 ![] bcast_S_S288x512x1024 (id (constant S_ .f32 0xC0E00000#32)))
                (extractStridedSlice S288x512x1024 ![0, 0, 1024] H slices_S288x512x2048_S288x512x1024_0_0_1024)))
            (broadcastInDim S288x512x1024 ![] bcast_S_S288x512x1024 (constant S_ .f32 0x3F800000#32)))
          (minimumf (extractStridedSlice S288x512x1024 ![0, 0, 0] H slices_S288x512x2048_S288x512x1024_0_0_0)
            (broadcastInDim S288x512x1024 ![] bcast_S_S288x512x1024 (constant S_ .f32 0x40E00000#32))))
        (Host.divf (broadcastInDim S288x512x1024 ![] bcast_S_S288x512x1024 (constant S_ .f32 0x3F800000#32))
          (addf (broadcastInDim S288x512x1024 ![] bcast_S_S288x512x1024 (constant S_ .f32 0x3F800000#32))
            (Host.exp (Host.negf (mulf (broadcastInDim S288x512x1024 ![] bcast_S_S288x512x1024 (constant S_ .f32 0x3FD9DB23#32))
              (minimumf (extractStridedSlice S288x512x1024 ![0, 0, 0] H slices_S288x512x2048_S288x512x1024_0_0_0)
                (broadcastInDim S288x512x1024 ![] bcast_S_S288x512x1024 (constant S_ .f32 0x40E00000#32)))))))))
      (Host.gather gather_S64x1024x1024_S288x1_S288x1024x1024_12_0_n_n_0_1_110241024 wd (idxOf T)))
    (broadcastInDim S288x512x1024 ![0, 1, 2] bcast_S288x1x1024_S288x512x1024_0_1_2
      (Host.gather gather_S64x1x1024_S288x1_S288x1x1024_12_0_n_n_0_1_111024 bd (idxOf T)))

theorem rowsR_at (T : S288.Idx → BitVec 32) (H : FVec Ideal S288x512x2048 .f32) (wd : FVec Ideal S64x1024x1024 .f32) (bd : FVec Ideal S64x1x1024 .f32)
    (t : Fin 288) (r : Fin 512) (c : Fin 1024) (h : (T (ix1 t)).toNat < 64) :
    rowsR T H wd bd (ix3 t r c) = ∑ j, act (fun j => H (ix3 t r j)) j * wd (ix3 (⟨(T (ix1 t)).toNat, h⟩ : Fin 64) j c)
      + bd (ix3 (⟨(T (ix1 t)).toNat, h⟩ : Fin 64) (0 : Fin 1) c) := by
  have hw : ∀ k j, Host.gather gather_S64x1024x1024_S288x1_S288x1024x1024_12_0_n_n_0_1_110241024 wd (idxOf T) (ix3 t k j)
      = wd (ix3 (⟨(T (ix1 t)).toNat, h⟩ : Fin 64) k j) := fun k j => slab_at _ wd (idxOf T) t k j ⟨_, h⟩ (idxOf_at T t h)
  have hb : ∀ j, Host.gather gather_S64x1x1024_S288x1_S288x1x1024_12_0_n_n_0_1_111024 bd (idxOf T) (ix3 t (0 : Fin 1) j)
      = bd (ix3 (⟨(T (ix1 t)).toNat, h⟩ : Fin 64) (0 : Fin 1) j) := fun j => slab_at _ bd (idxOf T) t (0 : Fin 1) j ⟨_, h⟩ (idxOf_at T t h)
  unfold rowsR
  generalize Host.gather gather_S64x1024x1024_S288x1_S288x1024x1024_12_0_n_n_0_1_110241024 wd (idxOf T) = W at hw ⊢
  generalize Host.gather gather_S64x1x1024_S288x1_S288x1x1024_12_0_n_n_0_1_111024 bd (idxOf T) = B at hb ⊢
  simp only [← hw, ← hb]
  pointwise
  unfold act gate lin Ideal.logistic
  rfl

/-- What the reference leaves, at row `512 t + r`. -/
theorem res_at (m : (ℓ : Loc nD τ sig) → Buf (Elt Ideal) ℓ) (d : Dev nD) (t : Fin 288) (r : Fin 512) (c : Fin 1024)
    (T : S288.Idx → BitVec 32) (hT : m ((d.tc : Thread nD τ).loc main_arg0) = T)
    (N : S1.Idx → BitVec 32) (hN : m ((d.tc : Thread nD τ).loc main_arg1) = N)
    (x : FVec Ideal S147456x1024 .bf16) (hx : m ((d.tc : Thread nD τ).loc main_arg2) = x)
    (wu : FVec Ideal S64x1024x2048 .f32) (hwu : m ((d.tc : Thread nD τ).loc main_arg3) = wu)
    (bu : FVec Ideal S64x1x2048 .f32) (hbu : m ((d.tc : Thread nD τ).loc main_arg4) = bu)
    (wd : FVec Ideal S64x1024x1024 .f32) (hwd : m ((d.tc : Thread nD τ).loc main_arg5) = wd)
    (bd : FVec Ideal S64x1x1024 .f32) (hbd : m ((d.tc : Thread nD τ).loc main_arg6) = bd)
    (h : (T (ix1 t)).toNat < 64) :
    (res_main_v59 m d : FVec Ideal S147456x1024 .f32) (ix2 (⟨t.val * 512 + r.val, by omega⟩ : Fin 147456) c)
      = if (BitVec.ofNat 32 t.val).slt (N (ix1 (0 : Fin 1))) = true then
          expert (fun k => x (ix2 (⟨t.val * 512 + r.val, by omega⟩ : Fin 147456) k))
            (fun k j => wu (ix3 (⟨(T (ix1 t)).toNat, h⟩ : Fin 64) k j)) (fun j => bu (ix3 (⟨(T (ix1 t)).toNat, h⟩ : Fin 64) (0 : Fin 1) j))
            (fun j c => wd (ix3 (⟨(T (ix1 t)).toNat, h⟩ : Fin 64) j c)) (fun c => bd (ix3 (⟨(T (ix1 t)).toNat, h⟩ : Fin 64) (0 : Fin 1) c)) c
        else (0 : EReal) := by
  have e : (res_main_v59 m d : FVec Ideal S147456x1024 .f32)
      = shapeCast _ (select (broadcastInDim S288x512x1024 ![0, 1, 2] bcast_S288x1x1_S288x512x1024_0_1_2
          (broadcastInDim S288x1x1 ![0] bcast_S288_S288x1x1_0 (cmpi .slt (iotaInDim S288 32 0)
            (broadcastInDim S288 ![] bcast_S_S288 (shapeCast _ N shapeCasts_S1_S_)))))
        (rowsR T (hidR T x wu bu) wd bd)
        (broadcastInDim S288x512x1024 ![] bcast_S_S288x512x1024 (id (constant (F := Ideal) S_ .f32 0x00000000#32)))) shapeCasts_S288x512x1024_S147456x1024 := by
    subst hT hN hx hwu hbu hwd hbd
    rfl
  rw [e]
  have hr := rowsR_at T (hidR T x wu bu) wd bd t r c h
  simp only [hidR_at T x wu bu t r _ h] at hr
  unfold expert
  refine Eq.trans ?_ (congrArg (fun z => if (BitVec.ofNat 32 t.val).slt (N (ix1 (0 : Fin 1))) = true then z else (0 : EReal)) hr)
  generalize rowsR T (hidR T x wu bu) wd bd = R
  pointwise
  show Scalar.select (BitVec.ofBool ((BitVec.ofNat 32 t.val).slt (N (ix1 (0 : Fin 1))))) (R (ix3 t r c)) (Ideal.ofBits .f32 0x00000000#32) = _
  cases (BitVec.ofNat 32 t.val).slt (N (ix1 (0 : Fin 1)))
  · show Ideal.ofBits .f32 0x00000000#32 = 0
    exact Ideal.ofBits_zero_f32
  · rfl

end Cert.Reference2Ideal.Moe

end
-- ==== Proof.MoeJoin.lean ====
/- The experts' kernel and its reference leave the same array, from the same arguments with the words in range. -/
module

public import proofs.«01_k».proof.Proof.MoeFrame
public import proofs.«01_k».proof.Proof.MoeValue
public import proofs.«01_k».proof.Proof.MoeRef

@[expose] public section

set_option maxRecDepth 16384

noncomputable section

namespace Cert.Moe

open Idealize.ShloMosaic Idealize.ShloMosaic.TcCoe Idealize.SL.Sem
open Cert.Kernel2Ideal.Moe (InRange tabE tabN arrOut rowOut)

/-- A row of the output is row `r` of block `t`. -/
theorem row_surj (i : Fin 147456) : ∃ (t : Fin 288) (r : Fin 512), i = ⟨t.val * 512 + r.val, by omega⟩ :=
  ⟨⟨i.val / 512, by omega⟩, ⟨i.val % 512, Nat.mod_lt _ (by decide)⟩, Fin.ext (by show i.val = i.val / 512 * 512 + i.val % 512; omega)⟩

section
variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ)
variable (hr : InRange (tabE m)) (c : Dev Cert.Kernel2Ideal.nD)

/-- What the arguments of the two programs have in common. -/
def Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)

/-- The reference's output is the kernel's. -/
theorem out_eq (h : Agree m m' c) :
    (Cert.Reference2Ideal.Value.res_main_v59 m' c : Vec Ideal Cert.Kernel2Ideal.S147456x1024 .f32) = arrOut m hr c := by
  obtain rfl : c = 0 := Subsingleton.elim _ _
  funext i
  obtain ⟨t, r, ht⟩ := row_surj (i (0 : Fin 2))
  have hi : (i : Cert.Kernel2Ideal.S147456x1024.Idx) = ix2 (⟨t.val * 512 + r.val, by omega⟩ : Fin 147456) (i (1 : Fin 2) : Fin 1024) := by
    funext a
    match a with
    | ⟨0, _⟩ => exact ht
    | ⟨1, _⟩ => rfl
  refine (congrArg (Cert.Reference2Ideal.Value.res_main_v59 m' 0 : Vec Ideal Cert.Kernel2Ideal.S147456x1024 .f32) hi).trans
    (Eq.trans ?_ (congrArg (arrOut m hr 0) hi).symm)
  refine Eq.trans ?_ (Cert.Kernel2Ideal.Moe.arrOut_at m hr 0 t r _).symm
  exact Cert.Reference2Ideal.Moe.res_at m' 0 t r _ _ h.1 _ h.2.1 _ h.2.2.1 _ h.2.2.2.1 _ h.2.2.2.2.1 _ h.2.2.2.2.2.1 _ h.2.2.2.2.2.2 (hr _)

end

theorem algebraic [Cert.Pre_experts.Facts] : Cert.algebraic_Kernel2Ideal_Reference2Ideal := by
  intro m g m' g' hp ha
  have hr : InRange (tabE m) := Cert.Kernel2Ideal.Moe.words_in _ _ _ _ _ _ _ (hp 0)
  refine ⟨fun c => arrOut m hr c, ?_, ?_⟩
  · exact (θ_run Cert.Kernel2Ideal.defs _ _).mono
      (fun r h c => ⟨(h.1 c).1.trans (Cert.Kernel2Ideal.Moe.result_eq m g hr c), (h.1 c).2⟩) (Cert.Kernel2Ideal.Moe.run_post m g hr)
  · exact (θ_run Cert.Reference2Ideal.defs _ _).mono
      (fun r h c => ⟨(h c).1.trans (out_eq m m' hr c (ha c)), (h c).2⟩) (Cert.Reference2Ideal.Value.run (F := Ideal) m' g')

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Moe

end
-- ==== Proof.ProjRow.lean ====
/- A row of the input projection over the extended reals, and the kernel's block as it. -/
module

public import proofs.«01_k».proof.Proof.Gen.Kernel3Ideal.Value
public import Idealize.ShloMosaic.Lib.Claim
public import Idealize.ShloMosaic.PureOps.Ideal
public import Idealize.ShloMosaic.Lib.Pointwise

@[expose] public section

set_option maxRecDepth 16384

noncomputable section

namespace Cert.Proj

open Idealize.ShloMosaic

/-- The mean of a row, -/
def mean (x : Fin 1024 → EReal) : EReal := Ideal.div (∑ k, x k) (Ideal.ofBits .f32 0x44800000#32)

/-- the row less its mean, -/
def dev (x : Fin 1024 → EReal) (k : Fin 1024) : EReal := x k - mean x

/-- and the row normalised, then scaled by `1 + s` and shifted by `d`. -/
def hrow (x s d : Fin 1024 → EReal) (k : Fin 1024) : EReal :=
  dev x k * Ideal.rsqrt (mean (fun i => dev x i * dev x i) + Ideal.ofBits .f32 0x3727C5AC#32) * (1 + s k) + d k

/-- The row against one column of weights. -/
def proj (x s d w : Fin 1024 → EReal) : EReal := ∑ k, hrow x s d k * w k

/-- A column of zeros gives zero. -/
theorem proj_zero (x s d w : Fin 1024 → EReal) (h : ∀ k, w k = 0) : proj x s d w = 0 :=
  Finset.sum_eq_zero fun k _ => by rw [h k, mul_zero]

/-- The filling is zero. -/
theorem fill_zero : FloatOps.sitofp (F := Ideal) FTy.f32 (0#32) = (0 : EReal) := by
  show (((0#32 : BitVec 32).toInt : ℝ) : EReal) = 0
  simp

end Cert.Proj

namespace Cert.Kernel3Ideal.Proj

open Cert.Kernel3Ideal Cert.Kernel3Ideal.Gen Idealize.ShloMosaic
open Cert.Proj

theorem pay4_at (x : Vec Ideal S1x512x1024 .f32) (sc sh : Vec Ideal S1x1x1024 .f32) (w : Vec Ideal S1024x3072 .bf16)
    (r : Fin 512) (j : Fin 3072) :
    k0_pay4 (F := Ideal) x sc sh w (ix2 r j)
      = proj (fun k => x (ix3 (0 : Fin 1) r k)) (fun k => sc (ix3 (0 : Fin 1) (0 : Fin 1) k))
          (fun k => sh (ix3 (0 : Fin 1) (0 : Fin 1) k)) (fun k => w (ix2 k j)) := by
  unfold k0_pay4 proj hrow mean dev mean
  pointwise

end Cert.Kernel3Ideal.Proj
-- ==== Proof.ProjWeights.lean ====
/- The weights the input projection's launch reads: four groups of the argument's columns, each filled up with zeros to whole
   tiles, side by side. -/
module

public import proofs.«01_k».proof.Proof.ProjRow
import Idealize.ShloMosaic.Lib.StableHlo.Run
import Idealize.ShloMosaic.Lib.Pipeline.Frame

@[expose] public section

set_option maxRecDepth 16384

noncomputable section

namespace Cert.Kernel3Ideal.Proj

open Cert.Kernel3Ideal Cert.Kernel3Ideal.Gen Idealize.ShloMosaic
open Idealize.ShloMosaic.TcCoe

variable (m : (ℓ : Loc nD τ sig) → Buf (Elt Ideal) ℓ) (c : Dev nD)

/-- The weights as given, -/
abbrev wIn : Vec Ideal S1024x2864 .f32 := m ((c : Thread nD τ).loc main_arg3)

/-- and the four groups. -/
def groupA (w : Vec Ideal S1024x2864 .f32) : Vec Ideal S1024x896 .f32 :=
  pad S1024x896 ![0, 0] ![0, 0] ![0, 0] (extractStridedSlice S1024x896 ![0, 0] w slices_S1024x2864_S1024x896_0_0)
    (sitofp (F := Ideal) .f32 (constantI S_ 32 0#32)) pads_S1024x896_S1024x896_000_000 h_S_
def groupB (w : Vec Ideal S1024x2864 .f32) : Vec Ideal S1024x768 .f32 :=
  pad S1024x768 ![0, 0] ![0, 116] ![0, 0] (extractStridedSlice S1024x652 ![0, 896] w slices_S1024x2864_S1024x652_0_896)
    (sitofp (F := Ideal) .f32 (constantI S_ 32 0#32)) pads_S1024x652_S1024x768_000_01160 h_S_
def groupC (w : Vec Ideal S1024x2864 .f32) : Vec Ideal S1024x640 .f32 :=
  pad S1024x640 ![0, 0] ![0, 92] ![0, 0] (extractStridedSlice S1024x548 ![0, 1548] w slices_S1024x2864_S1024x548_0_1548)
    (sitofp (F := Ideal) .f32 (constantI S_ 32 0#32)) pads_S1024x548_S1024x640_000_0920 h_S_
def groupD (w : Vec Ideal S1024x2864 .f32) : Vec Ideal S1024x768 .f32 :=
  pad S1024x768 ![0, 0] ![0, 0] ![0, 0] (extractStridedSlice S1024x768 ![0, 2096] w slices_S1024x2864_S1024x768_0_2096)
    (sitofp (F := Ideal) .f32 (constantI S_ 32 0#32)) pads_S1024x768_S1024x768_000_000 h_S_

/-- Side by side. -/
def allCols (a : Vec Ideal S1024x896 .f32) (b : Vec Ideal S1024x768 .f32) (d : Vec Ideal S1024x640 .f32) (e : Vec Ideal S1024x768 .f32) :
    Vec Ideal S1024x3072 .bf16 :=
  truncf (F := Ideal) .bf16 (concatenate S1024x3072 1 [⟨S1024x896, a⟩, ⟨S1024x768, b⟩, ⟨S1024x640, d⟩, ⟨S1024x768, e⟩]
    concatenates_S1024x896_S1024x768_S1024x640_S1024x768_S1024x3072_d1) bitsLt_bf16_f32

/-- The last two operations before the launch, over any contents. -/
theorem last_two (W : Valuation τ sig (Elt Ideal)) :
    StableHlo.after (hostOps0_8 (F := Ideal)) W main_v9
      = allCols (W (Proc.devRef .tc main_v1)) (W (Proc.devRef .tc main_v3)) (W (Proc.devRef .tc main_v5)) (W (Proc.devRef .tc main_v7)) := by
  after_results
  rfl

/-- The operations before them. -/
abbrev firstOps : List (HloOp τ sig (Elt Ideal)) :=
  List.flatten [hostOps0, hostOps0_1, hostOps0_2, hostOps0_3, hostOps0_4, hostOps0_5, hostOps0_6, hostOps0_7]

theorem V_eq : V (F := Ideal) m c main_v9
    = StableHlo.after (hostOps0_8 (F := Ideal)) (StableHlo.after firstOps (fun b => m (c, b))) main_v9 := by
  rw [← StableHlo.after_append]
  rfl

/-- Each group as the operations before the join leave it. -/
theorem first1 : StableHlo.after firstOps (fun b => m (c, b)) (Proc.devRef .tc main_v1) = groupA (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first3 : StableHlo.after firstOps (fun b => m (c, b)) (Proc.devRef .tc main_v3) = groupB (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first5 : StableHlo.after firstOps (fun b => m (c, b)) (Proc.devRef .tc main_v5) = groupC (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first7 : StableHlo.after firstOps (fun b => m (c, b)) (Proc.devRef .tc main_v7) = groupD (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl

/-- The launch's weights. -/
theorem V_weights : V (F := Ideal) m c main_v9
    = allCols (groupA (wIn m c)) (groupB (wIn m c)) (groupC (wIn m c)) (groupD (wIn m c)) := by
  rw [V_eq, last_two, first1, first3, first5, first7]

/-! ## Read at a column -/

theorem groupA_at (w : Vec Ideal S1024x2864 .f32) (k : Fin 1024) (j : Fin 896) :
    groupA w (ix2 k j) = w (ix2 k (⟨j.val, by omega⟩ : Fin 2864)) := by
  unfold groupA
  pointwise
theorem groupB_at (w : Vec Ideal S1024x2864 .f32) (k : Fin 1024) (j : Fin 768) :
    groupB w (ix2 k j) = if h : j.val < 652 then w (ix2 k (⟨896 + j.val, by omega⟩ : Fin 2864)) else (0 : EReal) := by
  unfold groupB
  pointwise
  rw [Cert.Proj.fill_zero]
theorem groupC_at (w : Vec Ideal S1024x2864 .f32) (k : Fin 1024) (j : Fin 640) :
    groupC w (ix2 k j) = if h : j.val < 548 then w (ix2 k (⟨1548 + j.val, by omega⟩ : Fin 2864)) else (0 : EReal) := by
  unfold groupC
  pointwise
  rw [Cert.Proj.fill_zero]
theorem groupD_at (w : Vec Ideal S1024x2864 .f32) (k : Fin 1024) (j : Fin 768) :
    groupD w (ix2 k j) = w (ix2 k (⟨2096 + j.val, by omega⟩ : Fin 2864)) := by
  unfold groupD
  pointwise

section
variable (a : Vec Ideal S1024x896 .f32) (b : Vec Ideal S1024x768 .f32) (d : Vec Ideal S1024x640 .f32) (e : Vec Ideal S1024x768 .f32) (k : Fin 1024)

theorem cols_a (j : Fin 896) : allCols a b d e (ix2 k (⟨j.val, by omega⟩ : Fin 3072)) = a (ix2 k j) := by
  unfold allCols
  pointwise
theorem cols_b (j : Fin 768) : allCols a b d e (ix2 k (⟨896 + j.val, by omega⟩ : Fin 3072)) = b (ix2 k j) := by
  unfold allCols
  pointwise
theorem cols_d (j : Fin 640) : allCols a b d e (ix2 k (⟨1664 + j.val, by omega⟩ : Fin 3072)) = d (ix2 k j) := by
  unfold allCols
  pointwise
  rw [dif_neg (by omega), dif_neg (by omega), dif_pos (by omega)]
  exact congrArg (fun z : Fin 640 => d (ix2 k z)) (Fin.ext (by show 1664 + j.val - 896 - 768 = j.val; omega))
theorem cols_e (j : Fin 768) : allCols a b d e (ix2 k (⟨2304 + j.val, by omega⟩ : Fin 3072)) = e (ix2 k j) := by
  unfold allCols
  pointwise
  rw [dif_neg (by omega), dif_neg (by omega), dif_neg (by omega)]
  exact congrArg (fun z : Fin 768 => e (ix2 k z)) (Fin.ext (by show 2304 + j.val - 896 - 768 - 640 = j.val; omega))

end

end Cert.Kernel3Ideal.Proj
-- ==== Proof.ProjValue.lean ====
/- The four arrays the input projection's launch leaves, each read at an index. -/
module

public import proofs.«01_k».proof.Proof.ProjWeights
public import Idealize.ShloMosaic.Lib.ValueIdx
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.Kernel3Ideal.Proj

open Cert.Kernel3Ideal Cert.Kernel3Ideal.Gen Cert.Kernel3Ideal.Value Idealize.ShloMosaic
open Idealize.ShloMosaic.TcCoe
open Idealize.ShloMosaic.Pipeline (Dat Cfg Window)
open Cert.Proj

variable (m : (ℓ : Loc nD τ sig) → Buf (Elt Ideal) ℓ) (c : Dev nD)

/-! ## The blocks a point reads -/

theorem pos_lt (t : Fin cfg0.N) : t.val < 64 := lt_of_lt_of_eq t.isLt (by decide +kernel : grid0.N = 64)

theorem place0 (t : Fin cfg0.N) : (cfg0.win (0 : Fin 8)).index t = ![t.val / 8, t.val % 8, 0] :=
  (by decide +kernel : ∀ t : Fin grid0.N, win0_0.index t = ![t.val / 8, t.val % 8, 0]) t
theorem place1 (t : Fin cfg0.N) : (cfg0.win (1 : Fin 8)).index t = ![t.val / 8, 0, 0] :=
  (by decide +kernel : ∀ t : Fin grid0.N, win0_1.index t = ![t.val / 8, 0, 0]) t
theorem place2 (t : Fin cfg0.N) : (cfg0.win (2 : Fin 8)).index t = ![t.val / 8, 0, 0] :=
  (by decide +kernel : ∀ t : Fin grid0.N, win0_2.index t = ![t.val / 8, 0, 0]) t
theorem place3 (t : Fin cfg0.N) : (cfg0.win (3 : Fin 8)).index t = ![0, 0] :=
  (by decide +kernel : ∀ t : Fin grid0.N, win0_3.index t = ![0, 0]) t
theorem place4 (t : Fin cfg0.N) : (cfg0.win (4 : Fin 8)).index t = ![t.val / 8, t.val % 8, 0] :=
  (by decide +kernel : ∀ t : Fin grid0.N, win0_4.index t = ![t.val / 8, t.val % 8, 0]) t
theorem place5 (t : Fin cfg0.N) : (cfg0.win (5 : Fin 8)).index t = ![t.val / 8, t.val % 8, 0] :=
  (by decide +kernel : ∀ t : Fin grid0.N, win0_5.index t = ![t.val / 8, t.val % 8, 0]) t
theorem place6 (t : Fin cfg0.N) : (cfg0.win (6 : Fin 8)).index t = ![t.val / 8, t.val % 8, 0] :=
  (by decide +kernel : ∀ t : Fin grid0.N, win0_6.index t = ![t.val / 8, t.val % 8, 0]) t
theorem place7 (t : Fin cfg0.N) : (cfg0.win (7 : Fin 8)).index t = ![t.val / 8, t.val % 8, 0] :=
  (by decide +kernel : ∀ t : Fin grid0.N, win0_7.index t = ![t.val / 8, t.val % 8, 0]) t

/-- The batch of a point, and the row in the batch of one of its rows. -/
abbrev batch (t : Fin cfg0.N) : Fin 8 := ⟨t.val / 8, by have := pos_lt t; omega⟩
abbrev rowAt (t : Fin cfg0.N) (r : Fin 512) : Fin 4096 := ⟨t.val % 8 * 512 + r.val, by omega⟩

theorem iblk0_at (t : Fin cfg0.N) (r : Fin 512) (k : Fin 1024) :
    (iblk m c (0 : Fin 8) t : Vec Ideal S1x512x1024 .f32) (ix3 (0 : Fin 1) r k)
      = (m ((c : Thread nD τ).loc main_arg0) : Vec Ideal S8x4096x1024 .f32) (ix3 (batch t) (rowAt t r) k) := by
  have e := place0 t
  blk_ext [iblk, V_main_arg0, e]
theorem iblk1_at (t : Fin cfg0.N) (k : Fin 1024) :
    (iblk m c (1 : Fin 8) t : Vec Ideal S1x1x1024 .f32) (ix3 (0 : Fin 1) (0 : Fin 1) k)
      = (m ((c : Thread nD τ).loc main_arg1) : Vec Ideal S8x1x1024 .f32) (ix3 (batch t) (0 : Fin 1) k) := by
  have e := place1 t
  blk_ext [iblk, V_main_arg1, e]
theorem iblk2_at (t : Fin cfg0.N) (k : Fin 1024) :
    (iblk m c (2 : Fin 8) t : Vec Ideal S1x1x1024 .f32) (ix3 (0 : Fin 1) (0 : Fin 1) k)
      = (m ((c : Thread nD τ).loc main_arg2) : Vec Ideal S8x1x1024 .f32) (ix3 (batch t) (0 : Fin 1) k) := by
  have e := place2 t
  blk_ext [iblk, V_main_arg2, e]
theorem iblk3_at (t : Fin cfg0.N) (k : Fin 1024) (j : Fin 3072) :
    (iblk m c (3 : Fin 8) t : Vec Ideal S1024x3072 .bf16) (ix2 k j)
      = (V m c main_v9 : Vec Ideal S1024x3072 .bf16) (ix2 k j) := by
  have e := place3 t
  blk_ext [iblk, e]

/-- Loads of whole blocks. -/
theorem ld0 (x : Vec Ideal S1x512x1024 .f32) : View.ld x r0_0 = x := by
  funext i
  exact congrArg x (funext fun a => Fin.ext (by match a with | ⟨0, _⟩ => simp | ⟨1, _⟩ => simp | ⟨2, _⟩ => simp))
theorem ld1 (x : Vec Ideal S1x1x1024 .f32) : View.ld x r0_1 = x := by
  funext i
  exact congrArg x (funext fun a => Fin.ext (by match a with | ⟨0, _⟩ => simp | ⟨1, _⟩ => simp | ⟨2, _⟩ => simp))
theorem ld2 (x : Vec Ideal S1024x3072 .bf16) : View.ld x r0_2 = x := by
  funext i
  exact congrArg x (funext fun a => Fin.ext (by match a with | ⟨0, _⟩ => simp | ⟨1, _⟩ => simp))

/-- Row `r` of batch `b` against a column of weights. -/
def cell (b : Fin 8) (r : Fin 4096) (w : Fin 1024 → EReal) : EReal :=
  proj (fun k => (m ((c : Thread nD τ).loc main_arg0) : Vec Ideal S8x4096x1024 .f32) (ix3 b r k))
    (fun k => (m ((c : Thread nD τ).loc main_arg1) : Vec Ideal S8x1x1024 .f32) (ix3 b (0 : Fin 1) k))
    (fun k => (m ((c : Thread nD τ).loc main_arg2) : Vec Ideal S8x1x1024 .f32) (ix3 b (0 : Fin 1) k)) w

theorem block_at (t : Fin cfg0.N) (r : Fin 512) (j : Fin 3072) :
    k0_pay4 (F := Ideal) (iblk m c (0 : Fin 8) t) (iblk m c (1 : Fin 8) t) (iblk m c (2 : Fin 8) t) (iblk m c (3 : Fin 8) t) (ix2 r j)
      = cell m c (batch t) (rowAt t r) (fun k => (V m c main_v9 : Vec Ideal S1024x3072 .bf16) (ix2 k j)) := by
  rw [pay4_at]
  unfold cell
  simp only [iblk0_at, iblk1_at, iblk2_at, iblk3_at]

/-- An entry of a block, at the array's batch, row and column. -/
theorem block_eq (t : Fin cfg0.N) (r : Fin 512) (j : Fin 3072) (b : Fin 8) (q : Fin 4096) (l : Fin 3072) (hb : b.val = t.val / 8)
    (hq : q.val = t.val % 8 * 512 + r.val) (hl : l.val = j.val) :
    k0_pay4 (F := Ideal) (iblk m c (0 : Fin 8) t) (iblk m c (1 : Fin 8) t) (iblk m c (2 : Fin 8) t) (iblk m c (3 : Fin 8) t) (ix2 r j)
      = cell m c b q (fun k => (V m c main_v9 : Vec Ideal S1024x3072 .bf16) (ix2 k l)) := by
  obtain rfl : b = batch t := Fin.ext hb
  obtain rfl : q = rowAt t r := Fin.ext hq
  obtain rfl : l = j := Fin.ext hl
  exact block_at m c t r l

/-! ## The arrays -/

theorem out4_at (t : Fin cfg0.N) (y : S1x512x896.Idx) :
    out0_4 (F := Ideal) (iblk m c 0 t) (iblk m c 1 t) (iblk m c 2 t) (iblk m c 3 t) y
      = k0_pay4 (F := Ideal) (iblk m c 0 t) (iblk m c 1 t) (iblk m c 2 t) (iblk m c 3 t)
          (ix2 (⟨(y (1 : Fin 3)).val, (y (1 : Fin 3)).isLt⟩ : Fin 512)
            (⟨(y (2 : Fin 3)).val, by have h : (y (2 : Fin 3)).val < 896 := (y (2 : Fin 3)).isLt; omega⟩ : Fin 3072)) := by
  refine (canon4_eq (View.ld (iblk m c 0 t) r0_0) (View.ld (iblk m c 1 t) r0_1) (View.ld (iblk m c 2 t) r0_1) (View.ld (iblk m c 3 t) r0_2) y).trans ?_
  show k0_pay4 (F := Ideal) _ _ _ _ _ = _
  rw [ld0, ld1, ld1, ld2]
  refine congrArg _ (funext fun a => Fin.ext ?_)
  match a with
  | ⟨0, _⟩ => rfl
  | ⟨1, _⟩ => rfl

/-- Array 1 of the four, -/
def array4 : Vec Ideal S8x4096x896 .f32 := fun i =>
  cell m c (i (0 : Fin 3)) (i (1 : Fin 3)) (fun k => (V m c main_v9 : Vec Ideal S1024x3072 .bf16)
    (ix2 k (⟨(i (2 : Fin 3)).val, by have h : (i (2 : Fin 3)).val < 896 := (i (2 : Fin 3)).isLt; omega⟩ : Fin 3072)))

theorem array4_eq : ((dats m 0 c).arrAt (4 : Fin 8) cfg0.N : Vec Ideal S8x4096x896 .f32) = array4 m c := by
  refine (dats m 0 c).arrAt_eq_of_covers (4 : Fin 8) _ (by decide +kernel) fun t hf y => ?_
  have e := place4 t
  have hy0 : (y (0 : Fin 3)).val < 1 := (y (0 : Fin 3)).isLt
  have e0 : (((cfg0.win (4 : Fin 8)).blk t).view.emb y (0 : Fin 3)).val = t.val / 8 := by blk_simp [e]
  have e1 : (((cfg0.win (4 : Fin 8)).blk t).view.emb y (1 : Fin 3)).val = t.val % 8 * 512 + (y (1 : Fin 3)).val := by blk_simp [e]
  have e2 : (((cfg0.win (4 : Fin 8)).blk t).view.emb y (2 : Fin 3)).val = (y (2 : Fin 3)).val := by blk_simp [e]
  blk_simp
  rw [after0_4]
  generalize (((cfg0.win (4 : Fin 8)).blk t).view.emb y) = z at e0 e1 e2
  exact (out4_at m c t y).trans (block_eq m c t _ _ _ _ _ e0 e1 (by exact e2))

theorem out5_at (t : Fin cfg0.N) (y : S1x512x768.Idx) :
    out0_5 (F := Ideal) (iblk m c 0 t) (iblk m c 1 t) (iblk m c 2 t) (iblk m c 3 t) y
      = k0_pay4 (F := Ideal) (iblk m c 0 t) (iblk m c 1 t) (iblk m c 2 t) (iblk m c 3 t)
          (ix2 (⟨(y (1 : Fin 3)).val, (y (1 : Fin 3)).isLt⟩ : Fin 512)
            (⟨896 + (y (2 : Fin 3)).val, by have h : (y (2 : Fin 3)).val < 768 := (y (2 : Fin 3)).isLt; omega⟩ : Fin 3072)) := by
  refine (canon5_eq (View.ld (iblk m c 0 t) r0_0) (View.ld (iblk m c 1 t) r0_1) (View.ld (iblk m c 2 t) r0_1) (View.ld (iblk m c 3 t) r0_2) y).trans ?_
  show k0_pay4 (F := Ideal) _ _ _ _ _ = _
  rw [ld0, ld1, ld1, ld2]
  refine congrArg _ (funext fun a => Fin.ext ?_)
  match a with
  | ⟨0, _⟩ => rfl
  | ⟨1, _⟩ => show (y (2 : Fin 3)).val + 896 = 896 + (y (2 : Fin 3)).val; omega

/-- Array 2 of the four, -/
def array5 : Vec Ideal S8x4096x768 .f32 := fun i =>
  cell m c (i (0 : Fin 3)) (i (1 : Fin 3)) (fun k => (V m c main_v9 : Vec Ideal S1024x3072 .bf16)
    (ix2 k (⟨896 + (i (2 : Fin 3)).val, by have h : (i (2 : Fin 3)).val < 768 := (i (2 : Fin 3)).isLt; omega⟩ : Fin 3072)))

theorem array5_eq : ((dats m 0 c).arrAt (5 : Fin 8) cfg0.N : Vec Ideal S8x4096x768 .f32) = array5 m c := by
  refine (dats m 0 c).arrAt_eq_of_covers (5 : Fin 8) _ (by decide +kernel) fun t hf y => ?_
  have e := place5 t
  have hy0 : (y (0 : Fin 3)).val < 1 := (y (0 : Fin 3)).isLt
  have e0 : (((cfg0.win (5 : Fin 8)).blk t).view.emb y (0 : Fin 3)).val = t.val / 8 := by blk_simp [e]
  have e1 : (((cfg0.win (5 : Fin 8)).blk t).view.emb y (1 : Fin 3)).val = t.val % 8 * 512 + (y (1 : Fin 3)).val := by blk_simp [e]
  have e2 : (((cfg0.win (5 : Fin 8)).blk t).view.emb y (2 : Fin 3)).val = (y (2 : Fin 3)).val := by blk_simp [e]
  blk_simp
  rw [after0_5]
  generalize (((cfg0.win (5 : Fin 8)).blk t).view.emb y) = z at e0 e1 e2
  exact (out5_at m c t y).trans (block_eq m c t _ _ _ _ _ e0 e1 (by show 896 + _ = 896 + _; rw [e2]))

theorem out6_at (t : Fin cfg0.N) (y : S1x512x640.Idx) :
    out0_6 (F := Ideal) (iblk m c 0 t) (iblk m c 1 t) (iblk m c 2 t) (iblk m c 3 t) y
      = k0_pay4 (F := Ideal) (iblk m c 0 t) (iblk m c 1 t) (iblk m c 2 t) (iblk m c 3 t)
          (ix2 (⟨(y (1 : Fin 3)).val, (y (1 : Fin 3)).isLt⟩ : Fin 512)
            (⟨1664 + (y (2 : Fin 3)).val, by have h : (y (2 : Fin 3)).val < 640 := (y (2 : Fin 3)).isLt; omega⟩ : Fin 3072)) := by
  refine (canon6_eq (View.ld (iblk m c 0 t) r0_0) (View.ld (iblk m c 1 t) r0_1) (View.ld (iblk m c 2 t) r0_1) (View.ld (iblk m c 3 t) r0_2) y).trans ?_
  show k0_pay4 (F := Ideal) _ _ _ _ _ = _
  rw [ld0, ld1, ld1, ld2]
  refine congrArg _ (funext fun a => Fin.ext ?_)
  match a with
  | ⟨0, _⟩ => rfl
  | ⟨1, _⟩ => show (y (2 : Fin 3)).val + 1664 = 1664 + (y (2 : Fin 3)).val; omega

/-- Array 3 of the four, -/
def array6 : Vec Ideal S8x4096x640 .f32 := fun i =>
  cell m c (i (0 : Fin 3)) (i (1 : Fin 3)) (fun k => (V m c main_v9 : Vec Ideal S1024x3072 .bf16)
    (ix2 k (⟨1664 + (i (2 : Fin 3)).val, by have h : (i (2 : Fin 3)).val < 640 := (i (2 : Fin 3)).isLt; omega⟩ : Fin 3072)))

theorem array6_eq : ((dats m 0 c).arrAt (6 : Fin 8) cfg0.N : Vec Ideal S8x4096x640 .f32) = array6 m c := by
  refine (dats m 0 c).arrAt_eq_of_covers (6 : Fin 8) _ (by decide +kernel) fun t hf y => ?_
  have e := place6 t
  have hy0 : (y (0 : Fin 3)).val < 1 := (y (0 : Fin 3)).isLt
  have e0 : (((cfg0.win (6 : Fin 8)).blk t).view.emb y (0 : Fin 3)).val = t.val / 8 := by blk_simp [e]
  have e1 : (((cfg0.win (6 : Fin 8)).blk t).view.emb y (1 : Fin 3)).val = t.val % 8 * 512 + (y (1 : Fin 3)).val := by blk_simp [e]
  have e2 : (((cfg0.win (6 : Fin 8)).blk t).view.emb y (2 : Fin 3)).val = (y (2 : Fin 3)).val := by blk_simp [e]
  blk_simp
  rw [after0_6]
  generalize (((cfg0.win (6 : Fin 8)).blk t).view.emb y) = z at e0 e1 e2
  exact (out6_at m c t y).trans (block_eq m c t _ _ _ _ _ e0 e1 (by show 1664 + _ = 1664 + _; rw [e2]))

theorem out7_at (t : Fin cfg0.N) (y : S1x512x768.Idx) :
    out0_7 (F := Ideal) (iblk m c 0 t) (iblk m c 1 t) (iblk m c 2 t) (iblk m c 3 t) y
      = k0_pay4 (F := Ideal) (iblk m c 0 t) (iblk m c 1 t) (iblk m c 2 t) (iblk m c 3 t)
          (ix2 (⟨(y (1 : Fin 3)).val, (y (1 : Fin 3)).isLt⟩ : Fin 512)
            (⟨2304 + (y (2 : Fin 3)).val, by have h : (y (2 : Fin 3)).val < 768 := (y (2 : Fin 3)).isLt; omega⟩ : Fin 3072)) := by
  refine (canon7_eq (View.ld (iblk m c 0 t) r0_0) (View.ld (iblk m c 1 t) r0_1) (View.ld (iblk m c 2 t) r0_1) (View.ld (iblk m c 3 t) r0_2) y).trans ?_
  show k0_pay4 (F := Ideal) _ _ _ _ _ = _
  rw [ld0, ld1, ld1, ld2]
  refine congrArg _ (funext fun a => Fin.ext ?_)
  match a with
  | ⟨0, _⟩ => rfl
  | ⟨1, _⟩ => show (y (2 : Fin 3)).val + 2304 = 2304 + (y (2 : Fin 3)).val; omega

/-- Array 4 of the four, -/
def array7 : Vec Ideal S8x4096x768 .f32 := fun i =>
  cell m c (i (0 : Fin 3)) (i (1 : Fin 3)) (fun k => (V m c main_v9 : Vec Ideal S1024x3072 .bf16)
    (ix2 k (⟨2304 + (i (2 : Fin 3)).val, by have h : (i (2 : Fin 3)).val < 768 := (i (2 : Fin 3)).isLt; omega⟩ : Fin 3072)))

theorem array7_eq : ((dats m 0 c).arrAt (7 : Fin 8) cfg0.N : Vec Ideal S8x4096x768 .f32) = array7 m c := by
  refine (dats m 0 c).arrAt_eq_of_covers (7 : Fin 8) _ (by decide +kernel) fun t hf y => ?_
  have e := place7 t
  have hy0 : (y (0 : Fin 3)).val < 1 := (y (0 : Fin 3)).isLt
  have e0 : (((cfg0.win (7 : Fin 8)).blk t).view.emb y (0 : Fin 3)).val = t.val / 8 := by blk_simp [e]
  have e1 : (((cfg0.win (7 : Fin 8)).blk t).view.emb y (1 : Fin 3)).val = t.val % 8 * 512 + (y (1 : Fin 3)).val := by blk_simp [e]
  have e2 : (((cfg0.win (7 : Fin 8)).blk t).view.emb y (2 : Fin 3)).val = (y (2 : Fin 3)).val := by blk_simp [e]
  blk_simp
  rw [after0_7]
  generalize (((cfg0.win (7 : Fin 8)).blk t).view.emb y) = z at e0 e1 e2
  exact (out7_at m c t y).trans (block_eq m c t _ _ _ _ _ e0 e1 (by show 2304 + _ = 2304 + _; rw [e2]))

end Cert.Kernel3Ideal.Proj
-- ==== Proof.ProjRef.lean ====
/- The input projection's reference, its four results read at an index. -/
module

public import proofs.«01_k».proof.Proof.ProjRow
public import proofs.«01_k».proof.Proof.Gen.Reference3Ideal.Run

@[expose] public section

set_option maxRecDepth 16384

noncomputable section

namespace Cert.Reference3Ideal.Proj

open Cert.Reference3Ideal Cert.Reference3Ideal.Gen Idealize.ShloMosaic
open Cert.Proj

/-- The mean of every row, -/
def means (x : FVec Ideal S8x4096x1024 .f32) : FVec Ideal S8x4096x1 .f32 :=
  Host.divf (broadcastInDim S8x4096x1 ![0, 1] bcast_S8x4096_S8x4096x1_0_1 (Host.reduceAdd x (constant S_ .f32 0x00000000#32) reducesTo_S8x4096x1024_S8x4096_d2 h_S_)) (broadcastInDim S8x4096x1 ![] bcast_S_S8x4096x1 (constant S_ .f32 0x44800000#32))

/-- the rows less their means, -/
def devs (x : FVec Ideal S8x4096x1024 .f32) : FVec Ideal S8x4096x1024 .f32 :=
  subf x (broadcastInDim S8x4096x1024 ![0, 1, 2] bcast_S8x4096x1_S8x4096x1024_0_1_2 (means x))

/-- the rows normalised, scaled and shifted, -/
def normed (x : FVec Ideal S8x4096x1024 .f32) (sc sh : FVec Ideal S8x1x1024 .f32) : FVec Ideal S8x4096x1024 .f32 :=
  addf (mulf (mulf (devs x) (broadcastInDim S8x4096x1024 ![0, 1, 2] bcast_S8x4096x1_S8x4096x1024_0_1_2 (Host.rsqrt (addf (means (mulf (devs x) (devs x))) (broadcastInDim S8x4096x1 ![] bcast_S_S8x4096x1 (constant S_ .f32 0x3727C5AC#32)))))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- and their products with the weights. -/
def full (x : FVec Ideal S8x4096x1024 .f32) (sc sh : FVec Ideal S8x1x1024 .f32) (w : FVec Ideal S1024x2864 .f32) : FVec Ideal S8x4096x2864 .f32 :=
  Host.dotGeneral (F := Ideal) dot_S8x4096x1024_S1024x2864_S8x4096x2864_2_0_01_1_n_n none (normed x sc sh) w

theorem means_at (x : FVec Ideal S8x4096x1024 .f32) (b : Fin 8) (t : Fin 4096) :
    means x (ix3 b t (0 : Fin 1)) = mean (fun k => x (ix3 b t k)) := by
  unfold means mean
  pointwise

theorem devs_at (x : FVec Ideal S8x4096x1024 .f32) (b : Fin 8) (t : Fin 4096) (k : Fin 1024) :
    devs x (ix3 b t k) = dev (fun k => x (ix3 b t k)) k := by
  unfold devs dev
  rw [← means_at]
  generalize means x = u
  pointwise

theorem normed_at (x : FVec Ideal S8x4096x1024 .f32) (sc sh : FVec Ideal S8x1x1024 .f32) (b : Fin 8) (t : Fin 4096) (k : Fin 1024) :
    normed x sc sh (ix3 b t k)
      = hrow (fun k => x (ix3 b t k)) (fun k => sc (ix3 b (0 : Fin 1) k)) (fun k => sh (ix3 b (0 : Fin 1) k)) k := by
  have hv : means (mulf (devs x) (devs x)) (ix3 b t (0 : Fin 1))
      = mean (fun i => dev (fun k => x (ix3 b t k)) i * dev (fun k => x (ix3 b t k)) i) := by
    rw [means_at]
    exact congrArg mean (funext fun i => by rw [← devs_at]; rfl)
  unfold normed hrow
  rw [← hv, ← devs_at]
  generalize means (mulf (devs x) (devs x)) = u
  generalize devs x = v
  pointwise

theorem full_at (x : FVec Ideal S8x4096x1024 .f32) (sc sh : FVec Ideal S8x1x1024 .f32) (w : FVec Ideal S1024x2864 .f32)
    (b : Fin 8) (t : Fin 4096) (j : Fin 2864) :
    full x sc sh w (ix3 b t j)
      = proj (fun k => x (ix3 b t k)) (fun k => sc (ix3 b (0 : Fin 1) k)) (fun k => sh (ix3 b (0 : Fin 1) k)) (fun k => w (ix2 k j)) := by
  unfold full proj
  simp only [← normed_at]
  generalize normed x sc sh = u
  pointwise

/-- The four results from the products. -/
def resA (z : FVec Ideal S8x4096x2864 .f32) : FVec Ideal S8x4096x896 .f32 :=
  extractStridedSlice S8x4096x896 ![0, 0, 0] z slices_S8x4096x2864_S8x4096x896_0_0_0
def resB (z : FVec Ideal S8x4096x2864 .f32) : FVec Ideal S8x4096x768 .f32 :=
  pad S8x4096x768 ![0, 0, 0] ![0, 0, 116] ![0, 0, 0] (extractStridedSlice S8x4096x652 ![0, 0, 896] z slices_S8x4096x2864_S8x4096x652_0_0_896)
    (sitofp (F := Ideal) .f32 (constantI S_ 32 0#32)) pads_S8x4096x652_S8x4096x768_000_000_01160 h_S_
def resC (z : FVec Ideal S8x4096x2864 .f32) : FVec Ideal S8x4096x640 .f32 :=
  pad S8x4096x640 ![0, 0, 0] ![0, 0, 92] ![0, 0, 0] (extractStridedSlice S8x4096x548 ![0, 0, 1548] z slices_S8x4096x2864_S8x4096x548_0_0_1548)
    (sitofp (F := Ideal) .f32 (constantI S_ 32 0#32)) pads_S8x4096x548_S8x4096x640_000_000_0920 h_S_
def resD (z : FVec Ideal S8x4096x2864 .f32) : FVec Ideal S8x4096x768 .f32 :=
  extractStridedSlice S8x4096x768 ![0, 0, 2096] z slices_S8x4096x2864_S8x4096x768_0_0_2096

theorem resA_at (z : FVec Ideal S8x4096x2864 .f32) (b : Fin 8) (t : Fin 4096) (j : Fin 896) :
    resA z (ix3 b t j) = z (ix3 b t (⟨j.val, by omega⟩ : Fin 2864)) := by
  unfold resA
  pointwise
theorem resB_at (z : FVec Ideal S8x4096x2864 .f32) (b : Fin 8) (t : Fin 4096) (j : Fin 768) :
    resB z (ix3 b t j) = if h : j.val < 652 then z (ix3 b t (⟨896 + j.val, by omega⟩ : Fin 2864)) else (0 : EReal) := by
  unfold resB
  pointwise
  rw [Cert.Proj.fill_zero]
theorem resC_at (z : FVec Ideal S8x4096x2864 .f32) (b : Fin 8) (t : Fin 4096) (j : Fin 640) :
    resC z (ix3 b t j) = if h : j.val < 548 then z (ix3 b t (⟨1548 + j.val, by omega⟩ : Fin 2864)) else (0 : EReal) := by
  unfold resC
  pointwise
  rw [Cert.Proj.fill_zero]
theorem resD_at (z : FVec Ideal S8x4096x2864 .f32) (b : Fin 8) (t : Fin 4096) (j : Fin 768) :
    resD z (ix3 b t j) = z (ix3 b t (⟨2096 + j.val, by omega⟩ : Fin 2864)) := by
  unfold resD
  pointwise

end Cert.Reference3Ideal.Proj
-- ==== Proof.ProjJoin.lean ====
/- The input projection's kernel and its reference leave the same four arrays, from the same arguments. -/
module

public import proofs.«01_k».proof.Defs
public import proofs.«01_k».proof.Proof.ProjValue
public import proofs.«01_k».proof.Proof.ProjRef

@[expose] public section

set_option maxRecDepth 16384

noncomputable section

namespace Cert.Proj

open Idealize.ShloMosaic Idealize.ShloMosaic.TcCoe Idealize.SL.Sem
open Cert.Kernel3Ideal (S8x4096x1024 S8x1x1024 S1024x2864 S8x4096x896 S8x4096x768 S8x4096x640)
open Cert.Kernel3Ideal.Proj

variable (m : (ℓ : Loc Cert.Kernel3Ideal.nD Cert.Kernel3Ideal.τ Cert.Kernel3Ideal.sig) → Buf (Elt Ideal) ℓ)
variable (c : Dev Cert.Kernel3Ideal.nD)

/-- The kernel's arguments, -/
abbrev argX : FVec Ideal S8x4096x1024 .f32 := m ((c.tc : Thread Cert.Kernel3Ideal.nD Cert.Kernel3Ideal.τ).loc Cert.Kernel3Ideal.main_arg0)
abbrev argS : FVec Ideal S8x1x1024 .f32 := m ((c.tc : Thread Cert.Kernel3Ideal.nD Cert.Kernel3Ideal.τ).loc Cert.Kernel3Ideal.main_arg1)
abbrev argD : FVec Ideal S8x1x1024 .f32 := m ((c.tc : Thread Cert.Kernel3Ideal.nD Cert.Kernel3Ideal.τ).loc Cert.Kernel3Ideal.main_arg2)
abbrev argW : FVec Ideal S1024x2864 .f32 := m ((c.tc : Thread Cert.Kernel3Ideal.nD Cert.Kernel3Ideal.τ).loc Cert.Kernel3Ideal.main_arg3)

/-- and the reference's products on them. -/
abbrev prods := Cert.Reference3Ideal.Proj.full (argX m c) (argS m c) (argD m c) (argW m c)

/-- A cell of the kernel against a column of the weights is the product there, -/
theorem cell_eq (b : Fin 8) (t : Fin 4096) (j : Fin 2864) (v : Fin 1024 → EReal) (hv : ∀ k, v k = argW m c (ix2 k j)) :
    cell m c b t v = prods m c (ix3 b t j) := by
  refine Eq.trans ?_ (Cert.Reference3Ideal.Proj.full_at (argX m c) (argS m c) (argD m c) (argW m c) b t j).symm
  rw [(funext hv : v = fun k => argW m c (ix2 k j))]
  rfl

/-- and against a column of zeros it is zero. -/
theorem cell_zero (b : Fin 8) (t : Fin 4096) (v : Fin 1024 → EReal) (hv : ∀ k, v k = 0) : cell m c b t v = 0 :=
  proj_zero _ _ _ _ hv

theorem outA : array4 m c = Cert.Reference3Ideal.Proj.resA (prods m c) := by
  funext i
  obtain ⟨b, t, j, rfl⟩ : ∃ (b : Fin 8) (t : Fin 4096) (j : Fin 896), i = ix3 b t j := ⟨i 0, i 1, i 2, by
    funext a
    match a with
    | ⟨0, _⟩ => rfl
    | ⟨1, _⟩ => rfl
    | ⟨2, _⟩ => rfl⟩
  rw [Cert.Reference3Ideal.Proj.resA_at]
  exact cell_eq m c b t _ _ fun k => by
    rw [V_weights]
    exact (cols_a _ _ _ _ k j).trans (groupA_at _ k j)

theorem outB : array5 m c = Cert.Reference3Ideal.Proj.resB (prods m c) := by
  funext i
  obtain ⟨b, t, j, rfl⟩ : ∃ (b : Fin 8) (t : Fin 4096) (j : Fin 768), i = ix3 b t j := ⟨i 0, i 1, i 2, by
    funext a
    match a with
    | ⟨0, _⟩ => rfl
    | ⟨1, _⟩ => rfl
    | ⟨2, _⟩ => rfl⟩
  rw [Cert.Reference3Ideal.Proj.resB_at]
  have hcol := fun k => (cols_b (groupA (argW m c)) (groupB (argW m c)) (groupC (argW m c)) (groupD (argW m c)) k j).trans (groupB_at (argW m c) k j)
  by_cases h : j.val < 652
  · rw [dif_pos h]
    exact cell_eq m c b t _ _ fun k => by
      rw [V_weights]
      exact (hcol k).trans (dif_pos h)
  · rw [dif_neg h]
    exact cell_zero m c b t _ fun k => by
      rw [V_weights]
      exact (hcol k).trans (dif_neg h)

theorem outC : array6 m c = Cert.Reference3Ideal.Proj.resC (prods m c) := by
  funext i
  obtain ⟨b, t, j, rfl⟩ : ∃ (b : Fin 8) (t : Fin 4096) (j : Fin 640), i = ix3 b t j := ⟨i 0, i 1, i 2, by
    funext a
    match a with
    | ⟨0, _⟩ => rfl
    | ⟨1, _⟩ => rfl
    | ⟨2, _⟩ => rfl⟩
  rw [Cert.Reference3Ideal.Proj.resC_at]
  have hcol := fun k => (cols_d (groupA (argW m c)) (groupB (argW m c)) (groupC (argW m c)) (groupD (argW m c)) k j).trans (groupC_at (argW m c) k j)
  by_cases h : j.val < 548
  · rw [dif_pos h]
    exact cell_eq m c b t _ _ fun k => by
      rw [V_weights]
      exact (hcol k).trans (dif_pos h)
  · rw [dif_neg h]
    exact cell_zero m c b t _ fun k => by
      rw [V_weights]
      exact (hcol k).trans (dif_neg h)

theorem outD : array7 m c = Cert.Reference3Ideal.Proj.resD (prods m c) := by
  funext i
  obtain ⟨b, t, j, rfl⟩ : ∃ (b : Fin 8) (t : Fin 4096) (j : Fin 768), i = ix3 b t j := ⟨i 0, i 1, i 2, by
    funext a
    match a with
    | ⟨0, _⟩ => rfl
    | ⟨1, _⟩ => rfl
    | ⟨2, _⟩ => rfl⟩
  rw [Cert.Reference3Ideal.Proj.resD_at]
  exact cell_eq m c b t _ _ fun k => by
    rw [V_weights]
    exact (cols_e _ _ _ _ k j).trans (groupD_at _ k j)

theorem algebraic : Cert.algebraic_Kernel3Ideal_Reference3Ideal := by
  intro m g m' g' _ ha
  refine ⟨fun c => array4 m c, fun c => array5 m c, fun c => array6 m c, fun c => array7 m c, ?_, ?_⟩
  · exact (θ_run Cert.Kernel3Ideal.defs _ _).mono
      (fun r h c => ⟨(h c).1.trans (array4_eq m c), (h c).2.1.trans (array5_eq m c), (h c).2.2.1.trans (array6_eq m c),
        (h c).2.2.2.1.trans (array7_eq m c), (h c).2.2.2.2⟩) (Cert.Kernel3Ideal.Value.run_blocks (F := Ideal) m g)
  · refine (θ_run Cert.Reference3Ideal.defs _ _).mono (fun r h c => ?_) (Cert.Reference3Ideal.Value.run (F := Ideal) m' g')
    have e : Cert.Reference3Ideal.Proj.full (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3)) = prods m c := by
      have h0 := (ha c).1
      have h1 := (ha c).2.1
      have h2 := (ha c).2.2.1
      have h3 := (ha c).2.2.2
      unfold prods argX argS argD argW
      rw [← h0, ← h1, ← h2, ← h3]
    exact ⟨(h c).1.trans ((congrArg Cert.Reference3Ideal.Proj.resA e).trans (outA m c).symm),
      (h c).2.1.trans ((congrArg Cert.Reference3Ideal.Proj.resB e).trans (outB m c).symm),
      (h c).2.2.1.trans ((congrArg Cert.Reference3Ideal.Proj.resC e).trans (outC m c).symm),
      (h c).2.2.2.1.trans ((congrArg Cert.Reference3Ideal.Proj.resD e).trans (outD m c).symm), (h c).2.2.2.2⟩

theorem frame_ref : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

end Cert.Proj

end
-- ==== Proof.ResRow.lean ====
/- A row of the residual sum over the extended reals: the row scaled, plus the weighted sum of four picked rows, normalised. -/
module

public import proofs.«01_k».proof.Proof.ProjRow

@[expose] public section

noncomputable section

namespace Cert.Res

open Idealize.ShloMosaic
open Cert.Proj

/-- A row normalised, scaled by `g` and shifted by `b`. -/
def lnRow (x g b : Fin 1024 → EReal) (k : Fin 1024) : EReal :=
  dev x k * Ideal.rsqrt (mean (fun i => dev x i * dev x i) + Ideal.ofBits .f32 0x3727C5AC#32) * g k + b k

/-- The scaled row plus `g` times another. -/
def sumRow (x g y : Fin 1024 → EReal) (k : Fin 1024) : EReal := Ideal.ofBits .f32 0x3FB504F3#32 * x k + g k * y k

/-- Four rows, each by its weight. -/
def picked (a : Fin 4 → EReal) (p0 p1 p2 p3 : Fin 1024 → EReal) (k : Fin 1024) : EReal :=
  a 0 * p0 k + a 1 * p1 k + a 2 * p2 k + a 3 * p3 k

/-- The whole row. -/
def resRow (x : Fin 1024 → EReal) (a : Fin 4 → EReal) (p0 p1 p2 p3 g lg lb : Fin 1024 → EReal) : Fin 1024 → EReal :=
  lnRow (sumRow x g (picked a p0 p1 p2 p3)) lg lb

end Cert.Res

end
-- ==== Proof.OutRow.lean ====
/- A row of the output projection over the extended reals: the four branches' rows against the weights, added to the scaled
   row. -/
module

public import proofs.«01_k».proof.Proof.ResRow

@[expose] public section

noncomputable section

namespace Cert.Out

open Idealize.ShloMosaic

/-- Where row `i` of branch `j` lies in the weights. -/
abbrev place (j : Fin 4) (i : Fin 256) : Fin 1024 := ⟨256 * j.val + i.val, by omega⟩

/-- The four rows against the weights. -/
def mixRow (y0 y1 y2 y3 : Fin 256 → EReal) (w : Fin 1024 → Fin 1024 → EReal) (k : Fin 1024) : EReal :=
  (∑ i, y0 i * w (place 0 i) k) + (∑ i, y1 i * w (place 1 i) k) + (∑ i, y2 i * w (place 2 i) k) + ∑ i, y3 i * w (place 3 i) k

/-- A sum over all rows of the weights, branch by branch. -/
theorem sum_places (f : Fin 1024 → EReal) :
    ∑ x, f x = (∑ i, f (place 0 i)) + (∑ i, f (place 1 i)) + (∑ i, f (place 2 i)) + ∑ i, f (place 3 i) := by
  show ∑ x : Fin (256 + 256 + 256 + 256), f x = _
  rw [Fin.sum_univ_add, Fin.sum_univ_add, Fin.sum_univ_add]
  refine congrArg₂ (· + ·) (congrArg₂ (· + ·) (congrArg₂ (· + ·) ?_ ?_) ?_) ?_
  · exact Finset.sum_congr rfl fun i _ => congrArg f (Fin.ext (by show i.val = 256 * 0 + i.val; omega))
  · exact Finset.sum_congr rfl fun i _ => congrArg f (Fin.ext (by show 256 + i.val = 256 * 1 + i.val; omega))
  · exact Finset.sum_congr rfl fun i _ => congrArg f (Fin.ext (by show 256 + 256 + i.val = 256 * 2 + i.val; omega))
  · exact Finset.sum_congr rfl fun i _ => congrArg f (Fin.ext (by show 256 + 256 + 256 + i.val = 256 * 3 + i.val; omega))

end Cert.Out

end
-- ==== Proof.OutBlock.lean ====
/- The output projection's block, and the weights and rows its launch reads. -/
module

public import proofs.«01_k».proof.Proof.OutRow
public import proofs.«01_k».proof.Proof.Gen.Kernel4Ideal.Value
public import Idealize.ShloMosaic.Lib.ValueIdx
public import Idealize.ShloMosaic.Lib.Pipeline.Value
public import Idealize.ShloMosaic.Lib.Pipeline.ValueKit
import Idealize.ShloMosaic.Lib.StableHlo.Run

@[expose] public section

set_option maxRecDepth 16384

noncomputable section

namespace Cert.Kernel4Ideal.Out

open Cert.Kernel4Ideal Cert.Kernel4Ideal.Gen Idealize.ShloMosaic
open Idealize.ShloMosaic.TcCoe
open Cert.Proj Cert.Res Cert.Out

/-! ## The body's values -/

theorem mix_at (y0 y1 y2 y3 : Vec Ideal S1x512x256 .f32) (w0 w1 w2 w3 : Vec Ideal S1x256x1024 .bf16) (r : Fin 512) (k : Fin 1024) :
    k0_pay1 (F := Ideal) y0 w0 y1 w1 y2 w2 y3 w3 (ix2 r k)
      = (∑ i : Fin 256, y0 (ix3 (0 : Fin 1) r i) * w0 (ix3 (0 : Fin 1) i k)) + (∑ i : Fin 256, y1 (ix3 (0 : Fin 1) r i) * w1 (ix3 (0 : Fin 1) i k))
        + (∑ i : Fin 256, y2 (ix3 (0 : Fin 1) r i) * w2 (ix3 (0 : Fin 1) i k)) + ∑ i : Fin 256, y3 (ix3 (0 : Fin 1) r i) * w3 (ix3 (0 : Fin 1) i k) := by
  unfold k0_pay1
  pointwise

theorem mid_at (u : FVec Ideal S512x1024 .f32) (x : Vec Ideal S1x512x1024 .f32) (g : Vec Ideal S1x1x1024 .f32)
    (lg lb : Vec Ideal S1x1024 .f32) (r : Fin 512) (k : Fin 1024) :
    k0_pay2 (F := Ideal) u x g lg lb (ix2 r k)
      = lnRow (sumRow (fun k => x (ix3 (0 : Fin 1) r k)) (fun k => g (ix3 (0 : Fin 1) (0 : Fin 1) k)) (fun k => u (ix2 r k)))
          (fun k => lg (ix2 (0 : Fin 1) k)) (fun k => lb (ix2 (0 : Fin 1) k)) k := by
  unfold k0_pay2 lnRow sumRow mean dev mean
  pointwise

theorem keep_at (u : FVec Ideal S512x1024 .f32) (x : Vec Ideal S1x512x1024 .f32) (g : Vec Ideal S1x1x1024 .f32)
    (lg lb : Vec Ideal S1x1024 .f32) (r : Fin 512) (k : Fin 1024) :
    k0_pay3 (F := Ideal) u x g lg lb (ix3 (0 : Fin 1) r k) = k0_pay2 (F := Ideal) u x g lg lb (ix2 r k) := by
  unfold k0_pay3
  generalize k0_pay2 (F := Ideal) u x g lg lb = v
  pointwise

/-- The sum of every row. -/
def sums (v : FVec Ideal S512x1024 .f32) : FVec Ideal S512x1 .f32 :=
  shapeCast S512x1 (multiReduction .add [1] S512 v 0x00000000#32 reduces_S512x1024_S512 (.inl rfl) rfl) shapeCasts_S512_S512x1

theorem next_at (v : FVec Ideal S512x1024 .f32) (s d : Vec Ideal S1x1x1024 .f32) (r : Fin 512) (k : Fin 1024) :
    k0_pay5 (F := Ideal) v (sums v) (Scalar.ofBits .f32 0x44800000#32) s d (ix2 r k)
      = hrow (fun k => v (ix2 r k)) (fun k => s (ix3 (0 : Fin 1) (0 : Fin 1) k)) (fun k => d (ix3 (0 : Fin 1) (0 : Fin 1) k)) k := by
  unfold k0_pay5 sums hrow mean dev mean
  pointwise

theorem half_at (v : FVec Ideal S512x1024 .f32) (z : FVec Ideal S512x1 .f32) (o : Ideal .f32) (s d : Vec Ideal S1x1x1024 .f32)
    (r : Fin 512) (k : Fin 1024) :
    k0_pay6 (F := Ideal) v z o s d (ix3 (0 : Fin 1) r k) = k0_pay5 (F := Ideal) v z o s d (ix2 r k) := by
  unfold k0_pay6
  generalize k0_pay5 (F := Ideal) v z o s d = u
  pointwise

theorem router_at (v : FVec Ideal S512x1024 .f32) (z : FVec Ideal S512x1 .f32) (o : Ideal .f32) (s d : Vec Ideal S1x1x1024 .f32)
    (w : Vec Ideal S1024x128 .f32) (b : Vec Ideal S1x128 .f32) (r : Fin 512) (j : Fin 128) :
    k0_pay7 (F := Ideal) v z o s d w b (ix3 (0 : Fin 1) r j)
      = (∑ k : Fin 1024, k0_pay5 (F := Ideal) v z o s d (ix2 r k) * w (ix2 k j)) + b (ix2 (0 : Fin 1) j) := by
  unfold k0_pay7
  generalize k0_pay5 (F := Ideal) v z o s d = u
  pointwise

/-! ## The arrays the launch reads -/

variable (m : (ℓ : Loc nD τ sig) → Buf (Elt Ideal) ℓ) (c : Dev nD)

/-- The arguments. -/
abbrev argY0 : FVec Ideal S8x4096x256 .f32 := m ((c : Thread nD τ).loc main_arg0)
abbrev argY1 : FVec Ideal S8x4096x256 .f32 := m ((c : Thread nD τ).loc main_arg1)
abbrev argY2 : FVec Ideal S8x4096x256 .f32 := m ((c : Thread nD τ).loc main_arg2)
abbrev argY3 : FVec Ideal S8x4096x256 .f32 := m ((c : Thread nD τ).loc main_arg3)
abbrev argX : FVec Ideal S8x4096x1024 .f32 := m ((c : Thread nD τ).loc main_arg4)
abbrev argG : FVec Ideal S8x1x1024 .f32 := m ((c : Thread nD τ).loc main_arg5)
abbrev argS : FVec Ideal S8x1x1024 .f32 := m ((c : Thread nD τ).loc main_arg6)
abbrev argD : FVec Ideal S8x1x1024 .f32 := m ((c : Thread nD τ).loc main_arg7)
abbrev argW : FVec Ideal S1024x1024 .f32 := m ((c : Thread nD τ).loc main_arg8)
abbrev argLg : FVec Ideal S1024 .f32 := m ((c : Thread nD τ).loc main_arg9)
abbrev argLb : FVec Ideal S1024 .f32 := m ((c : Thread nD τ).loc main_arg10)
abbrev argR : FVec Ideal S1024x32 .f32 := m ((c : Thread nD τ).loc main_arg11)
abbrev argB : FVec Ideal S32 .f32 := m ((c : Thread nD τ).loc main_arg12)

theorem V_weights : V (F := Ideal) m c main_v4
    = truncf (F := Ideal) .bf16 (shapeCast S4x256x1024 (argW m c) shapeCasts_S1024x1024_S4x256x1024) bitsLt_bf16_f32 := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl
theorem V_scale : V (F := Ideal) m c main_v5 = shapeCast S1x1024 (argLg m c) shapeCasts_S1024_S1x1024 := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl
theorem V_shift : V (F := Ideal) m c main_v6 = shapeCast S1x1024 (argLb m c) shapeCasts_S1024_S1x1024 := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl
theorem V_router : V (F := Ideal) m c main_v0
    = pad S1024x128 ![0, 0] ![0, 96] ![0, 0] (argR m c) (sitofp (F := Ideal) .f32 (constantI S_ 32 0#32)) pads_S1024x32_S1024x128_000_0960 h_S_ := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
theorem V_bias : V (F := Ideal) m c main_v2
    = shapeCast S1x128 (pad S128 ![0] ![96] ![0] (argB m c) (sitofp (F := Ideal) .f32 (constantI S_ 32 0#32)) pads_S32_S128_0960 h_S_)
        shapeCasts_S128_S1x128 := by
  unfold V
  simp only [hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  after_results_simp
  rfl

theorem weights_at (j : Fin 4) (i : Fin 256) (k : Fin 1024) :
    (V (F := Ideal) m c main_v4 : Vec Ideal S4x256x1024 .bf16) (ix3 j i k) = argW m c (ix2 (place j i) k) := by
  rw [V_weights]
  generalize argW m c = a
  pointwise
  exact congrArg (fun z : Fin 1024 => a (ix2 z k)) (Fin.ext (by show j.val * 256 + i.val = 256 * j.val + i.val; omega))
theorem scale_at (k : Fin 1024) : (V (F := Ideal) m c main_v5 : Vec Ideal S1x1024 .f32) (ix2 (0 : Fin 1) k) = argLg m c (ix1 k) := by
  rw [V_scale]
  generalize argLg m c = a
  pointwise
theorem shift_at (k : Fin 1024) : (V (F := Ideal) m c main_v6 : Vec Ideal S1x1024 .f32) (ix2 (0 : Fin 1) k) = argLb m c (ix1 k) := by
  rw [V_shift]
  generalize argLb m c = a
  pointwise
theorem router_col (k : Fin 1024) (j : Fin 128) :
    (V (F := Ideal) m c main_v0 : Vec Ideal S1024x128 .f32) (ix2 k j)
      = if h : j.val < 32 then argR m c (ix2 k (⟨j.val, h⟩ : Fin 32)) else (0 : EReal) := by
  rw [V_router]
  generalize argR m c = a
  pointwise
  rw [fill_zero]
theorem bias_col (j : Fin 128) :
    (V (F := Ideal) m c main_v2 : Vec Ideal S1x128 .f32) (ix2 (0 : Fin 1) j)
      = if h : j.val < 32 then argB m c (ix1 (⟨j.val, h⟩ : Fin 32)) else (0 : EReal) := by
  rw [V_bias]
  generalize argB m c = a
  pointwise
  rw [fill_zero]

end Cert.Kernel4Ideal.Out

end
-- ==== Proof.OutValue.lean ====
/- The three arrays the output projection's launch leaves, each read at an index. -/
module

public import proofs.«01_k».proof.Proof.OutBlock
public import Idealize.ShloMosaic.Lib.Pipeline.Covers

@[expose] public section

set_option maxRecDepth 16384

noncomputable section

namespace Cert.Kernel4Ideal.Out

open Cert.Kernel4Ideal Cert.Kernel4Ideal.Gen Cert.Kernel4Ideal.Value Idealize.ShloMosaic
open Idealize.ShloMosaic.TcCoe
open Idealize.ShloMosaic.Pipeline (Dat Cfg Window)
open Cert.Proj Cert.Res Cert.Out

variable (m : (ℓ : Loc nD τ sig) → Buf (Elt Ideal) ℓ) (c : Dev nD)

/-! ## The blocks a point reads -/

theorem pos_lt (t : Fin cfg0.N) : t.val < 64 := lt_of_lt_of_eq t.isLt (by decide +kernel : grid0.N = 64)

theorem place0 (t : Fin cfg0.N) : (cfg0.win (0 : Fin 16)).index t = ![t.val / 8, t.val % 8, 0] :=
  (by decide +kernel : ∀ t : Fin grid0.N, win0_0.index t = ![t.val / 8, t.val % 8, 0]) t
theorem place1 (t : Fin cfg0.N) : (cfg0.win (1 : Fin 16)).index t = ![t.val / 8, t.val % 8, 0] :=
  (by decide +kernel : ∀ t : Fin grid0.N, win0_1.index t = ![t.val / 8, t.val % 8, 0]) t
theorem place2 (t : Fin cfg0.N) : (cfg0.win (2 : Fin 16)).index t = ![t.val / 8, t.val % 8, 0] :=
  (by decide +kernel : ∀ t : Fin grid0.N, win0_2.index t = ![t.val / 8, t.val % 8, 0]) t
theorem place3 (t : Fin cfg0.N) : (cfg0.win (3 : Fin 16)).index t = ![t.val / 8, t.val % 8, 0] :=
  (by decide +kernel : ∀ t : Fin grid0.N, win0_3.index t = ![t.val / 8, t.val % 8, 0]) t
theorem place4 (t : Fin cfg0.N) : (cfg0.win (4 : Fin 16)).index t = ![t.val / 8, t.val % 8, 0] :=
  (by decide +kernel : ∀ t : Fin grid0.N, win0_4.index t = ![t.val / 8, t.val % 8, 0]) t
theorem place5 (t : Fin cfg0.N) : (cfg0.win (5 : Fin 16)).index t = ![t.val / 8, 0, 0] :=
  (by decide +kernel : ∀ t : Fin grid0.N, win0_5.index t = ![t.val / 8, 0, 0]) t
theorem place6 (t : Fin cfg0.N) : (cfg0.win (6 : Fin 16)).index t = ![t.val / 8, 0, 0] :=
  (by decide +kernel : ∀ t : Fin grid0.N, win0_6.index t = ![t.val / 8, 0, 0]) t
theorem place7 (t : Fin cfg0.N) : (cfg0.win (7 : Fin 16)).index t = ![t.val / 8, 0, 0] :=
  (by decide +kernel : ∀ t : Fin grid0.N, win0_7.index t = ![t.val / 8, 0, 0]) t
theorem place8 (t : Fin cfg0.N) : (cfg0.win (8 : Fin 16)).index t = ![0, 0, 0] :=
  (by decide +kernel : ∀ t : Fin grid0.N, win0_8.index t = ![0, 0, 0]) t
theorem place9 (t : Fin cfg0.N) : (cfg0.win (9 : Fin 16)).index t = ![0, 0] :=
  (by decide +kernel : ∀ t : Fin grid0.N, win0_9.index t = ![0, 0]) t
theorem place10 (t : Fin cfg0.N) : (cfg0.win (10 : Fin 16)).index t = ![0, 0] :=
  (by decide +kernel : ∀ t : Fin grid0.N, win0_10.index t = ![0, 0]) t
theorem place11 (t : Fin cfg0.N) : (cfg0.win (11 : Fin 16)).index t = ![0, 0] :=
  (by decide +kernel : ∀ t : Fin grid0.N, win0_11.index t = ![0, 0]) t
theorem place12 (t : Fin cfg0.N) : (cfg0.win (12 : Fin 16)).index t = ![0, 0] :=
  (by decide +kernel : ∀ t : Fin grid0.N, win0_12.index t = ![0, 0]) t
theorem place13 (t : Fin cfg0.N) : (cfg0.win (13 : Fin 16)).index t = ![t.val / 8, t.val % 8, 0] :=
  (by decide +kernel : ∀ t : Fin grid0.N, win0_13.index t = ![t.val / 8, t.val % 8, 0]) t
theorem place14 (t : Fin cfg0.N) : (cfg0.win (14 : Fin 16)).index t = ![t.val / 8, t.val % 8, 0] :=
  (by decide +kernel : ∀ t : Fin grid0.N, win0_14.index t = ![t.val / 8, t.val % 8, 0]) t
theorem place15 (t : Fin cfg0.N) : (cfg0.win (15 : Fin 16)).index t = ![t.val / 8, t.val % 8, 0] :=
  (by decide +kernel : ∀ t : Fin grid0.N, win0_15.index t = ![t.val / 8, t.val % 8, 0]) t

/-- The batch of a point, and the row in the batch of one of its rows. -/
abbrev batch (t : Fin cfg0.N) : Fin 8 := ⟨t.val / 8, by have := pos_lt t; omega⟩
abbrev rowAt (t : Fin cfg0.N) (r : Fin 512) : Fin 4096 := ⟨t.val % 8 * 512 + r.val, by omega⟩

theorem iblk0_at (t : Fin cfg0.N) (r : Fin 512) (i : Fin 256) :
    (iblk m c (0 : Fin 16) t : Vec Ideal S1x512x256 .f32) (ix3 (0 : Fin 1) r i) = argY0 m c (ix3 (batch t) (rowAt t r) i) := by
  have e := place0 t
  blk_ext [iblk, V_main_arg0, e]
theorem iblk1_at (t : Fin cfg0.N) (r : Fin 512) (i : Fin 256) :
    (iblk m c (1 : Fin 16) t : Vec Ideal S1x512x256 .f32) (ix3 (0 : Fin 1) r i) = argY1 m c (ix3 (batch t) (rowAt t r) i) := by
  have e := place1 t
  blk_ext [iblk, V_main_arg1, e]
theorem iblk2_at (t : Fin cfg0.N) (r : Fin 512) (i : Fin 256) :
    (iblk m c (2 : Fin 16) t : Vec Ideal S1x512x256 .f32) (ix3 (0 : Fin 1) r i) = argY2 m c (ix3 (batch t) (rowAt t r) i) := by
  have e := place2 t
  blk_ext [iblk, V_main_arg2, e]
theorem iblk3_at (t : Fin cfg0.N) (r : Fin 512) (i : Fin 256) :
    (iblk m c (3 : Fin 16) t : Vec Ideal S1x512x256 .f32) (ix3 (0 : Fin 1) r i) = argY3 m c (ix3 (batch t) (rowAt t r) i) := by
  have e := place3 t
  blk_ext [iblk, V_main_arg3, e]
theorem iblk4_at (t : Fin cfg0.N) (r : Fin 512) (k : Fin 1024) :
    (iblk m c (4 : Fin 16) t : Vec Ideal S1x512x1024 .f32) (ix3 (0 : Fin 1) r k) = argX m c (ix3 (batch t) (rowAt t r) k) := by
  have e := place4 t
  blk_ext [iblk, V_main_arg4, e]
theorem iblk5_at (t : Fin cfg0.N) (k : Fin 1024) :
    (iblk m c (5 : Fin 16) t : Vec Ideal S1x1x1024 .f32) (ix3 (0 : Fin 1) (0 : Fin 1) k) = argG m c (ix3 (batch t) (0 : Fin 1) k) := by
  have e := place5 t
  blk_ext [iblk, V_main_arg5, e]
theorem iblk6_at (t : Fin cfg0.N) (k : Fin 1024) :
    (iblk m c (6 : Fin 16) t : Vec Ideal S1x1x1024 .f32) (ix3 (0 : Fin 1) (0 : Fin 1) k) = argS m c (ix3 (batch t) (0 : Fin 1) k) := by
  have e := place6 t
  blk_ext [iblk, V_main_arg6, e]
theorem iblk7_at (t : Fin cfg0.N) (k : Fin 1024) :
    (iblk m c (7 : Fin 16) t : Vec Ideal S1x1x1024 .f32) (ix3 (0 : Fin 1) (0 : Fin 1) k) = argD m c (ix3 (batch t) (0 : Fin 1) k) := by
  have e := place7 t
  blk_ext [iblk, V_main_arg7, e]
theorem iblk8_at (t : Fin cfg0.N) (j : Fin 4) (i : Fin 256) (k : Fin 1024) :
    (iblk m c (8 : Fin 16) t : Vec Ideal S4x256x1024 .bf16) (ix3 j i k) = argW m c (ix2 (Cert.Out.place j i) k) := by
  refine Eq.trans ?_ (weights_at m c j i k)
  have e := place8 t
  blk_ext [iblk, e]
theorem iblk9_at (t : Fin cfg0.N) (k : Fin 1024) :
    (iblk m c (9 : Fin 16) t : Vec Ideal S1x1024 .f32) (ix2 (0 : Fin 1) k) = argLg m c (ix1 k) := by
  refine Eq.trans ?_ (scale_at m c k)
  have e := place9 t
  blk_ext [iblk, e]
theorem iblk10_at (t : Fin cfg0.N) (k : Fin 1024) :
    (iblk m c (10 : Fin 16) t : Vec Ideal S1x1024 .f32) (ix2 (0 : Fin 1) k) = argLb m c (ix1 k) := by
  refine Eq.trans ?_ (shift_at m c k)
  have e := place10 t
  blk_ext [iblk, e]
theorem iblk11_at (t : Fin cfg0.N) (k : Fin 1024) (j : Fin 128) :
    (iblk m c (11 : Fin 16) t : Vec Ideal S1024x128 .f32) (ix2 k j) = (V (F := Ideal) m c main_v0 : Vec Ideal S1024x128 .f32) (ix2 k j) := by
  have e := place11 t
  blk_ext [iblk, e]
theorem iblk12_at (t : Fin cfg0.N) (j : Fin 128) :
    (iblk m c (12 : Fin 16) t : Vec Ideal S1x128 .f32) (ix2 (0 : Fin 1) j) = (V (F := Ideal) m c main_v2 : Vec Ideal S1x128 .f32) (ix2 (0 : Fin 1) j) := by
  have e := place12 t
  blk_ext [iblk, e]

/-! ## Loads -/

theorem zeros3 : (![0, 0, 0] : Fin 3 → Nat) = fun _ => 0 := by decide
theorem zeros2 : (![0, 0] : Fin 2 → Nat) = fun _ => 0 := by decide

/-- Loads of whole blocks, -/
theorem ldY (x : Vec Ideal S1x512x256 .f32) : View.ld x r0_0 = x := View.ld_unit_zero (S := S1x512x256) zeros3 _ x
theorem ldX (x : Vec Ideal S1x512x1024 .f32) : View.ld x r0_5 = x := View.ld_unit_zero (S := S1x512x1024) zeros3 _ x
theorem ldG (x : Vec Ideal S1x1x1024 .f32) : View.ld x r0_6 = x := View.ld_unit_zero (S := S1x1x1024) zeros3 _ x
theorem ldL (x : Vec Ideal S1x1024 .f32) : View.ld x r0_7 = x := View.ld_unit_zero (S := S1x1024) zeros2 _ x
theorem ldR (x : Vec Ideal S1024x128 .f32) : View.ld x r0_8 = x := View.ld_unit_zero (S := S1024x128) zeros2 _ x
theorem ldB (x : Vec Ideal S1x128 .f32) : View.ld x r0_9 = x := View.ld_unit_zero (S := S1x128) zeros2 _ x

/-- and of a branch's part of the weights. -/
theorem ldW0 (x : Vec Ideal S4x256x1024 .bf16) (i : Fin 256) (k : Fin 1024) :
    (View.ld x r0_1 : Vec Ideal S1x256x1024 .bf16) (ix3 (0 : Fin 1) i k) = x (ix3 (0 : Fin 4) i k) :=
  congrArg x (funext fun a => Fin.ext (by match a with | ⟨0, _⟩ => simp | ⟨1, _⟩ => simp | ⟨2, _⟩ => simp))
theorem ldW1 (x : Vec Ideal S4x256x1024 .bf16) (i : Fin 256) (k : Fin 1024) :
    (View.ld x r0_2 : Vec Ideal S1x256x1024 .bf16) (ix3 (0 : Fin 1) i k) = x (ix3 (1 : Fin 4) i k) :=
  congrArg x (funext fun a => Fin.ext (by match a with | ⟨0, _⟩ => simp | ⟨1, _⟩ => simp | ⟨2, _⟩ => simp))
theorem ldW2 (x : Vec Ideal S4x256x1024 .bf16) (i : Fin 256) (k : Fin 1024) :
    (View.ld x r0_3 : Vec Ideal S1x256x1024 .bf16) (ix3 (0 : Fin 1) i k) = x (ix3 (2 : Fin 4) i k) :=
  congrArg x (funext fun a => Fin.ext (by match a with | ⟨0, _⟩ => simp | ⟨1, _⟩ => simp | ⟨2, _⟩ => simp))
theorem ldW3 (x : Vec Ideal S4x256x1024 .bf16) (i : Fin 256) (k : Fin 1024) :
    (View.ld x r0_4 : Vec Ideal S1x256x1024 .bf16) (ix3 (0 : Fin 1) i k) = x (ix3 (3 : Fin 4) i k) :=
  congrArg x (funext fun a => Fin.ext (by match a with | ⟨0, _⟩ => simp | ⟨1, _⟩ => simp | ⟨2, _⟩ => simp))

/-! ## The block's rows -/

/-- The four branches against the weights, at batch `b` and row `q`, -/
def mix (b : Fin 8) (q : Fin 4096) : Fin 1024 → EReal :=
  mixRow (fun i => argY0 m c (ix3 b q i)) (fun i => argY1 m c (ix3 b q i)) (fun i => argY2 m c (ix3 b q i)) (fun i => argY3 m c (ix3 b q i))
    (fun i k => argW m c (ix2 i k))

/-- the row after the first half of the layer, -/
def mid (b : Fin 8) (q : Fin 4096) : Fin 1024 → EReal :=
  lnRow (sumRow (fun k => argX m c (ix3 b q k)) (fun k => argG m c (ix3 b (0 : Fin 1) k)) (mix m c b q))
    (fun k => argLg m c (ix1 k)) (fun k => argLb m c (ix1 k))

/-- the row the second half starts from, -/
def second (b : Fin 8) (q : Fin 4096) : Fin 1024 → EReal :=
  hrow (mid m c b q) (fun k => argS m c (ix3 b (0 : Fin 1) k)) (fun k => argD m c (ix3 b (0 : Fin 1) k))

/-- and the router's value at a column of its filled-up weights. -/
def router (b : Fin 8) (q : Fin 4096) (j : Fin 128) : EReal :=
  (∑ k, second m c b q k * (V (F := Ideal) m c main_v0 : Vec Ideal S1024x128 .f32) (ix2 k j))
    + (V (F := Ideal) m c main_v2 : Vec Ideal S1x128 .f32) (ix2 (0 : Fin 1) j)

/-- The body's products at a point. -/
abbrev mixB (t : Fin cfg0.N) : FVec Ideal S512x1024 .f32 :=
  k0_pay8 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)

/-- The body's rows at a point. -/
abbrev midB (t : Fin cfg0.N) : FVec Ideal S512x1024 .f32 :=
  k0_pay2 (F := Ideal) (mixB m c t) (iblk m c 4 t) (iblk m c 5 t) (iblk m c 9 t) (iblk m c 10 t)

theorem mixB_at (t : Fin cfg0.N) (r : Fin 512) (k : Fin 1024) : mixB m c t (ix2 r k) = mix m c (batch t) (rowAt t r) k := by
  refine (mix_at _ _ _ _ _ _ _ _ r k).trans ?_
  rw [ldY, ldY, ldY, ldY]
  unfold mix mixRow
  refine congrArg₂ (· + ·) (congrArg₂ (· + ·) (congrArg₂ (· + ·) ?_ ?_) ?_) ?_
  · exact Finset.sum_congr rfl fun i _ => congrArg₂ (· * ·) (iblk0_at m c t r i) ((ldW0 _ i k).trans (iblk8_at m c t 0 i k))
  · exact Finset.sum_congr rfl fun i _ => congrArg₂ (· * ·) (iblk1_at m c t r i) ((ldW1 _ i k).trans (iblk8_at m c t 1 i k))
  · exact Finset.sum_congr rfl fun i _ => congrArg₂ (· * ·) (iblk2_at m c t r i) ((ldW2 _ i k).trans (iblk8_at m c t 2 i k))
  · exact Finset.sum_congr rfl fun i _ => congrArg₂ (· * ·) (iblk3_at m c t r i) ((ldW3 _ i k).trans (iblk8_at m c t 3 i k))

theorem midB_at (t : Fin cfg0.N) (r : Fin 512) (k : Fin 1024) : midB m c t (ix2 r k) = mid m c (batch t) (rowAt t r) k := by
  refine (mid_at (mixB m c t) _ _ _ _ r k).trans ?_
  unfold mid
  simp only [mixB_at, iblk4_at, iblk5_at, iblk9_at, iblk10_at]

theorem nextB_at (t : Fin cfg0.N) (r : Fin 512) (k : Fin 1024) :
    k0_pay5 (F := Ideal) (midB m c t) (sums (midB m c t)) (Scalar.ofBits .f32 0x44800000#32) (iblk m c 6 t) (iblk m c 7 t) (ix2 r k)
      = second m c (batch t) (rowAt t r) k := by
  refine (next_at (midB m c t) _ _ r k).trans ?_
  unfold second
  simp only [midB_at, iblk6_at, iblk7_at]

/-- An index of a block by its row and column. -/
theorem split_idx (y : S1x512x1024.Idx) : ∃ (r : Fin 512) (k : Fin 1024), y = ix3 (0 : Fin 1) r k := ⟨y 1, y 2, by
  funext a
  match a with
  | ⟨0, _⟩ => exact Fin.ext (by have h : (y (0 : Fin 3)).val < 1 := (y (0 : Fin 3)).isLt; show (y (0 : Fin 3)).val = 0; omega)
  | ⟨1, _⟩ => rfl
  | ⟨2, _⟩ => rfl⟩

theorem out13_at (t : Fin cfg0.N) (y : S1x512x1024.Idx) (b : Fin 8) (q : Fin 4096) (l : Fin 1024) (hb : b.val = t.val / 8)
    (hq : q.val = t.val % 8 * 512 + (y (1 : Fin 3)).val) (hl : l.val = (y (2 : Fin 3)).val) :
    out0_13 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y = mid m c b q l := by
  obtain ⟨r, k, rfl⟩ := split_idx y
  obtain rfl : b = batch t := Fin.ext hb
  obtain rfl : q = rowAt t r := Fin.ext hq
  obtain rfl : l = k := Fin.ext hl
  unfold out0_13
  rw [View.canon_cons_unit_zero zeros3, ldX, ldG, ldL, ldL]
  exact (keep_at (mixB m c t) _ _ _ _ r l).trans (midB_at m c t r l)

theorem out14_at (t : Fin cfg0.N) (y : S1x512x1024.Idx) (b : Fin 8) (q : Fin 4096) (l : Fin 1024) (hb : b.val = t.val / 8)
    (hq : q.val = t.val % 8 * 512 + (y (1 : Fin 3)).val) (hl : l.val = (y (2 : Fin 3)).val) :
    out0_14 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y = second m c b q l := by
  obtain ⟨r, k, rfl⟩ := split_idx y
  obtain rfl : b = batch t := Fin.ext hb
  obtain rfl : q = rowAt t r := Fin.ext hq
  obtain rfl : l = k := Fin.ext hl
  unfold out0_14 k0_pay9 k0_pay10
  rw [View.canon_cons_unit_zero zeros3, ldX, ldG, ldG, ldG, ldL, ldL]
  exact (half_at (midB m c t) (sums (midB m c t)) _ _ _ r l).trans (nextB_at m c t r l)

theorem out15_at (t : Fin cfg0.N) (y : S1x512x128.Idx) (b : Fin 8) (q : Fin 4096) (l : Fin 128) (hb : b.val = t.val / 8)
    (hq : q.val = t.val % 8 * 512 + (y (1 : Fin 3)).val) (hl : l.val = (y (2 : Fin 3)).val) :
    out0_15 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y = router m c b q l := by
  obtain ⟨r, j, rfl⟩ : ∃ (r : Fin 512) (j : Fin 128), y = ix3 (0 : Fin 1) r j := ⟨y 1, y 2, by
    funext a
    match a with
    | ⟨0, _⟩ => exact Fin.ext (by have h : (y (0 : Fin 3)).val < 1 := (y (0 : Fin 3)).isLt; show (y (0 : Fin 3)).val = 0; omega)
    | ⟨1, _⟩ => rfl
    | ⟨2, _⟩ => rfl⟩
  obtain rfl : b = batch t := Fin.ext hb
  obtain rfl : q = rowAt t r := Fin.ext hq
  obtain rfl : l = j := Fin.ext hl
  unfold out0_15 k0_pay9 k0_pay10
  rw [View.canon_cons_unit_zero zeros3, ldX, ldG, ldG, ldG, ldL, ldL, ldR, ldB]
  refine (router_at (midB m c t) (sums (midB m c t)) _ _ _ _ _ r l).trans ?_
  unfold router
  simp only [nextB_at, iblk11_at, iblk12_at]

/-! ## The arrays -/

/-- The rows after the first half, -/
def array13 : Vec Ideal S8x4096x1024 .f32 := fun i => mid m c (i (0 : Fin 3)) (i (1 : Fin 3)) (i (2 : Fin 3))
/-- the rows the second half starts from, -/
def array14 : Vec Ideal S8x4096x1024 .bf16 := fun i => second m c (i (0 : Fin 3)) (i (1 : Fin 3)) (i (2 : Fin 3))
/-- and the router's values. -/
def array15 : Vec Ideal S8x4096x128 .f32 := fun i => router m c (i (0 : Fin 3)) (i (1 : Fin 3)) (i (2 : Fin 3))

theorem array13_eq : ((dats m 0 c).arrAt (13 : Fin 16) cfg0.N : Vec Ideal S8x4096x1024 .f32) = array13 m c := by
  refine (dats m 0 c).arrAt_eq_of_covers (13 : Fin 16) _ (by decide +kernel) fun t hf y => ?_
  have e := place13 t
  have hy0 : (y (0 : Fin 3)).val < 1 := (y (0 : Fin 3)).isLt
  have e0 : (((cfg0.win (13 : Fin 16)).blk t).view.emb y (0 : Fin 3)).val = t.val / 8 := by blk_simp [e]
  have e1 : (((cfg0.win (13 : Fin 16)).blk t).view.emb y (1 : Fin 3)).val = t.val % 8 * 512 + (y (1 : Fin 3)).val := by blk_simp [e]
  have e2 : (((cfg0.win (13 : Fin 16)).blk t).view.emb y (2 : Fin 3)).val = (y (2 : Fin 3)).val := by blk_simp [e]
  blk_simp
  rw [after0_13]
  generalize (((cfg0.win (13 : Fin 16)).blk t).view.emb y) = z at e0 e1 e2
  exact out13_at m c t y _ _ _ e0 e1 e2

theorem array14_eq : ((dats m 0 c).arrAt (14 : Fin 16) cfg0.N : Vec Ideal S8x4096x1024 .bf16) = array14 m c := by
  refine (dats m 0 c).arrAt_eq_of_covers (14 : Fin 16) _ (by decide +kernel) fun t hf y => ?_
  have e := place14 t
  have hy0 : (y (0 : Fin 3)).val < 1 := (y (0 : Fin 3)).isLt
  have e0 : (((cfg0.win (14 : Fin 16)).blk t).view.emb y (0 : Fin 3)).val = t.val / 8 := by blk_simp [e]
  have e1 : (((cfg0.win (14 : Fin 16)).blk t).view.emb y (1 : Fin 3)).val = t.val % 8 * 512 + (y (1 : Fin 3)).val := by blk_simp [e]
  have e2 : (((cfg0.win (14 : Fin 16)).blk t).view.emb y (2 : Fin 3)).val = (y (2 : Fin 3)).val := by blk_simp [e]
  blk_simp
  rw [after0_14]
  generalize (((cfg0.win (14 : Fin 16)).blk t).view.emb y) = z at e0 e1 e2
  exact out14_at m c t y _ _ _ e0 e1 e2

theorem array15_eq : ((dats m 0 c).arrAt (15 : Fin 16) cfg0.N : Vec Ideal S8x4096x128 .f32) = array15 m c := by
  refine (dats m 0 c).arrAt_eq_of_covers (15 : Fin 16) _ (by decide +kernel) fun t hf y => ?_
  have e := place15 t
  have hy0 : (y (0 : Fin 3)).val < 1 := (y (0 : Fin 3)).isLt
  have e0 : (((cfg0.win (15 : Fin 16)).blk t).view.emb y (0 : Fin 3)).val = t.val / 8 := by blk_simp [e]
  have e1 : (((cfg0.win (15 : Fin 16)).blk t).view.emb y (1 : Fin 3)).val = t.val % 8 * 512 + (y (1 : Fin 3)).val := by blk_simp [e]
  have e2 : (((cfg0.win (15 : Fin 16)).blk t).view.emb y (2 : Fin 3)).val = (y (2 : Fin 3)).val := by blk_simp [e]
  blk_simp
  rw [after0_15]
  generalize (((cfg0.win (15 : Fin 16)).blk t).view.emb y) = z at e0 e1 e2
  exact out15_at m c t y _ _ _ e0 e1 e2

end Cert.Kernel4Ideal.Out

end
-- ==== Proof.ResRef.lean ====
/- The residual sum's reference on the prompt, its result read at an index. -/
module

public import proofs.«01_k».proof.Proof.ResRow
public import proofs.«01_k».proof.Proof.ProjRef
public import proofs.«01_k».proof.Proof.Gen.Reference5Ideal.Run

@[expose] public section

set_option maxRecDepth 16384

noncomputable section

namespace Cert.Reference5Ideal.Res

open Cert.Reference5Ideal Cert.Reference5Ideal.Gen Idealize.ShloMosaic
open Cert.Proj Cert.Res
open Cert.Reference3Ideal.Proj (means devs means_at devs_at)

/-- The four rows, each by its weight, -/
def weighted (a : FVec Ideal S8x4096x4 .f32) (p0 p1 p2 p3 : FVec Ideal S8x4096x1024 .f32) : FVec Ideal S8x4096x1024 .f32 :=
  addf (addf (addf
    (mulf (broadcastInDim S8x4096x1024 ![0, 1, 2] bcast_S8x4096x1_S8x4096x1024_0_1_2 (extractStridedSlice S8x4096x1 ![0, 0, 0] a slices_S8x4096x4_S8x4096x1_0_0_0)) p0)
    (mulf (broadcastInDim S8x4096x1024 ![0, 1, 2] bcast_S8x4096x1_S8x4096x1024_0_1_2 (extractStridedSlice S8x4096x1 ![0, 0, 1] a slices_S8x4096x4_S8x4096x1_0_0_1)) p1))
    (mulf (broadcastInDim S8x4096x1024 ![0, 1, 2] bcast_S8x4096x1_S8x4096x1024_0_1_2 (extractStridedSlice S8x4096x1 ![0, 0, 2] a slices_S8x4096x4_S8x4096x1_0_0_2)) p2))
    (mulf (broadcastInDim S8x4096x1024 ![0, 1, 2] bcast_S8x4096x1_S8x4096x1024_0_1_2 (extractStridedSlice S8x4096x1 ![0, 0, 3] a slices_S8x4096x4_S8x4096x1_0_0_3)) p3)

/-- a row scaled plus `g` times another, -/
def scaled (x : FVec Ideal S8x4096x1024 .f32) (g : FVec Ideal S8x1x1024 .f32) (y : FVec Ideal S8x4096x1024 .f32) : FVec Ideal S8x4096x1024 .f32 :=
  addf (mulf (broadcastInDim S8x4096x1024 ![] bcast_S_S8x4096x1024 (constant S_ .f32 0x3FB504F3#32)) x)
    (mulf (broadcastInDim S8x4096x1024 ![0, 1, 2] bcast_S8x1x1024_S8x4096x1024_0_1_2 g) y)

/-- and the rows normalised, scaled and shifted. -/
def normal (x : FVec Ideal S8x4096x1024 .f32) (lg lb : FVec Ideal S1024 .f32) : FVec Ideal S8x4096x1024 .f32 :=
  addf (mulf (mulf (devs x) (broadcastInDim S8x4096x1024 ![0, 1, 2] bcast_S8x4096x1_S8x4096x1024_0_1_2
      (Host.rsqrt (addf (means (mulf (devs x) (devs x))) (broadcastInDim S8x4096x1 ![] bcast_S_S8x4096x1 (constant S_ .f32 0x3727C5AC#32))))))
    (broadcastInDim S8x4096x1024 ![0, 1, 2] bcast_S1x1x1024_S8x4096x1024_0_1_2 (broadcastInDim S1x1x1024 ![2] bcast_S1024_S1x1x1024_2 lg)))
    (broadcastInDim S8x4096x1024 ![0, 1, 2] bcast_S1x1x1024_S8x4096x1024_0_1_2 (broadcastInDim S1x1x1024 ![2] bcast_S1024_S1x1x1024_2 lb))

theorem weighted_at (a : FVec Ideal S8x4096x4 .f32) (p0 p1 p2 p3 : FVec Ideal S8x4096x1024 .f32) (b : Fin 8) (t : Fin 4096) (k : Fin 1024) :
    weighted a p0 p1 p2 p3 (ix3 b t k)
      = picked (fun j => a (ix3 b t j)) (fun k => p0 (ix3 b t k)) (fun k => p1 (ix3 b t k)) (fun k => p2 (ix3 b t k)) (fun k => p3 (ix3 b t k)) k := by
  unfold weighted picked
  pointwise

theorem scaled_at (x : FVec Ideal S8x4096x1024 .f32) (g : FVec Ideal S8x1x1024 .f32) (y : FVec Ideal S8x4096x1024 .f32)
    (b : Fin 8) (t : Fin 4096) (k : Fin 1024) :
    scaled x g y (ix3 b t k) = sumRow (fun k => x (ix3 b t k)) (fun k => g (ix3 b (0 : Fin 1) k)) (fun k => y (ix3 b t k)) k := by
  unfold scaled sumRow
  pointwise

theorem normal_at (x : FVec Ideal S8x4096x1024 .f32) (lg lb : FVec Ideal S1024 .f32) (b : Fin 8) (t : Fin 4096) (k : Fin 1024) :
    normal x lg lb (ix3 b t k) = lnRow (fun k => x (ix3 b t k)) (fun k => lg (ix1 k)) (fun k => lb (ix1 k)) k := by
  have hv : means (mulf (devs x) (devs x)) (ix3 b t (0 : Fin 1))
      = mean (fun i => dev (fun k => x (ix3 b t k)) i * dev (fun k => x (ix3 b t k)) i) := by
    rw [means_at]
    exact congrArg mean (funext fun i => by rw [← devs_at]; rfl)
  unfold normal lnRow
  rw [← hv, ← devs_at]
  generalize means (mulf (devs x) (devs x)) = u
  generalize devs x = v
  pointwise

/-- The reference's result. -/
def result (x : FVec Ideal S8x4096x1024 .f32) (a : FVec Ideal S8x4096x4 .f32) (p0 p1 p2 p3 : FVec Ideal S8x4096x1024 .f32)
    (g : FVec Ideal S8x1x1024 .f32) (lg lb : FVec Ideal S1024 .f32) : FVec Ideal S8x4096x1024 .f32 :=
  normal (scaled x g (weighted a p0 p1 p2 p3)) lg lb

theorem result_at (x : FVec Ideal S8x4096x1024 .f32) (a : FVec Ideal S8x4096x4 .f32) (p0 p1 p2 p3 : FVec Ideal S8x4096x1024 .f32)
    (g : FVec Ideal S8x1x1024 .f32) (lg lb : FVec Ideal S1024 .f32) (b : Fin 8) (t : Fin 4096) (k : Fin 1024) :
    result x a p0 p1 p2 p3 g lg lb (ix3 b t k)
      = resRow (fun k => x (ix3 b t k)) (fun j => a (ix3 b t j)) (fun k => p0 (ix3 b t k)) (fun k => p1 (ix3 b t k)) (fun k => p2 (ix3 b t k))
          (fun k => p3 (ix3 b t k)) (fun k => g (ix3 b (0 : Fin 1) k)) (fun k => lg (ix1 k)) (fun k => lb (ix1 k)) k := by
  refine (normal_at _ lg lb b t k).trans ?_
  simp only [scaled_at, weighted_at]
  rfl

end Cert.Reference5Ideal.Res

end
-- ==== Proof.OutRef.lean ====
/- The output projection's reference, its three results read at an index. -/
module

public import proofs.«01_k».proof.Proof.OutRow
public import proofs.«01_k».proof.Proof.ResRef
public import proofs.«01_k».proof.Proof.Gen.Reference4Ideal.Run

@[expose] public section

set_option maxRecDepth 16384

noncomputable section

namespace Cert.Reference4Ideal.Out

open Cert.Reference4Ideal Cert.Reference4Ideal.Gen Idealize.ShloMosaic
open Cert.Proj Cert.Res Cert.Out
open Cert.Reference3Ideal.Proj (normed normed_at)
open Cert.Reference5Ideal.Res (scaled normal scaled_at normal_at)

/-- The four branches side by side, against the weights, -/
def mixed (y0 y1 y2 y3 : FVec Ideal S8x4096x256 .f32) (w : FVec Ideal S1024x1024 .f32) : FVec Ideal S8x4096x1024 .f32 :=
  Host.dotGeneral (F := Ideal) dot_S8x4096x1024_S1024x1024_S8x4096x1024_2_0_01_1_n_n none
    (concatenate S8x4096x1024 2 [⟨S8x4096x256, y0⟩, ⟨S8x4096x256, y1⟩, ⟨S8x4096x256, y2⟩, ⟨S8x4096x256, y3⟩]
      concatenates_S8x4096x256_S8x4096x256_S8x4096x256_S8x4096x256_S8x4096x1024_d2) w

/-- the router's products with its bias, -/
def routed (h : FVec Ideal S8x4096x1024 .f32) (w : FVec Ideal S1024x32 .f32) (b : FVec Ideal S32 .f32) : FVec Ideal S8x4096x32 .f32 :=
  addf (Host.dotGeneral (F := Ideal) dot_S8x4096x1024_S1024x32_S8x4096x32_2_0_01_1_n_n none h w)
    (broadcastInDim S8x4096x32 ![0, 1, 2] bcast_S1x1x32_S8x4096x32_0_1_2 (broadcastInDim S1x1x32 ![2] bcast_S32_S1x1x32_2 b))

/-- and those filled up to 128 columns. -/
def filled (z : FVec Ideal S8x4096x32 .f32) : FVec Ideal S8x4096x128 .f32 :=
  pad S8x4096x128 ![0, 0, 0] ![0, 0, 96] ![0, 0, 0] z (sitofp (F := Ideal) .f32 (constantI S_ 32 0#32)) pads_S8x4096x32_S8x4096x128_000_000_0960 h_S_

theorem mixed_at (y0 y1 y2 y3 : FVec Ideal S8x4096x256 .f32) (w : FVec Ideal S1024x1024 .f32) (b : Fin 8) (t : Fin 4096) (k : Fin 1024) :
    mixed y0 y1 y2 y3 w (ix3 b t k)
      = mixRow (fun i => y0 (ix3 b t i)) (fun i => y1 (ix3 b t i)) (fun i => y2 (ix3 b t i)) (fun i => y3 (ix3 b t i)) (fun i k => w (ix2 i k)) k := by
  unfold mixed mixRow
  pointwise
  rw [sum_places]
  refine congrArg₂ (· + ·) (congrArg₂ (· + ·) (congrArg₂ (· + ·) ?_ ?_) ?_) ?_
  · refine Finset.sum_congr rfl fun i _ => congrArg (· * w (ix2 (place 0 i) k)) ?_
    rw [dif_pos (by show 256 * 0 + i.val < 256; omega)]
    exact congrArg (fun z : Fin 256 => y0 (ix3 b t z)) (Fin.ext (by show 256 * 0 + i.val = i.val; omega))
  · refine Finset.sum_congr rfl fun i _ => congrArg (· * w (ix2 (place 1 i) k)) ?_
    rw [dif_neg (by show ¬ 256 * 1 + i.val < 256; omega), dif_pos (by show 256 * 1 + i.val - 256 < 256; omega)]
    exact congrArg (fun z : Fin 256 => y1 (ix3 b t z)) (Fin.ext (by show 256 * 1 + i.val - 256 = i.val; omega))
  · refine Finset.sum_congr rfl fun i _ => congrArg (· * w (ix2 (place 2 i) k)) ?_
    rw [dif_neg (by show ¬ 256 * 2 + i.val < 256; omega), dif_neg (by show ¬ 256 * 2 + i.val - 256 < 256; omega),
      dif_pos (by show 256 * 2 + i.val - 256 - 256 < 256; omega)]
    exact congrArg (fun z : Fin 256 => y2 (ix3 b t z)) (Fin.ext (by show 256 * 2 + i.val - 256 - 256 = i.val; omega))
  · refine Finset.sum_congr rfl fun i _ => congrArg (· * w (ix2 (place 3 i) k)) ?_
    rw [dif_neg (by show ¬ 256 * 3 + i.val < 256; omega), dif_neg (by show ¬ 256 * 3 + i.val - 256 < 256; omega),
      dif_neg (by show ¬ 256 * 3 + i.val - 256 - 256 < 256; omega)]
    exact congrArg (fun z : Fin 256 => y3 (ix3 b t z)) (Fin.ext (by show 256 * 3 + i.val - 256 - 256 - 256 = i.val; omega))

theorem routed_at (h : FVec Ideal S8x4096x1024 .f32) (w : FVec Ideal S1024x32 .f32) (b : FVec Ideal S32 .f32)
    (n : Fin 8) (t : Fin 4096) (j : Fin 32) :
    routed h w b (ix3 n t j) = (∑ k : Fin 1024, h (ix3 n t k) * w (ix2 k j)) + b (ix1 j) := by
  unfold routed
  pointwise

theorem filled_at (z : FVec Ideal S8x4096x32 .f32) (b : Fin 8) (t : Fin 4096) (j : Fin 128) :
    filled z (ix3 b t j) = if h : j.val < 32 then z (ix3 b t (⟨j.val, h⟩ : Fin 32)) else (0 : EReal) := by
  unfold filled
  pointwise
  rw [fill_zero]

end Cert.Reference4Ideal.Out

end
-- ==== Proof.OutJoin.lean ====
/- The output projection's kernel and its reference leave the same three arrays, from the same arguments. -/
module

public import proofs.«01_k».proof.Defs
public import proofs.«01_k».proof.Proof.OutValue
public import proofs.«01_k».proof.Proof.OutRef

@[expose] public section

set_option maxRecDepth 16384

noncomputable section

namespace Cert.Out

open Idealize.ShloMosaic Idealize.ShloMosaic.TcCoe Idealize.SL.Sem
open Cert.Proj Cert.Res
open Cert.Kernel4Ideal (S8x4096x256 S8x4096x1024 S8x4096x128 S8x1x1024 S1024x1024 S1024 S1024x32 S32)
open Cert.Kernel4Ideal.Out
open Cert.Reference3Ideal.Proj (normed normed_at)
open Cert.Reference5Ideal.Res (scaled normal scaled_at normal_at)
open Cert.Reference4Ideal.Out (mixed mixed_at routed routed_at filled filled_at)

/-! ## The reference's results -/

/-- The rows after the first half, -/
def resMid (y0 y1 y2 y3 : FVec Ideal S8x4096x256 .f32) (x : FVec Ideal S8x4096x1024 .f32) (g : FVec Ideal S8x1x1024 .f32)
    (w : FVec Ideal S1024x1024 .f32) (lg lb : FVec Ideal S1024 .f32) : FVec Ideal S8x4096x1024 .f32 :=
  normal (scaled x g (mixed y0 y1 y2 y3 w)) lg lb

/-- those rows normalised in low precision, -/
def resNext (u : FVec Ideal S8x4096x1024 .f32) (s d : FVec Ideal S8x1x1024 .f32) : FVec Ideal S8x4096x1024 .bf16 :=
  truncf (F := Ideal) .bf16 (normed u s d) (by decide)

/-- and the router's values. -/
def resRouter (u : FVec Ideal S8x4096x1024 .f32) (s d : FVec Ideal S8x1x1024 .f32) (w : FVec Ideal S1024x32 .f32) (b : FVec Ideal S32 .f32) :
    FVec Ideal S8x4096x128 .f32 :=
  filled (routed (normed u s d) w b)

variable (m : (ℓ : Loc Cert.Kernel4Ideal.nD Cert.Kernel4Ideal.τ Cert.Kernel4Ideal.sig) → Buf (Elt Ideal) ℓ)
variable (c : Dev Cert.Kernel4Ideal.nD)

/-- The reference's rows on the kernel's arguments. -/
abbrev rows := resMid (argY0 m c) (argY1 m c) (argY2 m c) (argY3 m c) (argX m c) (argG m c) (argW m c) (argLg m c) (argLb m c)

theorem rows_at (b : Fin 8) (t : Fin 4096) (k : Fin 1024) : mid m c b t k = rows m c (ix3 b t k) := by
  refine Eq.trans ?_ (normal_at (scaled (argX m c) (argG m c) (mixed (argY0 m c) (argY1 m c) (argY2 m c) (argY3 m c) (argW m c)))
    (argLg m c) (argLb m c) b t k).symm
  simp only [scaled_at, mixed_at]
  rfl

theorem second_at (b : Fin 8) (t : Fin 4096) (k : Fin 1024) :
    second m c b t k = normed (rows m c) (argS m c) (argD m c) (ix3 b t k) := by
  refine Eq.trans ?_ (normed_at (rows m c) (argS m c) (argD m c) b t k).symm
  rw [← funext (rows_at m c b t)]
  rfl

theorem split (n : Nat) (i : (⟨3, ![8, 4096, n]⟩ : Shape).Idx) : ∃ (b : Fin 8) (t : Fin 4096) (j : Fin n), i = ix3 b t j := ⟨i 0, i 1, i 2, by
  funext a
  match a with
  | ⟨0, _⟩ => rfl
  | ⟨1, _⟩ => rfl
  | ⟨2, _⟩ => rfl⟩

theorem outMid : array13 m c = rows m c := by
  funext i
  obtain ⟨b, t, k, rfl⟩ := split 1024 i
  exact rows_at m c b t k

theorem outNext : array14 m c = resNext (rows m c) (argS m c) (argD m c) := by
  funext i
  obtain ⟨b, t, k, rfl⟩ := split 1024 i
  exact second_at m c b t k

theorem outRouter : array15 m c = resRouter (rows m c) (argS m c) (argD m c) (argR m c) (argB m c) := by
  funext i
  obtain ⟨b, t, j, rfl⟩ := split 128 i
  refine Eq.trans ?_ (filled_at (routed (normed (rows m c) (argS m c) (argD m c)) (argR m c) (argB m c)) b t j).symm
  show router m c b t j = _
  unfold router
  by_cases h : j.val < 32
  · rw [dif_pos h, bias_col, dif_pos h]
    refine Eq.trans ?_ (routed_at (normed (rows m c) (argS m c) (argD m c)) (argR m c) (argB m c) b t ⟨j.val, h⟩).symm
    refine congrArg (· + argB m c (ix1 ⟨j.val, h⟩)) (Finset.sum_congr rfl fun k _ => ?_)
    rw [router_col, dif_pos h, second_at]
  · rw [dif_neg h, bias_col, dif_neg h]
    rw [Finset.sum_eq_zero fun k _ => by rw [router_col, dif_neg h, mul_zero], add_zero]

theorem algebraic : Cert.algebraic_Kernel4Ideal_Reference4Ideal := by
  intro m g m' g' _ ha
  refine ⟨fun c => array13 m c, fun c => array14 m c, fun c => array15 m c, ?_, ?_⟩
  · exact (θ_run Cert.Kernel4Ideal.defs _ _).mono
      (fun r h c => ⟨(h c).1.trans (array13_eq m c), (h c).2.1.trans (array14_eq m c), (h c).2.2.1.trans (array15_eq m c), (h c).2.2.2⟩)
      (Cert.Kernel4Ideal.Value.run_blocks (F := Ideal) m g)
  · refine (θ_run Cert.Reference4Ideal.defs _ _).mono
      (fun r h c => ⟨(h c).1.trans ?_, (h c).2.1.trans ?_, (h c).2.2.1.trans ?_, (h c).2.2.2⟩)
      (Cert.Reference4Ideal.Value.run (F := Ideal) m' g')
    · obtain ⟨h0, h1, h2, h3, h4, h5, h6, h7, h8, h9, h10, h11, h12⟩ := ha c
      refine Eq.trans ?_ (outMid m c).symm
      unfold rows argY0 argY1 argY2 argY3 argX argG argW argLg argLb
      rw [← h0, ← h1, ← h2, ← h3, ← h4, ← h5, ← h8, ← h9, ← h10]
      rfl
    · obtain ⟨h0, h1, h2, h3, h4, h5, h6, h7, h8, h9, h10, h11, h12⟩ := ha c
      refine Eq.trans ?_ (outNext m c).symm
      unfold rows argY0 argY1 argY2 argY3 argX argG argW argLg argLb argS argD
      rw [← h0, ← h1, ← h2, ← h3, ← h4, ← h5, ← h6, ← h7, ← h8, ← h9, ← h10]
      rfl
    · obtain ⟨h0, h1, h2, h3, h4, h5, h6, h7, h8, h9, h10, h11, h12⟩ := ha c
      refine Eq.trans ?_ (outRouter m c).symm
      unfold rows argY0 argY1 argY2 argY3 argX argG argW argLg argLb argS argD argR argB
      rw [← h0, ← h1, ← h2, ← h3, ← h4, ← h5, ← h6, ← h7, ← h8, ← h9, ← h10, ← h11, ← h12]
      rfl

theorem frame_ref : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.Out

end
-- ==== Proof.ResValue.lean ====
/- The array the residual sum's launch leaves on the prompt, read at an index. -/
module

public import proofs.«01_k».proof.Proof.ResRow
public import proofs.«01_k».proof.Proof.Gen.Kernel5Ideal.Value
public import Idealize.ShloMosaic.Lib.ValueIdx
public import Idealize.ShloMosaic.Lib.Pipeline.Value
public import Idealize.ShloMosaic.Lib.Pipeline.ValueKit
public import Idealize.ShloMosaic.Lib.Pipeline.Covers
import Idealize.ShloMosaic.Lib.StableHlo.Run

@[expose] public section

set_option maxRecDepth 16384

noncomputable section

namespace Cert.Kernel5Ideal.Res

open Cert.Kernel5Ideal Cert.Kernel5Ideal.Gen Cert.Kernel5Ideal.Value Idealize.ShloMosaic
open Idealize.ShloMosaic.TcCoe
open Idealize.ShloMosaic.Pipeline (Dat Cfg Window)
open Cert.Proj Cert.Res

/-! ## A block -/

/-- The lanes of the gate's block that hold a weight. -/
abbrev lane (j : Fin 4) : Fin 128 := ⟨j.val, by omega⟩

theorem pay2_at (a : Vec Ideal S1x512x128 .f32) (p0 p1 p2 p3 x : Vec Ideal S1x512x1024 .f32) (g : Vec Ideal S1x1x1024 .f32)
    (r : Fin 512) (k : Fin 1024) :
    k0_pay2 (F := Ideal) a p0 p1 p2 p3 x g (ix2 r k)
      = sumRow (fun k => x (ix3 (0 : Fin 1) r k)) (fun k => g (ix3 (0 : Fin 1) (0 : Fin 1) k))
          (picked (fun j => a (ix3 (0 : Fin 1) r (lane j))) (fun k => p0 (ix3 (0 : Fin 1) r k)) (fun k => p1 (ix3 (0 : Fin 1) r k))
            (fun k => p2 (ix3 (0 : Fin 1) r k)) (fun k => p3 (ix3 (0 : Fin 1) r k))) k := by
  unfold k0_pay2 sumRow picked
  pointwise
  rfl

theorem pay1_at (u : FVec Ideal S512x1024 .f32) (lg lb : Vec Ideal S1x1024 .f32) (r : Fin 512) (k : Fin 1024) :
    k0_pay1 (F := Ideal) u (multiReduction .add [1] S512 u 0x00000000#32 reduces_S512x1024_S512 (.inl rfl) rfl) lg lb (ix3 (0 : Fin 1) r k)
      = lnRow (fun k => u (ix2 r k)) (fun k => lg (ix2 (0 : Fin 1) k)) (fun k => lb (ix2 (0 : Fin 1) k)) k := by
  unfold k0_pay1 lnRow mean dev mean
  pointwise

/-- What the body stores. -/
def stored (a : Vec Ideal S1x512x128 .f32) (p0 p1 p2 p3 x : Vec Ideal S1x512x1024 .f32) (g : Vec Ideal S1x1x1024 .f32)
    (lg lb : Vec Ideal S1x1024 .f32) : Vec Ideal S1x512x1024 .f32 :=
  k0_pay1 (k0_pay2 a p0 p1 p2 p3 x g) (k0_pay3 a p0 p1 p2 p3 x g) lg lb

theorem stored_at (a : Vec Ideal S1x512x128 .f32) (p0 p1 p2 p3 x : Vec Ideal S1x512x1024 .f32) (g : Vec Ideal S1x1x1024 .f32)
    (lg lb : Vec Ideal S1x1024 .f32) (r : Fin 512) (k : Fin 1024) :
    stored a p0 p1 p2 p3 x g lg lb (ix3 (0 : Fin 1) r k)
      = resRow (fun k => x (ix3 (0 : Fin 1) r k)) (fun j => a (ix3 (0 : Fin 1) r (lane j)))
          (fun k => p0 (ix3 (0 : Fin 1) r k)) (fun k => p1 (ix3 (0 : Fin 1) r k)) (fun k => p2 (ix3 (0 : Fin 1) r k))
          (fun k => p3 (ix3 (0 : Fin 1) r k)) (fun k => g (ix3 (0 : Fin 1) (0 : Fin 1) k))
          (fun k => lg (ix2 (0 : Fin 1) k)) (fun k => lb (ix2 (0 : Fin 1) k)) k := by
  refine (pay1_at (k0_pay2 a p0 p1 p2 p3 x g) lg lb r k).trans ?_
  simp only [pay2_at]
  rfl

/-! ## The blocks a point reads -/

variable (m : (ℓ : Loc nD τ sig) → Buf (Elt Ideal) ℓ) (c : Dev nD)

/-- The arguments. -/
abbrev argX : FVec Ideal S8x4096x1024 .f32 := m ((c : Thread nD τ).loc main_arg0)
abbrev argA : FVec Ideal S8x4096x4 .f32 := m ((c : Thread nD τ).loc main_arg1)
abbrev argP0 : FVec Ideal S8x4096x1024 .f32 := m ((c : Thread nD τ).loc main_arg2)
abbrev argP1 : FVec Ideal S8x4096x1024 .f32 := m ((c : Thread nD τ).loc main_arg3)
abbrev argP2 : FVec Ideal S8x4096x1024 .f32 := m ((c : Thread nD τ).loc main_arg4)
abbrev argP3 : FVec Ideal S8x4096x1024 .f32 := m ((c : Thread nD τ).loc main_arg5)
abbrev argG : FVec Ideal S8x1x1024 .f32 := m ((c : Thread nD τ).loc main_arg6)
abbrev argLg : FVec Ideal S1024 .f32 := m ((c : Thread nD τ).loc main_arg7)
abbrev argLb : FVec Ideal S1024 .f32 := m ((c : Thread nD τ).loc main_arg8)

/-- The weights filled up with zeros to 128 lanes, and the normalisation's rows, as the launch reads them. -/
theorem V_gate : V (F := Ideal) m c main_v0
    = pad S8x4096x128 ![0, 0, 0] ![0, 0, 124] ![0, 0, 0] (argA m c) (sitofp (F := Ideal) .f32 (constantI S_ 32 0#32))
        pads_S8x4096x4_S8x4096x128_000_000_01240 h_S_ := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
theorem V_scale : V (F := Ideal) m c main_v1 = shapeCast S1x1024 (argLg m c) shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl
theorem V_shift : V (F := Ideal) m c main_v2 = shapeCast S1x1024 (argLb m c) shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem gate_at (b : Fin 8) (t : Fin 4096) (j : Fin 4) :
    (V (F := Ideal) m c main_v0 : Vec Ideal S8x4096x128 .f32) (ix3 b t (lane j)) = argA m c (ix3 b t j) := by
  rw [V_gate]
  generalize argA m c = a
  pointwise
theorem scale_at (k : Fin 1024) : (V (F := Ideal) m c main_v1 : Vec Ideal S1x1024 .f32) (ix2 (0 : Fin 1) k) = argLg m c (ix1 k) := by
  rw [V_scale]
  generalize argLg m c = a
  pointwise
theorem shift_at (k : Fin 1024) : (V (F := Ideal) m c main_v2 : Vec Ideal S1x1024 .f32) (ix2 (0 : Fin 1) k) = argLb m c (ix1 k) := by
  rw [V_shift]
  generalize argLb m c = a
  pointwise

theorem pos_lt (t : Fin cfg0.N) : t.val < 64 := lt_of_lt_of_eq t.isLt (by decide +kernel : grid0.N = 64)

theorem place0 (t : Fin cfg0.N) : (cfg0.win (0 : Fin 10)).index t = ![t.val / 8, t.val % 8, 0] :=
  (by decide +kernel : ∀ t : Fin grid0.N, win0_0.index t = ![t.val / 8, t.val % 8, 0]) t
theorem place1 (t : Fin cfg0.N) : (cfg0.win (1 : Fin 10)).index t = ![t.val / 8, t.val % 8, 0] :=
  (by decide +kernel : ∀ t : Fin grid0.N, win0_1.index t = ![t.val / 8, t.val % 8, 0]) t
theorem place2 (t : Fin cfg0.N) : (cfg0.win (2 : Fin 10)).index t = ![t.val / 8, t.val % 8, 0] :=
  (by decide +kernel : ∀ t : Fin grid0.N, win0_2.index t = ![t.val / 8, t.val % 8, 0]) t
theorem place3 (t : Fin cfg0.N) : (cfg0.win (3 : Fin 10)).index t = ![t.val / 8, t.val % 8, 0] :=
  (by decide +kernel : ∀ t : Fin grid0.N, win0_3.index t = ![t.val / 8, t.val % 8, 0]) t
theorem place4 (t : Fin cfg0.N) : (cfg0.win (4 : Fin 10)).index t = ![t.val / 8, t.val % 8, 0] :=
  (by decide +kernel : ∀ t : Fin grid0.N, win0_4.index t = ![t.val / 8, t.val % 8, 0]) t
theorem place5 (t : Fin cfg0.N) : (cfg0.win (5 : Fin 10)).index t = ![t.val / 8, t.val % 8, 0] :=
  (by decide +kernel : ∀ t : Fin grid0.N, win0_5.index t = ![t.val / 8, t.val % 8, 0]) t
theorem place6 (t : Fin cfg0.N) : (cfg0.win (6 : Fin 10)).index t = ![t.val / 8, 0, 0] :=
  (by decide +kernel : ∀ t : Fin grid0.N, win0_6.index t = ![t.val / 8, 0, 0]) t
theorem place7 (t : Fin cfg0.N) : (cfg0.win (7 : Fin 10)).index t = ![0, 0] :=
  (by decide +kernel : ∀ t : Fin grid0.N, win0_7.index t = ![0, 0]) t
theorem place8 (t : Fin cfg0.N) : (cfg0.win (8 : Fin 10)).index t = ![0, 0] :=
  (by decide +kernel : ∀ t : Fin grid0.N, win0_8.index t = ![0, 0]) t
theorem place9 (t : Fin cfg0.N) : (cfg0.win (9 : Fin 10)).index t = ![t.val / 8, t.val % 8, 0] :=
  (by decide +kernel : ∀ t : Fin grid0.N, win0_9.index t = ![t.val / 8, t.val % 8, 0]) t

/-- The batch of a point, and the row in the batch of one of its rows. -/
abbrev batch (t : Fin cfg0.N) : Fin 8 := ⟨t.val / 8, by have := pos_lt t; omega⟩
abbrev rowAt (t : Fin cfg0.N) (r : Fin 512) : Fin 4096 := ⟨t.val % 8 * 512 + r.val, by omega⟩

theorem iblk0_at (t : Fin cfg0.N) (r : Fin 512) (k : Fin 1024) :
    (iblk m c (0 : Fin 10) t : Vec Ideal S1x512x1024 .f32) (ix3 (0 : Fin 1) r k) = argX m c (ix3 (batch t) (rowAt t r) k) := by
  have e := place0 t
  blk_ext [iblk, V_main_arg0, e]
theorem iblk1_at (t : Fin cfg0.N) (r : Fin 512) (j : Fin 4) :
    (iblk m c (1 : Fin 10) t : Vec Ideal S1x512x128 .f32) (ix3 (0 : Fin 1) r (lane j)) = argA m c (ix3 (batch t) (rowAt t r) j) := by
  refine Eq.trans ?_ (gate_at m c (batch t) (rowAt t r) j)
  have e := place1 t
  blk_ext [iblk, e]
theorem iblk2_at (t : Fin cfg0.N) (r : Fin 512) (k : Fin 1024) :
    (iblk m c (2 : Fin 10) t : Vec Ideal S1x512x1024 .f32) (ix3 (0 : Fin 1) r k) = argP0 m c (ix3 (batch t) (rowAt t r) k) := by
  have e := place2 t
  blk_ext [iblk, V_main_arg2, e]
theorem iblk3_at (t : Fin cfg0.N) (r : Fin 512) (k : Fin 1024) :
    (iblk m c (3 : Fin 10) t : Vec Ideal S1x512x1024 .f32) (ix3 (0 : Fin 1) r k) = argP1 m c (ix3 (batch t) (rowAt t r) k) := by
  have e := place3 t
  blk_ext [iblk, V_main_arg3, e]
theorem iblk4_at (t : Fin cfg0.N) (r : Fin 512) (k : Fin 1024) :
    (iblk m c (4 : Fin 10) t : Vec Ideal S1x512x1024 .f32) (ix3 (0 : Fin 1) r k) = argP2 m c (ix3 (batch t) (rowAt t r) k) := by
  have e := place4 t
  blk_ext [iblk, V_main_arg4, e]
theorem iblk5_at (t : Fin cfg0.N) (r : Fin 512) (k : Fin 1024) :
    (iblk m c (5 : Fin 10) t : Vec Ideal S1x512x1024 .f32) (ix3 (0 : Fin 1) r k) = argP3 m c (ix3 (batch t) (rowAt t r) k) := by
  have e := place5 t
  blk_ext [iblk, V_main_arg5, e]
theorem iblk6_at (t : Fin cfg0.N) (k : Fin 1024) :
    (iblk m c (6 : Fin 10) t : Vec Ideal S1x1x1024 .f32) (ix3 (0 : Fin 1) (0 : Fin 1) k) = argG m c (ix3 (batch t) (0 : Fin 1) k) := by
  have e := place6 t
  blk_ext [iblk, V_main_arg6, e]
theorem iblk7_at (t : Fin cfg0.N) (k : Fin 1024) :
    (iblk m c (7 : Fin 10) t : Vec Ideal S1x1024 .f32) (ix2 (0 : Fin 1) k) = argLg m c (ix1 k) := by
  refine Eq.trans ?_ (scale_at m c k)
  have e := place7 t
  blk_ext [iblk, e]
theorem iblk8_at (t : Fin cfg0.N) (k : Fin 1024) :
    (iblk m c (8 : Fin 10) t : Vec Ideal S1x1024 .f32) (ix2 (0 : Fin 1) k) = argLb m c (ix1 k) := by
  refine Eq.trans ?_ (shift_at m c k)
  have e := place8 t
  blk_ext [iblk, e]

/-! ## The array -/

/-- The result at batch `b`, row `q`, column `k`. -/
def cell (b : Fin 8) (q : Fin 4096) (k : Fin 1024) : EReal :=
  resRow (fun k => argX m c (ix3 b q k)) (fun j => argA m c (ix3 b q j)) (fun k => argP0 m c (ix3 b q k)) (fun k => argP1 m c (ix3 b q k))
    (fun k => argP2 m c (ix3 b q k)) (fun k => argP3 m c (ix3 b q k)) (fun k => argG m c (ix3 b (0 : Fin 1) k))
    (fun k => argLg m c (ix1 k)) (fun k => argLb m c (ix1 k)) k

theorem zeros3 : (![0, 0, 0] : Fin 3 → Nat) = fun _ => 0 := by decide
theorem zeros2 : (![0, 0] : Fin 2 → Nat) = fun _ => 0 := by decide

/-- Loads of whole blocks. -/
theorem ld0 (x : Vec Ideal S1x512x128 .f32) : View.ld x r0_0 = x := View.ld_unit_zero (S := S1x512x128) zeros3 _ x
theorem ld1 (x : Vec Ideal S1x512x1024 .f32) : View.ld x r0_1 = x := View.ld_unit_zero (S := S1x512x1024) zeros3 _ x
theorem ld2 (x : Vec Ideal S1x1x1024 .f32) : View.ld x r0_2 = x := View.ld_unit_zero (S := S1x1x1024) zeros3 _ x
theorem ld3 (x : Vec Ideal S1x1024 .f32) : View.ld x r0_3 = x := View.ld_unit_zero (S := S1x1024) zeros2 _ x

theorem out_at (t : Fin cfg0.N) (y : S1x512x1024.Idx) (b : Fin 8) (q : Fin 4096) (l : Fin 1024) (hb : b.val = t.val / 8)
    (hq : q.val = t.val % 8 * 512 + (y (1 : Fin 3)).val) (hl : l.val = (y (2 : Fin 3)).val) :
    out0_9 (F := Ideal) (iblk m c 0 t) (iblk m c 1 t) (iblk m c 2 t) (iblk m c 3 t) (iblk m c 4 t) (iblk m c 5 t) (iblk m c 6 t)
        (iblk m c 7 t) (iblk m c 8 t) y = cell m c b q l := by
  obtain ⟨r, k, rfl⟩ : ∃ (r : Fin 512) (k : Fin 1024), y = ix3 (0 : Fin 1) r k := ⟨y 1, y 2, by
    funext a
    match a with
    | ⟨0, _⟩ => exact Fin.ext (by have h : (y (0 : Fin 3)).val < 1 := (y (0 : Fin 3)).isLt; show (y (0 : Fin 3)).val = 0; omega)
    | ⟨1, _⟩ => rfl
    | ⟨2, _⟩ => rfl⟩
  obtain rfl : b = batch t := Fin.ext hb
  obtain rfl : q = rowAt t r := Fin.ext hq
  obtain rfl : l = k := Fin.ext hl
  unfold out0_9
  rw [View.canon_cons_unit_zero zeros3]
  rw [ld0, ld1, ld1, ld1, ld1, ld1, ld2, ld3, ld3]
  refine (stored_at _ _ _ _ _ _ _ _ _ r l).trans ?_
  unfold cell
  simp only [iblk0_at, iblk1_at, iblk2_at, iblk3_at, iblk4_at, iblk5_at, iblk6_at, iblk7_at, iblk8_at]

/-- The launch's result. -/
def array : Vec Ideal S8x4096x1024 .f32 := fun i => cell m c (i (0 : Fin 3)) (i (1 : Fin 3)) (i (2 : Fin 3))

theorem array_eq : ((dats m 0 c).arrAt (9 : Fin 10) cfg0.N : Vec Ideal S8x4096x1024 .f32) = array m c := by
  refine (dats m 0 c).arrAt_eq_of_covers (9 : Fin 10) _ (by decide +kernel) fun t hf y => ?_
  have e := place9 t
  have hy0 : (y (0 : Fin 3)).val < 1 := (y (0 : Fin 3)).isLt
  have e0 : (((cfg0.win (9 : Fin 10)).blk t).view.emb y (0 : Fin 3)).val = t.val / 8 := by blk_simp [e]
  have e1 : (((cfg0.win (9 : Fin 10)).blk t).view.emb y (1 : Fin 3)).val = t.val % 8 * 512 + (y (1 : Fin 3)).val := by blk_simp [e]
  have e2 : (((cfg0.win (9 : Fin 10)).blk t).view.emb y (2 : Fin 3)).val = (y (2 : Fin 3)).val := by blk_simp [e]
  blk_simp
  rw [after0_9]
  generalize (((cfg0.win (9 : Fin 10)).blk t).view.emb y) = z at e0 e1 e2
  exact out_at m c t y _ _ _ e0 e1 e2

end Cert.Kernel5Ideal.Res

end
-- ==== Proof.ResJoin.lean ====
/- The residual sum's kernel and its reference leave the same array on the prompt, from the same arguments. -/
module

public import proofs.«01_k».proof.Defs
public import proofs.«01_k».proof.Proof.ResValue
public import proofs.«01_k».proof.Proof.ResRef

@[expose] public section

set_option maxRecDepth 16384

noncomputable section

namespace Cert.Res

open Idealize.ShloMosaic Idealize.ShloMosaic.TcCoe Idealize.SL.Sem
open Cert.Kernel5Ideal.Res

variable (m : (ℓ : Loc Cert.Kernel5Ideal.nD Cert.Kernel5Ideal.τ Cert.Kernel5Ideal.sig) → Buf (Elt Ideal) ℓ)
variable (c : Dev Cert.Kernel5Ideal.nD)

/-- The reference's result on the kernel's arguments. -/
abbrev wanted := Cert.Reference5Ideal.Res.result (argX m c) (argA m c) (argP0 m c) (argP1 m c) (argP2 m c) (argP3 m c) (argG m c)
  (argLg m c) (argLb m c)

theorem out : array m c = wanted m c := by
  funext i
  obtain ⟨b, t, k, rfl⟩ : ∃ (b : Fin 8) (t : Fin 4096) (k : Fin 1024), i = ix3 b t k := ⟨i 0, i 1, i 2, by
    funext a
    match a with
    | ⟨0, _⟩ => rfl
    | ⟨1, _⟩ => rfl
    | ⟨2, _⟩ => rfl⟩
  exact (Cert.Reference5Ideal.Res.result_at (argX m c) (argA m c) (argP0 m c) (argP1 m c) (argP2 m c) (argP3 m c) (argG m c)
    (argLg m c) (argLb m c) b t k).symm

theorem algebraic : Cert.algebraic_Kernel5Ideal_Reference5Ideal := by
  intro m g m' g' _ ha
  refine ⟨fun c => array m c, ?_, ?_⟩
  · exact (θ_run Cert.Kernel5Ideal.defs _ _).mono
      (fun r h c => ⟨(h c).1.trans (array_eq m c), (h c).2⟩) (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    obtain ⟨h0, h1, h2, h3, h4, h5, h6, h7, h8⟩ := ha c
    refine Eq.trans ?_ (out m c).symm
    unfold wanted argX argA argP0 argP1 argP2 argP3 argG argLg argLb
    rw [← h0, ← h1, ← h2, ← h3, ← h4, ← h5, ← h6, ← h7, ← h8]
    rfl

theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Res

end
-- ==== Proof.ResOneValue.lean ====
/- The array the residual sum's launch leaves on the sample, read at an index. -/
module

public import proofs.«01_k».proof.Proof.ResRow
public import proofs.«01_k».proof.Proof.Gen.Kernel7Ideal.Value
public import Idealize.ShloMosaic.Lib.ValueIdx
public import Idealize.ShloMosaic.Lib.Pipeline.Value
public import Idealize.ShloMosaic.Lib.Pipeline.ValueKit
public import Idealize.ShloMosaic.Lib.Pipeline.Covers
import Idealize.ShloMosaic.Lib.StableHlo.Run

@[expose] public section

set_option maxRecDepth 16384

noncomputable section

namespace Cert.Kernel7Ideal.Res

open Cert.Kernel7Ideal Cert.Kernel7Ideal.Gen Cert.Kernel7Ideal.Value Idealize.ShloMosaic
open Idealize.ShloMosaic.TcCoe
open Idealize.ShloMosaic.Pipeline (Dat Cfg Window)
open Cert.Proj Cert.Res

/-! ## A block -/

/-- The lanes of the gate's block that hold a weight. -/
abbrev lane (j : Fin 4) : Fin 128 := ⟨j.val, by omega⟩

theorem pay2_at (a : Vec Ideal S1x1x128 .f32) (p0 p1 p2 p3 x : Vec Ideal S1x1x1024 .f32) (g : Vec Ideal S1x1x1024 .f32)
    (k : Fin 1024) :
    k0_pay2 (F := Ideal) a p0 p1 p2 p3 x g (ix2 (0 : Fin 1) k)
      = sumRow (fun k => x (ix3 (0 : Fin 1) (0 : Fin 1) k)) (fun k => g (ix3 (0 : Fin 1) (0 : Fin 1) k))
          (picked (fun j => a (ix3 (0 : Fin 1) (0 : Fin 1) (lane j))) (fun k => p0 (ix3 (0 : Fin 1) (0 : Fin 1) k)) (fun k => p1 (ix3 (0 : Fin 1) (0 : Fin 1) k))
            (fun k => p2 (ix3 (0 : Fin 1) (0 : Fin 1) k)) (fun k => p3 (ix3 (0 : Fin 1) (0 : Fin 1) k))) k := by
  unfold k0_pay2 sumRow picked
  pointwise
  rfl

theorem pay1_at (u : FVec Ideal S1x1024 .f32) (lg lb : Vec Ideal S1x1024 .f32) (k : Fin 1024) :
    k0_pay1 (F := Ideal) u (shapeCast S1x1 (multiReduction .add [1] S1 u 0x00000000#32 reduces_S1x1024_S1 (.inl rfl) rfl) shapeCasts_S1_S1x1) lg lb (ix3 (0 : Fin 1) (0 : Fin 1) k)
      = lnRow (fun k => u (ix2 (0 : Fin 1) k)) (fun k => lg (ix2 (0 : Fin 1) k)) (fun k => lb (ix2 (0 : Fin 1) k)) k := by
  unfold k0_pay1 lnRow mean dev mean
  pointwise

/-- What the body stores. -/
def stored (a : Vec Ideal S1x1x128 .f32) (p0 p1 p2 p3 x : Vec Ideal S1x1x1024 .f32) (g : Vec Ideal S1x1x1024 .f32)
    (lg lb : Vec Ideal S1x1024 .f32) : Vec Ideal S1x1x1024 .f32 :=
  k0_pay1 (k0_pay2 a p0 p1 p2 p3 x g) (k0_pay3 a p0 p1 p2 p3 x g) lg lb

theorem stored_at (a : Vec Ideal S1x1x128 .f32) (p0 p1 p2 p3 x : Vec Ideal S1x1x1024 .f32) (g : Vec Ideal S1x1x1024 .f32)
    (lg lb : Vec Ideal S1x1024 .f32) (k : Fin 1024) :
    stored a p0 p1 p2 p3 x g lg lb (ix3 (0 : Fin 1) (0 : Fin 1) k)
      = resRow (fun k => x (ix3 (0 : Fin 1) (0 : Fin 1) k)) (fun j => a (ix3 (0 : Fin 1) (0 : Fin 1) (lane j)))
          (fun k => p0 (ix3 (0 : Fin 1) (0 : Fin 1) k)) (fun k => p1 (ix3 (0 : Fin 1) (0 : Fin 1) k)) (fun k => p2 (ix3 (0 : Fin 1) (0 : Fin 1) k))
          (fun k => p3 (ix3 (0 : Fin 1) (0 : Fin 1) k)) (fun k => g (ix3 (0 : Fin 1) (0 : Fin 1) k))
          (fun k => lg (ix2 (0 : Fin 1) k)) (fun k => lb (ix2 (0 : Fin 1) k)) k := by
  refine (pay1_at (k0_pay2 a p0 p1 p2 p3 x g) lg lb k).trans ?_
  simp only [pay2_at]
  rfl

/-! ## The blocks a point reads -/

variable (m : (ℓ : Loc nD τ sig) → Buf (Elt Ideal) ℓ) (c : Dev nD)

/-- The arguments. -/
abbrev argX : FVec Ideal S32x1x1024 .f32 := m ((c : Thread nD τ).loc main_arg0)
abbrev argA : FVec Ideal S32x1x4 .f32 := m ((c : Thread nD τ).loc main_arg1)
abbrev argP0 : FVec Ideal S32x1x1024 .f32 := m ((c : Thread nD τ).loc main_arg2)
abbrev argP1 : FVec Ideal S32x1x1024 .f32 := m ((c : Thread nD τ).loc main_arg3)
abbrev argP2 : FVec Ideal S32x1x1024 .f32 := m ((c : Thread nD τ).loc main_arg4)
abbrev argP3 : FVec Ideal S32x1x1024 .f32 := m ((c : Thread nD τ).loc main_arg5)
abbrev argG : FVec Ideal S32x1x1024 .f32 := m ((c : Thread nD τ).loc main_arg6)
abbrev argLg : FVec Ideal S1024 .f32 := m ((c : Thread nD τ).loc main_arg7)
abbrev argLb : FVec Ideal S1024 .f32 := m ((c : Thread nD τ).loc main_arg8)

/-- The weights filled up with zeros to 128 lanes, and the normalisation's rows, as the launch reads them. -/
theorem V_gate : V (F := Ideal) m c main_v0
    = pad S32x1x128 ![0, 0, 0] ![0, 0, 124] ![0, 0, 0] (argA m c) (sitofp (F := Ideal) .f32 (constantI S_ 32 0#32))
        pads_S32x1x4_S32x1x128_000_000_01240 h_S_ := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
theorem V_scale : V (F := Ideal) m c main_v1 = shapeCast S1x1024 (argLg m c) shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl
theorem V_shift : V (F := Ideal) m c main_v2 = shapeCast S1x1024 (argLb m c) shapeCasts_S1024_S1x1024 := by
  unfold V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem gate_at (b : Fin 32) (j : Fin 4) :
    (V (F := Ideal) m c main_v0 : Vec Ideal S32x1x128 .f32) (ix3 b (0 : Fin 1) (lane j)) = argA m c (ix3 b (0 : Fin 1) j) := by
  rw [V_gate]
  generalize argA m c = a
  pointwise
theorem scale_at (k : Fin 1024) : (V (F := Ideal) m c main_v1 : Vec Ideal S1x1024 .f32) (ix2 (0 : Fin 1) k) = argLg m c (ix1 k) := by
  rw [V_scale]
  generalize argLg m c = a
  pointwise
theorem shift_at (k : Fin 1024) : (V (F := Ideal) m c main_v2 : Vec Ideal S1x1024 .f32) (ix2 (0 : Fin 1) k) = argLb m c (ix1 k) := by
  rw [V_shift]
  generalize argLb m c = a
  pointwise

theorem pos_lt (t : Fin cfg0.N) : t.val < 32 := lt_of_lt_of_eq t.isLt (by decide +kernel : grid0.N = 32)

theorem place0 (t : Fin cfg0.N) : (cfg0.win (0 : Fin 10)).index t = ![t.val, 0, 0] :=
  (by decide +kernel : ∀ t : Fin grid0.N, win0_0.index t = ![t.val, 0, 0]) t
theorem place1 (t : Fin cfg0.N) : (cfg0.win (1 : Fin 10)).index t = ![t.val, 0, 0] :=
  (by decide +kernel : ∀ t : Fin grid0.N, win0_1.index t = ![t.val, 0, 0]) t
theorem place2 (t : Fin cfg0.N) : (cfg0.win (2 : Fin 10)).index t = ![t.val, 0, 0] :=
  (by decide +kernel : ∀ t : Fin grid0.N, win0_2.index t = ![t.val, 0, 0]) t
theorem place3 (t : Fin cfg0.N) : (cfg0.win (3 : Fin 10)).index t = ![t.val, 0, 0] :=
  (by decide +kernel : ∀ t : Fin grid0.N, win0_3.index t = ![t.val, 0, 0]) t
theorem place4 (t : Fin cfg0.N) : (cfg0.win (4 : Fin 10)).index t = ![t.val, 0, 0] :=
  (by decide +kernel : ∀ t : Fin grid0.N, win0_4.index t = ![t.val, 0, 0]) t
theorem place5 (t : Fin cfg0.N) : (cfg0.win (5 : Fin 10)).index t = ![t.val, 0, 0] :=
  (by decide +kernel : ∀ t : Fin grid0.N, win0_5.index t = ![t.val, 0, 0]) t
theorem place6 (t : Fin cfg0.N) : (cfg0.win (6 : Fin 10)).index t = ![t.val, 0, 0] :=
  (by decide +kernel : ∀ t : Fin grid0.N, win0_6.index t = ![t.val, 0, 0]) t
theorem place7 (t : Fin cfg0.N) : (cfg0.win (7 : Fin 10)).index t = ![0, 0] :=
  (by decide +kernel : ∀ t : Fin grid0.N, win0_7.index t = ![0, 0]) t
theorem place8 (t : Fin cfg0.N) : (cfg0.win (8 : Fin 10)).index t = ![0, 0] :=
  (by decide +kernel : ∀ t : Fin grid0.N, win0_8.index t = ![0, 0]) t
theorem place9 (t : Fin cfg0.N) : (cfg0.win (9 : Fin 10)).index t = ![t.val, 0, 0] :=
  (by decide +kernel : ∀ t : Fin grid0.N, win0_9.index t = ![t.val, 0, 0]) t

/-- The batch of a point. -/
abbrev batch (t : Fin cfg0.N) : Fin 32 := ⟨t.val, pos_lt t⟩

theorem iblk0_at (t : Fin cfg0.N) (k : Fin 1024) :
    (iblk m c (0 : Fin 10) t : Vec Ideal S1x1x1024 .f32) (ix3 (0 : Fin 1) (0 : Fin 1) k) = argX m c (ix3 (batch t) (0 : Fin 1) k) := by
  have e := place0 t
  blk_ext [iblk, V_main_arg0, e]
theorem iblk1_at (t : Fin cfg0.N) (j : Fin 4) :
    (iblk m c (1 : Fin 10) t : Vec Ideal S1x1x128 .f32) (ix3 (0 : Fin 1) (0 : Fin 1) (lane j)) = argA m c (ix3 (batch t) (0 : Fin 1) j) := by
  refine Eq.trans ?_ (gate_at m c (batch t) j)
  have e := place1 t
  blk_ext [iblk, e]
theorem iblk2_at (t : Fin cfg0.N) (k : Fin 1024) :
    (iblk m c (2 : Fin 10) t : Vec Ideal S1x1x1024 .f32) (ix3 (0 : Fin 1) (0 : Fin 1) k) = argP0 m c (ix3 (batch t) (0 : Fin 1) k) := by
  have e := place2 t
  blk_ext [iblk, V_main_arg2, e]
theorem iblk3_at (t : Fin cfg0.N) (k : Fin 1024) :
    (iblk m c (3 : Fin 10) t : Vec Ideal S1x1x1024 .f32) (ix3 (0 : Fin 1) (0 : Fin 1) k) = argP1 m c (ix3 (batch t) (0 : Fin 1) k) := by
  have e := place3 t
  blk_ext [iblk, V_main_arg3, e]
theorem iblk4_at (t : Fin cfg0.N) (k : Fin 1024) :
    (iblk m c (4 : Fin 10) t : Vec Ideal S1x1x1024 .f32) (ix3 (0 : Fin 1) (0 : Fin 1) k) = argP2 m c (ix3 (batch t) (0 : Fin 1) k) := by
  have e := place4 t
  blk_ext [iblk, V_main_arg4, e]
theorem iblk5_at (t : Fin cfg0.N) (k : Fin 1024) :
    (iblk m c (5 : Fin 10) t : Vec Ideal S1x1x1024 .f32) (ix3 (0 : Fin 1) (0 : Fin 1) k) = argP3 m c (ix3 (batch t) (0 : Fin 1) k) := by
  have e := place5 t
  blk_ext [iblk, V_main_arg5, e]
theorem iblk6_at (t : Fin cfg0.N) (k : Fin 1024) :
    (iblk m c (6 : Fin 10) t : Vec Ideal S1x1x1024 .f32) (ix3 (0 : Fin 1) (0 : Fin 1) k) = argG m c (ix3 (batch t) (0 : Fin 1) k) := by
  have e := place6 t
  blk_ext [iblk, V_main_arg6, e]
theorem iblk7_at (t : Fin cfg0.N) (k : Fin 1024) :
    (iblk m c (7 : Fin 10) t : Vec Ideal S1x1024 .f32) (ix2 (0 : Fin 1) k) = argLg m c (ix1 k) := by
  refine Eq.trans ?_ (scale_at m c k)
  have e := place7 t
  blk_ext [iblk, e]
theorem iblk8_at (t : Fin cfg0.N) (k : Fin 1024) :
    (iblk m c (8 : Fin 10) t : Vec Ideal S1x1024 .f32) (ix2 (0 : Fin 1) k) = argLb m c (ix1 k) := by
  refine Eq.trans ?_ (shift_at m c k)
  have e := place8 t
  blk_ext [iblk, e]

/-! ## The array -/

/-- The result at batch `b`, column `k`. -/
def cell (b : Fin 32) (k : Fin 1024) : EReal :=
  resRow (fun k => argX m c (ix3 b (0 : Fin 1) k)) (fun j => argA m c (ix3 b (0 : Fin 1) j)) (fun k => argP0 m c (ix3 b (0 : Fin 1) k)) (fun k => argP1 m c (ix3 b (0 : Fin 1) k))
    (fun k => argP2 m c (ix3 b (0 : Fin 1) k)) (fun k => argP3 m c (ix3 b (0 : Fin 1) k)) (fun k => argG m c (ix3 b (0 : Fin 1) k))
    (fun k => argLg m c (ix1 k)) (fun k => argLb m c (ix1 k)) k

theorem zeros3 : (![0, 0, 0] : Fin 3 → Nat) = fun _ => 0 := by decide
theorem zeros2 : (![0, 0] : Fin 2 → Nat) = fun _ => 0 := by decide

/-- Loads of whole blocks. -/
theorem ld0 (x : Vec Ideal S1x1x128 .f32) : View.ld x r0_0 = x := View.ld_unit_zero (S := S1x1x128) zeros3 _ x
theorem ld1 (x : Vec Ideal S1x1x1024 .f32) : View.ld x r0_1 = x := View.ld_unit_zero (S := S1x1x1024) zeros3 _ x
theorem ld2 (x : Vec Ideal S1x1024 .f32) : View.ld x r0_2 = x := View.ld_unit_zero (S := S1x1024) zeros2 _ x

theorem out_at (t : Fin cfg0.N) (y : S1x1x1024.Idx) (b : Fin 32) (l : Fin 1024) (hb : b.val = t.val)
    (hl : l.val = (y (2 : Fin 3)).val) :
    out0_9 (F := Ideal) (iblk m c 0 t) (iblk m c 1 t) (iblk m c 2 t) (iblk m c 3 t) (iblk m c 4 t) (iblk m c 5 t) (iblk m c 6 t)
        (iblk m c 7 t) (iblk m c 8 t) y = cell m c b l := by
  obtain ⟨k, rfl⟩ : ∃ k : Fin 1024, y = ix3 (0 : Fin 1) (0 : Fin 1) k := ⟨y 2, by
    funext a
    match a with
    | ⟨0, _⟩ => exact Fin.ext (by have h : (y (0 : Fin 3)).val < 1 := (y (0 : Fin 3)).isLt; show (y (0 : Fin 3)).val = 0; omega)
    | ⟨1, _⟩ => exact Fin.ext (by have h : (y (1 : Fin 3)).val < 1 := (y (1 : Fin 3)).isLt; show (y (1 : Fin 3)).val = 0; omega)
    | ⟨2, _⟩ => rfl⟩
  obtain rfl : b = batch t := Fin.ext hb
  obtain rfl : l = k := Fin.ext hl
  unfold out0_9
  rw [View.canon_cons_unit_zero zeros3]
  rw [ld0, ld1, ld1, ld1, ld1, ld1, ld1, ld2, ld2]
  refine (stored_at _ _ _ _ _ _ _ _ _ l).trans ?_
  unfold cell
  simp only [iblk0_at, iblk1_at, iblk2_at, iblk3_at, iblk4_at, iblk5_at, iblk6_at, iblk7_at, iblk8_at]

/-- The launch's result. -/
def array : Vec Ideal S32x1x1024 .f32 := fun i => cell m c (i (0 : Fin 3)) (i (2 : Fin 3))

theorem array_eq : ((dats m 0 c).arrAt (9 : Fin 10) cfg0.N : Vec Ideal S32x1x1024 .f32) = array m c := by
  refine (dats m 0 c).arrAt_eq_of_covers (9 : Fin 10) _ (by decide +kernel) fun t hf y => ?_
  have e := place9 t
  have hy0 : (y (0 : Fin 3)).val < 1 := (y (0 : Fin 3)).isLt
  have e0 : (((cfg0.win (9 : Fin 10)).blk t).view.emb y (0 : Fin 3)).val = t.val := by blk_simp [e]
  have e2 : (((cfg0.win (9 : Fin 10)).blk t).view.emb y (2 : Fin 3)).val = (y (2 : Fin 3)).val := by blk_simp [e]
  blk_simp
  rw [after0_9]
  generalize (((cfg0.win (9 : Fin 10)).blk t).view.emb y) = z at e0 e2
  exact out_at m c t y _ _ e0 e2

end Cert.Kernel7Ideal.Res

end
-- ==== Proof.ResOneRef.lean ====
/- The residual sum's reference on the sample, its result read at an index. -/
module

public import proofs.«01_k».proof.Proof.ResRow
public import proofs.«01_k».proof.Proof.Gen.Reference7Ideal.Run

@[expose] public section

set_option maxRecDepth 16384

noncomputable section

namespace Cert.Reference7Ideal.Res

open Cert.Reference7Ideal Cert.Reference7Ideal.Gen Idealize.ShloMosaic
open Cert.Proj Cert.Res

/-- The mean of every row, -/
def means (x : FVec Ideal S32x1x1024 .f32) : FVec Ideal S32x1x1 .f32 :=
  Host.divf (broadcastInDim S32x1x1 ![0, 1] bcast_S32x1_S32x1x1_0_1 (Host.reduceAdd x (constant S_ .f32 0x00000000#32) reducesTo_S32x1x1024_S32x1_d2 h_S_)) (broadcastInDim S32x1x1 ![] bcast_S_S32x1x1 (constant S_ .f32 0x44800000#32))

/-- the rows less their means. -/
def devs (x : FVec Ideal S32x1x1024 .f32) : FVec Ideal S32x1x1024 .f32 :=
  subf x (broadcastInDim S32x1x1024 ![0, 1, 2] bcast_S32x1x1_S32x1x1024_0_1_2 (means x))

theorem means_at (x : FVec Ideal S32x1x1024 .f32) (b : Fin 32) :
    means x (ix3 b (0 : Fin 1) (0 : Fin 1)) = mean (fun k => x (ix3 b (0 : Fin 1) k)) := by
  unfold means mean
  pointwise

theorem devs_at (x : FVec Ideal S32x1x1024 .f32) (b : Fin 32) (k : Fin 1024) :
    devs x (ix3 b (0 : Fin 1) k) = dev (fun k => x (ix3 b (0 : Fin 1) k)) k := by
  unfold devs dev
  rw [← means_at]
  generalize means x = u
  pointwise

/-- The four rows, each by its weight, -/
def weighted (a : FVec Ideal S32x1x4 .f32) (p0 p1 p2 p3 : FVec Ideal S32x1x1024 .f32) : FVec Ideal S32x1x1024 .f32 :=
  addf (addf (addf
    (mulf (broadcastInDim S32x1x1024 ![0, 1, 2] bcast_S32x1x1_S32x1x1024_0_1_2 (extractStridedSlice S32x1x1 ![0, 0, 0] a slices_S32x1x4_S32x1x1_0_0_0)) p0)
    (mulf (broadcastInDim S32x1x1024 ![0, 1, 2] bcast_S32x1x1_S32x1x1024_0_1_2 (extractStridedSlice S32x1x1 ![0, 0, 1] a slices_S32x1x4_S32x1x1_0_0_1)) p1))
    (mulf (broadcastInDim S32x1x1024 ![0, 1, 2] bcast_S32x1x1_S32x1x1024_0_1_2 (extractStridedSlice S32x1x1 ![0, 0, 2] a slices_S32x1x4_S32x1x1_0_0_2)) p2))
    (mulf (broadcastInDim S32x1x1024 ![0, 1, 2] bcast_S32x1x1_S32x1x1024_0_1_2 (extractStridedSlice S32x1x1 ![0, 0, 3] a slices_S32x1x4_S32x1x1_0_0_3)) p3)

/-- a row scaled plus `g` times another, -/
def scaled (x : FVec Ideal S32x1x1024 .f32) (g : FVec Ideal S32x1x1024 .f32) (y : FVec Ideal S32x1x1024 .f32) : FVec Ideal S32x1x1024 .f32 :=
  addf (mulf (broadcastInDim S32x1x1024 ![] bcast_S_S32x1x1024 (constant S_ .f32 0x3FB504F3#32)) x)
    (mulf g y)

/-- and the rows normalised, scaled and shifted. -/
def normal (x : FVec Ideal S32x1x1024 .f32) (lg lb : FVec Ideal S1024 .f32) : FVec Ideal S32x1x1024 .f32 :=
  addf (mulf (mulf (devs x) (broadcastInDim S32x1x1024 ![0, 1, 2] bcast_S32x1x1_S32x1x1024_0_1_2
      (Host.rsqrt (addf (means (mulf (devs x) (devs x))) (broadcastInDim S32x1x1 ![] bcast_S_S32x1x1 (constant S_ .f32 0x3727C5AC#32))))))
    (broadcastInDim S32x1x1024 ![0, 1, 2] bcast_S1x1x1024_S32x1x1024_0_1_2 (broadcastInDim S1x1x1024 ![2] bcast_S1024_S1x1x1024_2 lg)))
    (broadcastInDim S32x1x1024 ![0, 1, 2] bcast_S1x1x1024_S32x1x1024_0_1_2 (broadcastInDim S1x1x1024 ![2] bcast_S1024_S1x1x1024_2 lb))

theorem weighted_at (a : FVec Ideal S32x1x4 .f32) (p0 p1 p2 p3 : FVec Ideal S32x1x1024 .f32) (b : Fin 32) (k : Fin 1024) :
    weighted a p0 p1 p2 p3 (ix3 b (0 : Fin 1) k)
      = picked (fun j => a (ix3 b (0 : Fin 1) j)) (fun k => p0 (ix3 b (0 : Fin 1) k)) (fun k => p1 (ix3 b (0 : Fin 1) k)) (fun k => p2 (ix3 b (0 : Fin 1) k)) (fun k => p3 (ix3 b (0 : Fin 1) k)) k := by
  unfold weighted picked
  pointwise

theorem scaled_at (x : FVec Ideal S32x1x1024 .f32) (g : FVec Ideal S32x1x1024 .f32) (y : FVec Ideal S32x1x1024 .f32)
    (b : Fin 32) (k : Fin 1024) :
    scaled x g y (ix3 b (0 : Fin 1) k) = sumRow (fun k => x (ix3 b (0 : Fin 1) k)) (fun k => g (ix3 b (0 : Fin 1) k)) (fun k => y (ix3 b (0 : Fin 1) k)) k := by
  unfold scaled sumRow
  pointwise

theorem normal_at (x : FVec Ideal S32x1x1024 .f32) (lg lb : FVec Ideal S1024 .f32) (b : Fin 32) (k : Fin 1024) :
    normal x lg lb (ix3 b (0 : Fin 1) k) = lnRow (fun k => x (ix3 b (0 : Fin 1) k)) (fun k => lg (ix1 k)) (fun k => lb (ix1 k)) k := by
  have hv : means (mulf (devs x) (devs x)) (ix3 b (0 : Fin 1) (0 : Fin 1))
      = mean (fun i => dev (fun k => x (ix3 b (0 : Fin 1) k)) i * dev (fun k => x (ix3 b (0 : Fin 1) k)) i) := by
    rw [means_at]
    exact congrArg mean (funext fun i => by rw [← devs_at]; rfl)
  unfold normal lnRow
  rw [← hv, ← devs_at]
  generalize means (mulf (devs x) (devs x)) = u
  generalize devs x = v
  pointwise

/-- The reference's result. -/
def result (x : FVec Ideal S32x1x1024 .f32) (a : FVec Ideal S32x1x4 .f32) (p0 p1 p2 p3 : FVec Ideal S32x1x1024 .f32)
    (g : FVec Ideal S32x1x1024 .f32) (lg lb : FVec Ideal S1024 .f32) : FVec Ideal S32x1x1024 .f32 :=
  normal (scaled x g (weighted a p0 p1 p2 p3)) lg lb

theorem result_at (x : FVec Ideal S32x1x1024 .f32) (a : FVec Ideal S32x1x4 .f32) (p0 p1 p2 p3 : FVec Ideal S32x1x1024 .f32)
    (g : FVec Ideal S32x1x1024 .f32) (lg lb : FVec Ideal S1024 .f32) (b : Fin 32) (k : Fin 1024) :
    result x a p0 p1 p2 p3 g lg lb (ix3 b (0 : Fin 1) k)
      = resRow (fun k => x (ix3 b (0 : Fin 1) k)) (fun j => a (ix3 b (0 : Fin 1) j)) (fun k => p0 (ix3 b (0 : Fin 1) k)) (fun k => p1 (ix3 b (0 : Fin 1) k)) (fun k => p2 (ix3 b (0 : Fin 1) k))
          (fun k => p3 (ix3 b (0 : Fin 1) k)) (fun k => g (ix3 b (0 : Fin 1) k)) (fun k => lg (ix1 k)) (fun k => lb (ix1 k)) k := by
  refine (normal_at _ lg lb b k).trans ?_
  simp only [scaled_at, weighted_at]
  rfl

end Cert.Reference7Ideal.Res

end
-- ==== Proof.ResOneJoin.lean ====
/- The residual sum's kernel and its reference leave the same array on the sample, from the same arguments. -/
module

public import proofs.«01_k».proof.Defs
public import proofs.«01_k».proof.Proof.ResOneValue
public import proofs.«01_k».proof.Proof.ResOneRef

@[expose] public section

set_option maxRecDepth 16384

noncomputable section

namespace Cert.ResOne

open Idealize.ShloMosaic Idealize.ShloMosaic.TcCoe Idealize.SL.Sem
open Cert.Kernel7Ideal.Res

variable (m : (ℓ : Loc Cert.Kernel7Ideal.nD Cert.Kernel7Ideal.τ Cert.Kernel7Ideal.sig) → Buf (Elt Ideal) ℓ)
variable (c : Dev Cert.Kernel7Ideal.nD)

/-- The reference's result on the kernel's arguments. -/
abbrev wanted := Cert.Reference7Ideal.Res.result (argX m c) (argA m c) (argP0 m c) (argP1 m c) (argP2 m c) (argP3 m c) (argG m c)
  (argLg m c) (argLb m c)

theorem out : array m c = wanted m c := by
  funext i
  obtain ⟨b, k, rfl⟩ : ∃ (b : Fin 32) (k : Fin 1024), i = ix3 b (0 : Fin 1) k := ⟨i 0, i 2, by
    funext a
    match a with
    | ⟨0, _⟩ => rfl
    | ⟨1, _⟩ => exact Fin.ext (by have h : (i (1 : Fin 3)).val < 1 := (i (1 : Fin 3)).isLt; show (i (1 : Fin 3)).val = 0; omega)
    | ⟨2, _⟩ => rfl⟩
  exact (Cert.Reference7Ideal.Res.result_at (argX m c) (argA m c) (argP0 m c) (argP1 m c) (argP2 m c) (argP3 m c) (argG m c)
    (argLg m c) (argLb m c) b k).symm

theorem algebraic : Cert.algebraic_Kernel7Ideal_Reference7Ideal := by
  intro m g m' g' _ ha
  refine ⟨fun c => array m c, ?_, ?_⟩
  · exact (θ_run Cert.Kernel7Ideal.defs _ _).mono
      (fun r h c => ⟨(h c).1.trans (array_eq m c), (h c).2⟩) (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    obtain ⟨h0, h1, h2, h3, h4, h5, h6, h7, h8⟩ := ha c
    refine Eq.trans ?_ (out m c).symm
    unfold wanted argX argA argP0 argP1 argP2 argP3 argG argLg argLb
    rw [← h0, ← h1, ← h2, ← h3, ← h4, ← h5, ← h6, ← h7, ← h8]
    rfl

theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.ResOne

end
-- ==== Proof.ProjOneWeights.lean ====
/- The weights the input projection's launch on the sample reads: the same four groups of columns side by side. -/
module

public import proofs.«01_k».proof.Proof.ProjWeights
public import proofs.«01_k».proof.Proof.Gen.Kernel6Ideal.Value
import Idealize.ShloMosaic.Lib.StableHlo.Run
import Idealize.ShloMosaic.Lib.Pipeline.Frame

@[expose] public section

set_option maxRecDepth 16384

noncomputable section

namespace Cert.Kernel6Ideal.Proj

open Cert.Kernel6Ideal Cert.Kernel6Ideal.Gen Idealize.ShloMosaic
open Idealize.ShloMosaic.TcCoe
open Cert.Kernel3Ideal.Proj (groupA groupB groupC groupD allCols)

variable (m : (ℓ : Loc nD τ sig) → Buf (Elt Ideal) ℓ) (c : Dev nD)

/-- The weights as given. -/
abbrev wIn : Vec Ideal S1024x2864 .f32 := m ((c : Thread nD τ).loc main_arg3)

/-- The last two operations before the launch, over any contents. -/
theorem last_two (W : Valuation τ sig (Elt Ideal)) :
    StableHlo.after (hostOps0_8 (F := Ideal)) W main_v9
      = allCols (W (Proc.devRef .tc main_v1)) (W (Proc.devRef .tc main_v3)) (W (Proc.devRef .tc main_v5)) (W (Proc.devRef .tc main_v7)) := by
  after_results
  rfl

/-- The operations before them. -/
abbrev firstOps : List (HloOp τ sig (Elt Ideal)) :=
  List.flatten [hostOps0, hostOps0_1, hostOps0_2, hostOps0_3, hostOps0_4, hostOps0_5, hostOps0_6, hostOps0_7]

theorem V_eq : V (F := Ideal) m c main_v9
    = StableHlo.after (hostOps0_8 (F := Ideal)) (StableHlo.after firstOps (fun b => m (c, b))) main_v9 := by
  rw [← StableHlo.after_append]
  rfl

/-- Each group as the operations before the join leave it. -/
theorem first1 : StableHlo.after firstOps (fun b => m (c, b)) (Proc.devRef .tc main_v1) = groupA (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first3 : StableHlo.after firstOps (fun b => m (c, b)) (Proc.devRef .tc main_v3) = groupB (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first5 : StableHlo.after firstOps (fun b => m (c, b)) (Proc.devRef .tc main_v5) = groupC (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl
theorem first7 : StableHlo.after firstOps (fun b => m (c, b)) (Proc.devRef .tc main_v7) = groupD (wIn m c) := by
  simp only [firstOps, hostOps0, hostOps0_1, hostOps0_2, hostOps0_3, hostOps0_4, hostOps0_5, hostOps0_6, hostOps0_7, List.flatten_cons, List.flatten_nil, List.append_nil, List.cons_append, List.nil_append,
    StableHlo.TRef.binary, StableHlo.TRef.unary, StableHlo.TRef.toBuf, StableHlo.TRef.ofBuf, cast_eq]
  after_results_simp
  rfl

/-- The launch's weights. -/
theorem V_weights : V (F := Ideal) m c main_v9
    = allCols (groupA (wIn m c)) (groupB (wIn m c)) (groupC (wIn m c)) (groupD (wIn m c)) := by
  rw [V_eq, last_two, first1, first3, first5, first7]

end Cert.Kernel6Ideal.Proj

end
-- ==== Proof.ProjOneValue.lean ====
/- The four arrays the input projection's launch on the sample leaves, each read at an index. -/
module

public import proofs.«01_k».proof.Proof.ProjOneWeights
public import Idealize.ShloMosaic.Lib.ValueIdx
public import Idealize.ShloMosaic.Lib.Pipeline.Value
public import Idealize.ShloMosaic.Lib.Pipeline.ValueKit
public import Idealize.ShloMosaic.Lib.Pipeline.Covers

@[expose] public section

set_option maxRecDepth 16384

noncomputable section

namespace Cert.Kernel6Ideal.Proj

open Cert.Kernel6Ideal Cert.Kernel6Ideal.Gen Cert.Kernel6Ideal.Value Idealize.ShloMosaic
open Idealize.ShloMosaic.TcCoe
open Idealize.ShloMosaic.Pipeline (Dat Cfg Window)
open Cert.Proj

variable (m : (ℓ : Loc nD τ sig) → Buf (Elt Ideal) ℓ) (c : Dev nD)

/-! ## A block -/

theorem pay4_at (x sc sh : Vec Ideal S1x1x1024 .f32) (w : Vec Ideal S1024x3072 .bf16) (j : Fin 3072) :
    k0_pay4 (F := Ideal) x sc sh w (ix2 (0 : Fin 1) j)
      = proj (fun k => x (ix3 (0 : Fin 1) (0 : Fin 1) k)) (fun k => sc (ix3 (0 : Fin 1) (0 : Fin 1) k))
          (fun k => sh (ix3 (0 : Fin 1) (0 : Fin 1) k)) (fun k => w (ix2 k j)) := by
  unfold k0_pay4 proj hrow mean dev mean
  pointwise

/-! ## The blocks a point reads -/

theorem pos_lt (t : Fin cfg0.N) : t.val < 32 := lt_of_lt_of_eq t.isLt (by decide +kernel : grid0.N = 32)

theorem place0 (t : Fin cfg0.N) : (cfg0.win (0 : Fin 8)).index t = ![t.val, 0, 0] :=
  (by decide +kernel : ∀ t : Fin grid0.N, win0_0.index t = ![t.val, 0, 0]) t
theorem place1 (t : Fin cfg0.N) : (cfg0.win (1 : Fin 8)).index t = ![t.val, 0, 0] :=
  (by decide +kernel : ∀ t : Fin grid0.N, win0_1.index t = ![t.val, 0, 0]) t
theorem place2 (t : Fin cfg0.N) : (cfg0.win (2 : Fin 8)).index t = ![t.val, 0, 0] :=
  (by decide +kernel : ∀ t : Fin grid0.N, win0_2.index t = ![t.val, 0, 0]) t
theorem place3 (t : Fin cfg0.N) : (cfg0.win (3 : Fin 8)).index t = ![0, 0] :=
  (by decide +kernel : ∀ t : Fin grid0.N, win0_3.index t = ![0, 0]) t
theorem place4 (t : Fin cfg0.N) : (cfg0.win (4 : Fin 8)).index t = ![t.val, 0, 0] :=
  (by decide +kernel : ∀ t : Fin grid0.N, win0_4.index t = ![t.val, 0, 0]) t
theorem place5 (t : Fin cfg0.N) : (cfg0.win (5 : Fin 8)).index t = ![t.val, 0, 0] :=
  (by decide +kernel : ∀ t : Fin grid0.N, win0_5.index t = ![t.val, 0, 0]) t
theorem place6 (t : Fin cfg0.N) : (cfg0.win (6 : Fin 8)).index t = ![t.val, 0, 0] :=
  (by decide +kernel : ∀ t : Fin grid0.N, win0_6.index t = ![t.val, 0, 0]) t
theorem place7 (t : Fin cfg0.N) : (cfg0.win (7 : Fin 8)).index t = ![t.val, 0, 0] :=
  (by decide +kernel : ∀ t : Fin grid0.N, win0_7.index t = ![t.val, 0, 0]) t

/-- The batch of a point. -/
abbrev batch (t : Fin cfg0.N) : Fin 32 := ⟨t.val, pos_lt t⟩

theorem iblk0_at (t : Fin cfg0.N) (k : Fin 1024) :
    (iblk m c (0 : Fin 8) t : Vec Ideal S1x1x1024 .f32) (ix3 (0 : Fin 1) (0 : Fin 1) k)
      = (m ((c : Thread nD τ).loc main_arg0) : Vec Ideal S32x1x1024 .f32) (ix3 (batch t) (0 : Fin 1) k) := by
  have e := place0 t
  blk_ext [iblk, V_main_arg0, e]
theorem iblk1_at (t : Fin cfg0.N) (k : Fin 1024) :
    (iblk m c (1 : Fin 8) t : Vec Ideal S1x1x1024 .f32) (ix3 (0 : Fin 1) (0 : Fin 1) k)
      = (m ((c : Thread nD τ).loc main_arg1) : Vec Ideal S32x1x1024 .f32) (ix3 (batch t) (0 : Fin 1) k) := by
  have e := place1 t
  blk_ext [iblk, V_main_arg1, e]
theorem iblk2_at (t : Fin cfg0.N) (k : Fin 1024) :
    (iblk m c (2 : Fin 8) t : Vec Ideal S1x1x1024 .f32) (ix3 (0 : Fin 1) (0 : Fin 1) k)
      = (m ((c : Thread nD τ).loc main_arg2) : Vec Ideal S32x1x1024 .f32) (ix3 (batch t) (0 : Fin 1) k) := by
  have e := place2 t
  blk_ext [iblk, V_main_arg2, e]
theorem iblk3_at (t : Fin cfg0.N) (k : Fin 1024) (j : Fin 3072) :
    (iblk m c (3 : Fin 8) t : Vec Ideal S1024x3072 .bf16) (ix2 k j)
      = (V m c main_v9 : Vec Ideal S1024x3072 .bf16) (ix2 k j) := by
  have e := place3 t
  blk_ext [iblk, e]

/-- Loads of whole blocks. -/
theorem ld0 (x : Vec Ideal S1x1x1024 .f32) : View.ld x r0_0 = x := by
  funext i
  exact congrArg x (funext fun a => Fin.ext (by match a with | ⟨0, _⟩ => simp | ⟨1, _⟩ => simp | ⟨2, _⟩ => simp))
theorem ld1 (x : Vec Ideal S1024x3072 .bf16) : View.ld x r0_1 = x := by
  funext i
  exact congrArg x (funext fun a => Fin.ext (by match a with | ⟨0, _⟩ => simp | ⟨1, _⟩ => simp))

/-- The row of batch `b` against a column of weights. -/
def cell (b : Fin 32) (w : Fin 1024 → EReal) : EReal :=
  proj (fun k => (m ((c : Thread nD τ).loc main_arg0) : Vec Ideal S32x1x1024 .f32) (ix3 b (0 : Fin 1) k))
    (fun k => (m ((c : Thread nD τ).loc main_arg1) : Vec Ideal S32x1x1024 .f32) (ix3 b (0 : Fin 1) k))
    (fun k => (m ((c : Thread nD τ).loc main_arg2) : Vec Ideal S32x1x1024 .f32) (ix3 b (0 : Fin 1) k)) w

theorem block_at (t : Fin cfg0.N) (j : Fin 3072) :
    k0_pay4 (F := Ideal) (iblk m c (0 : Fin 8) t) (iblk m c (1 : Fin 8) t) (iblk m c (2 : Fin 8) t) (iblk m c (3 : Fin 8) t) (ix2 (0 : Fin 1) j)
      = cell m c (batch t) (fun k => (V m c main_v9 : Vec Ideal S1024x3072 .bf16) (ix2 k j)) := by
  rw [pay4_at]
  unfold cell
  simp only [iblk0_at, iblk1_at, iblk2_at, iblk3_at]

/-- An entry of a block, at the array's batch and column. -/
theorem block_eq (t : Fin cfg0.N) (j : Fin 3072) (b : Fin 32) (l : Fin 3072) (hb : b.val = t.val)
    (hl : l.val = j.val) :
    k0_pay4 (F := Ideal) (iblk m c (0 : Fin 8) t) (iblk m c (1 : Fin 8) t) (iblk m c (2 : Fin 8) t) (iblk m c (3 : Fin 8) t) (ix2 (0 : Fin 1) j)
      = cell m c b (fun k => (V m c main_v9 : Vec Ideal S1024x3072 .bf16) (ix2 k l)) := by
  obtain rfl : b = batch t := Fin.ext hb
  obtain rfl : l = j := Fin.ext hl
  exact block_at m c t l

/-! ## The arrays -/

theorem out4_at (t : Fin cfg0.N) (y : S1x1x896.Idx) :
    out0_4 (F := Ideal) (iblk m c 0 t) (iblk m c 1 t) (iblk m c 2 t) (iblk m c 3 t) y
      = k0_pay4 (F := Ideal) (iblk m c 0 t) (iblk m c 1 t) (iblk m c 2 t) (iblk m c 3 t)
          (ix2 (0 : Fin 1)
            (⟨(y (2 : Fin 3)).val, by have h : (y (2 : Fin 3)).val < 896 := (y (2 : Fin 3)).isLt; omega⟩ : Fin 3072)) := by
  refine (canon4_eq (View.ld (iblk m c 0 t) r0_0) (View.ld (iblk m c 1 t) r0_0) (View.ld (iblk m c 2 t) r0_0) (View.ld (iblk m c 3 t) r0_1) y).trans ?_
  show k0_pay4 (F := Ideal) _ _ _ _ _ = _
  rw [ld0, ld0, ld0, ld1]
  refine congrArg _ (funext fun a => Fin.ext ?_)
  match a with
  | ⟨0, _⟩ => rfl
  | ⟨1, _⟩ => rfl

/-- Array 1 of the four, -/
def array4 : Vec Ideal S32x1x896 .f32 := fun i =>
  cell m c (i (0 : Fin 3)) (fun k => (V m c main_v9 : Vec Ideal S1024x3072 .bf16)
    (ix2 k (⟨(i (2 : Fin 3)).val, by have h : (i (2 : Fin 3)).val < 896 := (i (2 : Fin 3)).isLt; omega⟩ : Fin 3072)))

theorem array4_eq : ((dats m 0 c).arrAt (4 : Fin 8) cfg0.N : Vec Ideal S32x1x896 .f32) = array4 m c := by
  refine (dats m 0 c).arrAt_eq_of_covers (4 : Fin 8) _ (by decide +kernel) fun t hf y => ?_
  have e := place4 t
  have hy0 : (y (0 : Fin 3)).val < 1 := (y (0 : Fin 3)).isLt
  have e0 : (((cfg0.win (4 : Fin 8)).blk t).view.emb y (0 : Fin 3)).val = t.val := by blk_simp [e]
  have e2 : (((cfg0.win (4 : Fin 8)).blk t).view.emb y (2 : Fin 3)).val = (y (2 : Fin 3)).val := by blk_simp [e]
  blk_simp
  rw [after0_4]
  generalize (((cfg0.win (4 : Fin 8)).blk t).view.emb y) = z at e0 e2
  exact (out4_at m c t y).trans (block_eq m c t _ _ _ e0 (by exact e2))

theorem out5_at (t : Fin cfg0.N) (y : S1x1x768.Idx) :
    out0_5 (F := Ideal) (iblk m c 0 t) (iblk m c 1 t) (iblk m c 2 t) (iblk m c 3 t) y
      = k0_pay4 (F := Ideal) (iblk m c 0 t) (iblk m c 1 t) (iblk m c 2 t) (iblk m c 3 t)
          (ix2 (0 : Fin 1)
            (⟨896 + (y (2 : Fin 3)).val, by have h : (y (2 : Fin 3)).val < 768 := (y (2 : Fin 3)).isLt; omega⟩ : Fin 3072)) := by
  refine (canon5_eq (View.ld (iblk m c 0 t) r0_0) (View.ld (iblk m c 1 t) r0_0) (View.ld (iblk m c 2 t) r0_0) (View.ld (iblk m c 3 t) r0_1) y).trans ?_
  show k0_pay4 (F := Ideal) _ _ _ _ _ = _
  rw [ld0, ld0, ld0, ld1]
  refine congrArg _ (funext fun a => Fin.ext ?_)
  match a with
  | ⟨0, _⟩ => rfl
  | ⟨1, _⟩ => show (y (2 : Fin 3)).val + 896 = 896 + (y (2 : Fin 3)).val; omega

/-- Array 2 of the four, -/
def array5 : Vec Ideal S32x1x768 .f32 := fun i =>
  cell m c (i (0 : Fin 3)) (fun k => (V m c main_v9 : Vec Ideal S1024x3072 .bf16)
    (ix2 k (⟨896 + (i (2 : Fin 3)).val, by have h : (i (2 : Fin 3)).val < 768 := (i (2 : Fin 3)).isLt; omega⟩ : Fin 3072)))

theorem array5_eq : ((dats m 0 c).arrAt (5 : Fin 8) cfg0.N : Vec Ideal S32x1x768 .f32) = array5 m c := by
  refine (dats m 0 c).arrAt_eq_of_covers (5 : Fin 8) _ (by decide +kernel) fun t hf y => ?_
  have e := place5 t
  have hy0 : (y (0 : Fin 3)).val < 1 := (y (0 : Fin 3)).isLt
  have e0 : (((cfg0.win (5 : Fin 8)).blk t).view.emb y (0 : Fin 3)).val = t.val := by blk_simp [e]
  have e2 : (((cfg0.win (5 : Fin 8)).blk t).view.emb y (2 : Fin 3)).val = (y (2 : Fin 3)).val := by blk_simp [e]
  blk_simp
  rw [after0_5]
  generalize (((cfg0.win (5 : Fin 8)).blk t).view.emb y) = z at e0 e2
  exact (out5_at m c t y).trans (block_eq m c t _ _ _ e0 (by show 896 + _ = 896 + _; rw [e2]))

theorem out6_at (t : Fin cfg0.N) (y : S1x1x640.Idx) :
    out0_6 (F := Ideal) (iblk m c 0 t) (iblk m c 1 t) (iblk m c 2 t) (iblk m c 3 t) y
      = k0_pay4 (F := Ideal) (iblk m c 0 t) (iblk m c 1 t) (iblk m c 2 t) (iblk m c 3 t)
          (ix2 (0 : Fin 1)
            (⟨1664 + (y (2 : Fin 3)).val, by have h : (y (2 : Fin 3)).val < 640 := (y (2 : Fin 3)).isLt; omega⟩ : Fin 3072)) := by
  refine (canon6_eq (View.ld (iblk m c 0 t) r0_0) (View.ld (iblk m c 1 t) r0_0) (View.ld (iblk m c 2 t) r0_0) (View.ld (iblk m c 3 t) r0_1) y).trans ?_
  show k0_pay4 (F := Ideal) _ _ _ _ _ = _
  rw [ld0, ld0, ld0, ld1]
  refine congrArg _ (funext fun a => Fin.ext ?_)
  match a with
  | ⟨0, _⟩ => rfl
  | ⟨1, _⟩ => show (y (2 : Fin 3)).val + 1664 = 1664 + (y (2 : Fin 3)).val; omega

/-- Array 3 of the four, -/
def array6 : Vec Ideal S32x1x640 .f32 := fun i =>
  cell m c (i (0 : Fin 3)) (fun k => (V m c main_v9 : Vec Ideal S1024x3072 .bf16)
    (ix2 k (⟨1664 + (i (2 : Fin 3)).val, by have h : (i (2 : Fin 3)).val < 640 := (i (2 : Fin 3)).isLt; omega⟩ : Fin 3072)))

theorem array6_eq : ((dats m 0 c).arrAt (6 : Fin 8) cfg0.N : Vec Ideal S32x1x640 .f32) = array6 m c := by
  refine (dats m 0 c).arrAt_eq_of_covers (6 : Fin 8) _ (by decide +kernel) fun t hf y => ?_
  have e := place6 t
  have hy0 : (y (0 : Fin 3)).val < 1 := (y (0 : Fin 3)).isLt
  have e0 : (((cfg0.win (6 : Fin 8)).blk t).view.emb y (0 : Fin 3)).val = t.val := by blk_simp [e]
  have e2 : (((cfg0.win (6 : Fin 8)).blk t).view.emb y (2 : Fin 3)).val = (y (2 : Fin 3)).val := by blk_simp [e]
  blk_simp
  rw [after0_6]
  generalize (((cfg0.win (6 : Fin 8)).blk t).view.emb y) = z at e0 e2
  exact (out6_at m c t y).trans (block_eq m c t _ _ _ e0 (by show 1664 + _ = 1664 + _; rw [e2]))

theorem out7_at (t : Fin cfg0.N) (y : S1x1x768.Idx) :
    out0_7 (F := Ideal) (iblk m c 0 t) (iblk m c 1 t) (iblk m c 2 t) (iblk m c 3 t) y
      = k0_pay4 (F := Ideal) (iblk m c 0 t) (iblk m c 1 t) (iblk m c 2 t) (iblk m c 3 t)
          (ix2 (0 : Fin 1)
            (⟨2304 + (y (2 : Fin 3)).val, by have h : (y (2 : Fin 3)).val < 768 := (y (2 : Fin 3)).isLt; omega⟩ : Fin 3072)) := by
  refine (canon7_eq (View.ld (iblk m c 0 t) r0_0) (View.ld (iblk m c 1 t) r0_0) (View.ld (iblk m c 2 t) r0_0) (View.ld (iblk m c 3 t) r0_1) y).trans ?_
  show k0_pay4 (F := Ideal) _ _ _ _ _ = _
  rw [ld0, ld0, ld0, ld1]
  refine congrArg _ (funext fun a => Fin.ext ?_)
  match a with
  | ⟨0, _⟩ => rfl
  | ⟨1, _⟩ => show (y (2 : Fin 3)).val + 2304 = 2304 + (y (2 : Fin 3)).val; omega

/-- Array 4 of the four, -/
def array7 : Vec Ideal S32x1x768 .f32 := fun i =>
  cell m c (i (0 : Fin 3)) (fun k => (V m c main_v9 : Vec Ideal S1024x3072 .bf16)
    (ix2 k (⟨2304 + (i (2 : Fin 3)).val, by have h : (i (2 : Fin 3)).val < 768 := (i (2 : Fin 3)).isLt; omega⟩ : Fin 3072)))

theorem array7_eq : ((dats m 0 c).arrAt (7 : Fin 8) cfg0.N : Vec Ideal S32x1x768 .f32) = array7 m c := by
  refine (dats m 0 c).arrAt_eq_of_covers (7 : Fin 8) _ (by decide +kernel) fun t hf y => ?_
  have e := place7 t
  have hy0 : (y (0 : Fin 3)).val < 1 := (y (0 : Fin 3)).isLt
  have e0 : (((cfg0.win (7 : Fin 8)).blk t).view.emb y (0 : Fin 3)).val = t.val := by blk_simp [e]
  have e2 : (((cfg0.win (7 : Fin 8)).blk t).view.emb y (2 : Fin 3)).val = (y (2 : Fin 3)).val := by blk_simp [e]
  blk_simp
  rw [after0_7]
  generalize (((cfg0.win (7 : Fin 8)).blk t).view.emb y) = z at e0 e2
  exact (out7_at m c t y).trans (block_eq m c t _ _ _ e0 (by show 2304 + _ = 2304 + _; rw [e2]))

end Cert.Kernel6Ideal.Proj
-- ==== Proof.ProjOneRef.lean ====
/- The input projection's reference on the sample, its four results read at an index. -/
module

public import proofs.«01_k».proof.Proof.ProjRow
public import proofs.«01_k».proof.Proof.Gen.Reference6Ideal.Run

@[expose] public section

set_option maxRecDepth 16384

noncomputable section

namespace Cert.Reference6Ideal.Proj

open Cert.Reference6Ideal Cert.Reference6Ideal.Gen Idealize.ShloMosaic
open Cert.Proj

/-- The mean of every row, -/
def means (x : FVec Ideal S32x1x1024 .f32) : FVec Ideal S32x1x1 .f32 :=
  Host.divf (broadcastInDim S32x1x1 ![0, 1] bcast_S32x1_S32x1x1_0_1 (Host.reduceAdd x (constant S_ .f32 0x00000000#32) reducesTo_S32x1x1024_S32x1_d2 h_S_)) (broadcastInDim S32x1x1 ![] bcast_S_S32x1x1 (constant S_ .f32 0x44800000#32))

/-- the rows less their means, -/
def devs (x : FVec Ideal S32x1x1024 .f32) : FVec Ideal S32x1x1024 .f32 :=
  subf x (broadcastInDim S32x1x1024 ![0, 1, 2] bcast_S32x1x1_S32x1x1024_0_1_2 (means x))

/-- the rows normalised, scaled and shifted, -/
def normed (x : FVec Ideal S32x1x1024 .f32) (sc sh : FVec Ideal S32x1x1024 .f32) : FVec Ideal S32x1x1024 .f32 :=
  addf (mulf (mulf (devs x) (broadcastInDim S32x1x1024 ![0, 1, 2] bcast_S32x1x1_S32x1x1024_0_1_2 (Host.rsqrt (addf (means (mulf (devs x) (devs x))) (broadcastInDim S32x1x1 ![] bcast_S_S32x1x1 (constant S_ .f32 0x3727C5AC#32)))))) (addf (broadcastInDim S32x1x1024 ![] bcast_S_S32x1x1024 (constant S_ .f32 0x3F800000#32)) sc)) sh

/-- and their products with the weights. -/
def full (x : FVec Ideal S32x1x1024 .f32) (sc sh : FVec Ideal S32x1x1024 .f32) (w : FVec Ideal S1024x2864 .f32) : FVec Ideal S32x1x2864 .f32 :=
  Host.dotGeneral (F := Ideal) dot_S32x1x1024_S1024x2864_S32x1x2864_2_0_01_1_n_n none (normed x sc sh) w

theorem means_at (x : FVec Ideal S32x1x1024 .f32) (b : Fin 32) :
    means x (ix3 b (0 : Fin 1) (0 : Fin 1)) = mean (fun k => x (ix3 b (0 : Fin 1) k)) := by
  unfold means mean
  pointwise

theorem devs_at (x : FVec Ideal S32x1x1024 .f32) (b : Fin 32) (k : Fin 1024) :
    devs x (ix3 b (0 : Fin 1) k) = dev (fun k => x (ix3 b (0 : Fin 1) k)) k := by
  unfold devs dev
  rw [← means_at]
  generalize means x = u
  pointwise

theorem normed_at (x : FVec Ideal S32x1x1024 .f32) (sc sh : FVec Ideal S32x1x1024 .f32) (b : Fin 32) (k : Fin 1024) :
    normed x sc sh (ix3 b (0 : Fin 1) k)
      = hrow (fun k => x (ix3 b (0 : Fin 1) k)) (fun k => sc (ix3 b (0 : Fin 1) k)) (fun k => sh (ix3 b (0 : Fin 1) k)) k := by
  have hv : means (mulf (devs x) (devs x)) (ix3 b (0 : Fin 1) (0 : Fin 1))
      = mean (fun i => dev (fun k => x (ix3 b (0 : Fin 1) k)) i * dev (fun k => x (ix3 b (0 : Fin 1) k)) i) := by
    rw [means_at]
    exact congrArg mean (funext fun i => by rw [← devs_at]; rfl)
  unfold normed hrow
  rw [← hv, ← devs_at]
  generalize means (mulf (devs x) (devs x)) = u
  generalize devs x = v
  pointwise

theorem full_at (x : FVec Ideal S32x1x1024 .f32) (sc sh : FVec Ideal S32x1x1024 .f32) (w : FVec Ideal S1024x2864 .f32)
    (b : Fin 32) (j : Fin 2864) :
    full x sc sh w (ix3 b (0 : Fin 1) j)
      = proj (fun k => x (ix3 b (0 : Fin 1) k)) (fun k => sc (ix3 b (0 : Fin 1) k)) (fun k => sh (ix3 b (0 : Fin 1) k)) (fun k => w (ix2 k j)) := by
  unfold full proj
  simp only [← normed_at]
  generalize normed x sc sh = u
  pointwise

/-- The four results from the products. -/
def resA (z : FVec Ideal S32x1x2864 .f32) : FVec Ideal S32x1x896 .f32 :=
  extractStridedSlice S32x1x896 ![0, 0, 0] z slices_S32x1x2864_S32x1x896_0_0_0
def resB (z : FVec Ideal S32x1x2864 .f32) : FVec Ideal S32x1x768 .f32 :=
  pad S32x1x768 ![0, 0, 0] ![0, 0, 116] ![0, 0, 0] (extractStridedSlice S32x1x652 ![0, 0, 896] z slices_S32x1x2864_S32x1x652_0_0_896)
    (sitofp (F := Ideal) .f32 (constantI S_ 32 0#32)) pads_S32x1x652_S32x1x768_000_000_01160 h_S_
def resC (z : FVec Ideal S32x1x2864 .f32) : FVec Ideal S32x1x640 .f32 :=
  pad S32x1x640 ![0, 0, 0] ![0, 0, 92] ![0, 0, 0] (extractStridedSlice S32x1x548 ![0, 0, 1548] z slices_S32x1x2864_S32x1x548_0_0_1548)
    (sitofp (F := Ideal) .f32 (constantI S_ 32 0#32)) pads_S32x1x548_S32x1x640_000_000_0920 h_S_
def resD (z : FVec Ideal S32x1x2864 .f32) : FVec Ideal S32x1x768 .f32 :=
  extractStridedSlice S32x1x768 ![0, 0, 2096] z slices_S32x1x2864_S32x1x768_0_0_2096

theorem resA_at (z : FVec Ideal S32x1x2864 .f32) (b : Fin 32) (j : Fin 896) :
    resA z (ix3 b (0 : Fin 1) j) = z (ix3 b (0 : Fin 1) (⟨j.val, by omega⟩ : Fin 2864)) := by
  unfold resA
  pointwise
theorem resB_at (z : FVec Ideal S32x1x2864 .f32) (b : Fin 32) (j : Fin 768) :
    resB z (ix3 b (0 : Fin 1) j) = if h : j.val < 652 then z (ix3 b (0 : Fin 1) (⟨896 + j.val, by omega⟩ : Fin 2864)) else (0 : EReal) := by
  unfold resB
  pointwise
  rw [Cert.Proj.fill_zero]
theorem resC_at (z : FVec Ideal S32x1x2864 .f32) (b : Fin 32) (j : Fin 640) :
    resC z (ix3 b (0 : Fin 1) j) = if h : j.val < 548 then z (ix3 b (0 : Fin 1) (⟨1548 + j.val, by omega⟩ : Fin 2864)) else (0 : EReal) := by
  unfold resC
  pointwise
  rw [Cert.Proj.fill_zero]
theorem resD_at (z : FVec Ideal S32x1x2864 .f32) (b : Fin 32) (j : Fin 768) :
    resD z (ix3 b (0 : Fin 1) j) = z (ix3 b (0 : Fin 1) (⟨2096 + j.val, by omega⟩ : Fin 2864)) := by
  unfold resD
  pointwise

end Cert.Reference6Ideal.Proj
-- ==== Proof.ProjOneJoin.lean ====
/- The input projection's kernel and its reference leave the same four arrays on the sample, from the same arguments. -/
module

public import proofs.«01_k».proof.Defs
public import proofs.«01_k».proof.Proof.ProjOneValue
public import proofs.«01_k».proof.Proof.ProjOneRef

@[expose] public section

set_option maxRecDepth 16384

noncomputable section

namespace Cert.ProjOne

open Idealize.ShloMosaic Idealize.ShloMosaic.TcCoe Idealize.SL.Sem
open Cert.Kernel6Ideal (S32x1x1024 S1024x2864 S32x1x896 S32x1x768 S32x1x640)
open Cert.Proj (proj_zero)
open Cert.Kernel6Ideal.Proj
open Cert.Kernel3Ideal.Proj (groupA groupB groupC groupD groupA_at groupB_at groupC_at groupD_at cols_a cols_b cols_d cols_e)

variable (m : (ℓ : Loc Cert.Kernel6Ideal.nD Cert.Kernel6Ideal.τ Cert.Kernel6Ideal.sig) → Buf (Elt Ideal) ℓ)
variable (c : Dev Cert.Kernel6Ideal.nD)

/-- The kernel's arguments, -/
abbrev argX : FVec Ideal S32x1x1024 .f32 := m ((c.tc : Thread Cert.Kernel6Ideal.nD Cert.Kernel6Ideal.τ).loc Cert.Kernel6Ideal.main_arg0)
abbrev argS : FVec Ideal S32x1x1024 .f32 := m ((c.tc : Thread Cert.Kernel6Ideal.nD Cert.Kernel6Ideal.τ).loc Cert.Kernel6Ideal.main_arg1)
abbrev argD : FVec Ideal S32x1x1024 .f32 := m ((c.tc : Thread Cert.Kernel6Ideal.nD Cert.Kernel6Ideal.τ).loc Cert.Kernel6Ideal.main_arg2)
abbrev argW : FVec Ideal S1024x2864 .f32 := m ((c.tc : Thread Cert.Kernel6Ideal.nD Cert.Kernel6Ideal.τ).loc Cert.Kernel6Ideal.main_arg3)

/-- and the reference's products on them. -/
abbrev prods := Cert.Reference6Ideal.Proj.full (argX m c) (argS m c) (argD m c) (argW m c)

/-- A cell of the kernel against a column of the weights is the product there, -/
theorem cell_eq (b : Fin 32) (j : Fin 2864) (v : Fin 1024 → EReal) (hv : ∀ k, v k = argW m c (ix2 k j)) :
    cell m c b v = prods m c (ix3 b (0 : Fin 1) j) := by
  refine Eq.trans ?_ (Cert.Reference6Ideal.Proj.full_at (argX m c) (argS m c) (argD m c) (argW m c) b j).symm
  rw [(funext hv : v = fun k => argW m c (ix2 k j))]
  rfl

/-- and against a column of zeros it is zero. -/
theorem cell_zero (b : Fin 32) (v : Fin 1024 → EReal) (hv : ∀ k, v k = 0) : cell m c b v = 0 :=
  proj_zero _ _ _ _ hv

theorem outA : array4 m c = Cert.Reference6Ideal.Proj.resA (prods m c) := by
  funext i
  obtain ⟨b, j, rfl⟩ : ∃ (b : Fin 32) (j : Fin 896), i = ix3 b (0 : Fin 1) j := ⟨i 0, i 2, by
    funext a
    match a with
    | ⟨0, _⟩ => rfl
    | ⟨1, _⟩ => exact Fin.ext (by have h : (i (1 : Fin 3)).val < 1 := (i (1 : Fin 3)).isLt; show (i (1 : Fin 3)).val = 0; omega)
    | ⟨2, _⟩ => rfl⟩
  rw [Cert.Reference6Ideal.Proj.resA_at]
  exact cell_eq m c b _ _ fun k => by
    rw [V_weights]
    exact (cols_a _ _ _ _ k j).trans (groupA_at _ k j)

theorem outB : array5 m c = Cert.Reference6Ideal.Proj.resB (prods m c) := by
  funext i
  obtain ⟨b, j, rfl⟩ : ∃ (b : Fin 32) (j : Fin 768), i = ix3 b (0 : Fin 1) j := ⟨i 0, i 2, by
    funext a
    match a with
    | ⟨0, _⟩ => rfl
    | ⟨1, _⟩ => exact Fin.ext (by have h : (i (1 : Fin 3)).val < 1 := (i (1 : Fin 3)).isLt; show (i (1 : Fin 3)).val = 0; omega)
    | ⟨2, _⟩ => rfl⟩
  rw [Cert.Reference6Ideal.Proj.resB_at]
  have hcol := fun k => (cols_b (groupA (argW m c)) (groupB (argW m c)) (groupC (argW m c)) (groupD (argW m c)) k j).trans (groupB_at (argW m c) k j)
  by_cases h : j.val < 652
  · rw [dif_pos h]
    exact cell_eq m c b _ _ fun k => by
      rw [V_weights]
      exact (hcol k).trans (dif_pos h)
  · rw [dif_neg h]
    exact cell_zero m c b _ fun k => by
      rw [V_weights]
      exact (hcol k).trans (dif_neg h)

theorem outC : array6 m c = Cert.Reference6Ideal.Proj.resC (prods m c) := by
  funext i
  obtain ⟨b, j, rfl⟩ : ∃ (b : Fin 32) (j : Fin 640), i = ix3 b (0 : Fin 1) j := ⟨i 0, i 2, by
    funext a
    match a with
    | ⟨0, _⟩ => rfl
    | ⟨1, _⟩ => exact Fin.ext (by have h : (i (1 : Fin 3)).val < 1 := (i (1 : Fin 3)).isLt; show (i (1 : Fin 3)).val = 0; omega)
    | ⟨2, _⟩ => rfl⟩
  rw [Cert.Reference6Ideal.Proj.resC_at]
  have hcol := fun k => (cols_d (groupA (argW m c)) (groupB (argW m c)) (groupC (argW m c)) (groupD (argW m c)) k j).trans (groupC_at (argW m c) k j)
  by_cases h : j.val < 548
  · rw [dif_pos h]
    exact cell_eq m c b _ _ fun k => by
      rw [V_weights]
      exact (hcol k).trans (dif_pos h)
  · rw [dif_neg h]
    exact cell_zero m c b _ fun k => by
      rw [V_weights]
      exact (hcol k).trans (dif_neg h)

theorem outD : array7 m c = Cert.Reference6Ideal.Proj.resD (prods m c) := by
  funext i
  obtain ⟨b, j, rfl⟩ : ∃ (b : Fin 32) (j : Fin 768), i = ix3 b (0 : Fin 1) j := ⟨i 0, i 2, by
    funext a
    match a with
    | ⟨0, _⟩ => rfl
    | ⟨1, _⟩ => exact Fin.ext (by have h : (i (1 : Fin 3)).val < 1 := (i (1 : Fin 3)).isLt; show (i (1 : Fin 3)).val = 0; omega)
    | ⟨2, _⟩ => rfl⟩
  rw [Cert.Reference6Ideal.Proj.resD_at]
  exact cell_eq m c b _ _ fun k => by
    rw [V_weights]
    exact (cols_e _ _ _ _ k j).trans (groupD_at _ k j)

theorem algebraic : Cert.algebraic_Kernel6Ideal_Reference6Ideal := by
  intro m g m' g' _ ha
  refine ⟨fun c => array4 m c, fun c => array5 m c, fun c => array6 m c, fun c => array7 m c, ?_, ?_⟩
  · exact (θ_run Cert.Kernel6Ideal.defs _ _).mono
      (fun r h c => ⟨(h c).1.trans (array4_eq m c), (h c).2.1.trans (array5_eq m c), (h c).2.2.1.trans (array6_eq m c),
        (h c).2.2.2.1.trans (array7_eq m c), (h c).2.2.2.2⟩) (Cert.Kernel6Ideal.Value.run_blocks (F := Ideal) m g)
  · refine (θ_run Cert.Reference6Ideal.defs _ _).mono (fun r h c => ?_) (Cert.Reference6Ideal.Value.run (F := Ideal) m' g')
    have e : Cert.Reference6Ideal.Proj.full (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3)) = prods m c := by
      have h0 := (ha c).1
      have h1 := (ha c).2.1
      have h2 := (ha c).2.2.1
      have h3 := (ha c).2.2.2
      unfold prods argX argS argD argW
      rw [← h0, ← h1, ← h2, ← h3]
    exact ⟨(h c).1.trans ((congrArg Cert.Reference6Ideal.Proj.resA e).trans (outA m c).symm),
      (h c).2.1.trans ((congrArg Cert.Reference6Ideal.Proj.resB e).trans (outB m c).symm),
      (h c).2.2.1.trans ((congrArg Cert.Reference6Ideal.Proj.resC e).trans (outC m c).symm),
      (h c).2.2.2.1.trans ((congrArg Cert.Reference6Ideal.Proj.resD e).trans (outD m c).symm), (h c).2.2.2.2⟩

theorem frame_ref : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

end Cert.ProjOne

end
-- ==== Proof.OneBlock.lean ====
/- What one grid point of the recurrence's single step leaves in its two output blocks. -/
module

public import proofs.«01_k».proof.Proof.StepValue
public import proofs.«01_k».proof.Proof.Gen.Kernel8Ideal.Value

@[expose] public section

set_option maxRecDepth 65536

noncomputable section

namespace Cert.Kernel8Ideal.One

open Cert.Kernel8Ideal Cert.Kernel8Ideal.Gen Idealize.ShloMosaic Idealize.ShloMosaic.TcCoe Idealize.SL.Sem

variable {F : FTy → Type} [FloatOps F]

open Cert.KernelIdeal.Scan (ones2 ones1 diag lanes bc8 segSum2 segSum1 stepS stepY)

theorem hz2 : (![0, 0] : Fin S512x256.rank → Nat) = fun _ => 0 := funext fun a => by fin_cases a <;> rfl
theorem hz3 : (![0, 0, 0] : Fin S8x64x256.rank → Nat) = fun _ => 0 := funext fun a => by fin_cases a <;> rfl
theorem hz4 : (![0, 0, 0, 0] : Fin S8x1x64x256.rank → Nat) = fun _ => 0 := funext fun a => by fin_cases a <;> rfl

/-- The rectangle of a whole scratch. -/
abbrev whole : Rect S512x256 := Rect.unit ![0, 0] S512x256.size inb_S512x256_S512x256_0_0

/-- What is read back of a scratch whose last store wrote all of it. -/
theorem cov_head (v : Memref sig .tc .vmem S512x256 .f32) (x : FVec F S512x256 .f32)
    (L : List (View.Piece (Elt F) S512x256 .f32)) :
    v.view.readCov ((⟨whole, x⟩ : View.Piece (Elt F) S512x256 .f32) :: L) whole.toLoadRect = x := by
  rw [View.readCov_eq_canon', View.canon_cons_unit_zero hz2]
  exact View.ld_unit_zero (Val := Elt F) (e := .f32) (S := S512x256) hz2 inb_S512x256_S512x256_0_0 x

/-- The given state as the kernel reads it. -/
theorem readInit {arg8 : Memref sig .tc .vmem S8x64x256 .f32} (harg8 : arg8.IsWhole) (x6 : FVec F S8x64x256 .f32)
    (inb : ∀ a, (![0, 0, 0] : Fin S8x64x256.rank → Nat) a + S8x64x256.size a ≤ S8x64x256.size a) :
    arg8.view.readAt (Elt F) (Rect.unit (s := S8x64x256) ![0, 0, 0] S8x64x256.size inb).toLoadRect (harg8.unread x6) = x6 := by
  rw [View.readAt_eq_ld, harg8.read_unread]
  exact View.ld_unit_zero (Val := Elt F) (e := .f32) (S := S8x64x256) hz3 inb x6

/-- What is left of the outputs' block. -/
theorem readOut7 (x : FVec F S8x1x64x256 .f32)
    (inb : ∀ a, (![0, 0, 0, 0] : Fin S8x1x64x256.rank → Nat) a + S8x1x64x256.size a ≤ S8x1x64x256.size a) :
    VO0_7.read (Elt F) (VO0_7.writes (Elt F) VO0_7.junk
      [(⟨Rect.unit (s := S8x1x64x256) ![0, 0, 0, 0] S8x1x64x256.size inb, x⟩ : View.Piece (Elt F) S8x1x64x256 .f32)]) = x := by
  rw [View.read_writes_eq_canon, View.canon_cons_unit_zero hz4]
  intro y
  exact ⟨_, List.mem_cons_self, View.mem_set_unit_zero hz4 inb y⟩

/-- What is left of the new state's block. -/
theorem readOut8 (x : FVec F S8x64x256 .f32)
    (inb : ∀ a, (![0, 0, 0] : Fin S8x64x256.rank → Nat) a + S8x64x256.size a ≤ S8x64x256.size a) :
    VO0_8.read (Elt F) (VO0_8.writes (Elt F) VO0_8.junk
      [(⟨Rect.unit (s := S8x64x256) ![0, 0, 0] S8x64x256.size inb, x⟩ : View.Piece (Elt F) S8x64x256 .f32)]) = x := by
  rw [View.read_writes_eq_canon, View.canon_cons_unit_zero hz3]
  intro y
  exact ⟨_, List.mem_cons_self, View.mem_set_unit_zero hz3 inb y⟩

/-- The rows of a block, one per sequence. -/
def rows (x : FVec F S8x1x256 .f32) : Fin 8 → Vec F S1x1x256 .f32 := fun b j => x (ix3 b (0 : Fin 1) (j 2))

variable {M : Memref sig .tc .vmem S8x1x256 .f32}

/-- A row read of a whole block at literal offsets. -/
theorem row_eq (h : M.IsWhole) (x : FVec F S8x1x256 .f32) (off : Fin 3 → ℕ) (b : Fin 8)
    (ho : off = ![b.val, 0, 0]) (inb : ∀ a, off a + S1x1x256.size a ≤ S8x1x256.size a) :
    M.view.readAt (Elt F) (Rect.unit (s := S8x1x256) off S1x1x256.size inb).toLoadRect (h.unread x) = rows x b := by
  subst ho
  rw [View.readAt_eq_ld, h.read_unread]
  funext j
  unfold rows
  refine congrArg x (funext fun a => Fin.ext ?_)
  have h0 : (j 0).val < 1 := (j 0).isLt
  have h1 : (j 1).val < 1 := (j 1).isLt
  rw [Rect.idx_unit_val]
  fin_cases a
  · show b.val + (j 0).val = b.val; omega
  · show 0 + (j 1).val = 0; omega
  · show 0 + (j 2).val = (j 2).val; omega

theorem row0 (h : M.IsWhole) (x : FVec F S8x1x256 .f32) :
    M.view.readAt (Elt F) (Rect.unit (s := S8x1x256) k0_off1 S1x1x256.size k0_off1_inb).toLoadRect (h.unread x) = rows x 0 :=
  row_eq h x _ 0 k0_off1_eq _

theorem row1 (h : M.IsWhole) (x : FVec F S8x1x256 .f32) :
    M.view.readAt (Elt F) (Rect.unit (s := S8x1x256) k0_off2 S1x1x256.size k0_off2_inb).toLoadRect (h.unread x) = rows x 1 :=
  row_eq h x _ 1 k0_off2_eq _

theorem row2 (h : M.IsWhole) (x : FVec F S8x1x256 .f32) :
    M.view.readAt (Elt F) (Rect.unit (s := S8x1x256) k0_off3 S1x1x256.size k0_off3_inb).toLoadRect (h.unread x) = rows x 2 :=
  row_eq h x _ 2 k0_off3_eq _

theorem row3 (h : M.IsWhole) (x : FVec F S8x1x256 .f32) :
    M.view.readAt (Elt F) (Rect.unit (s := S8x1x256) k0_off4 S1x1x256.size k0_off4_inb).toLoadRect (h.unread x) = rows x 3 :=
  row_eq h x _ 3 k0_off4_eq _

theorem row4 (h : M.IsWhole) (x : FVec F S8x1x256 .f32) :
    M.view.readAt (Elt F) (Rect.unit (s := S8x1x256) k0_off5 S1x1x256.size k0_off5_inb).toLoadRect (h.unread x) = rows x 4 :=
  row_eq h x _ 4 k0_off5_eq _

theorem row5 (h : M.IsWhole) (x : FVec F S8x1x256 .f32) :
    M.view.readAt (Elt F) (Rect.unit (s := S8x1x256) k0_off6 S1x1x256.size k0_off6_inb).toLoadRect (h.unread x) = rows x 5 :=
  row_eq h x _ 5 k0_off6_eq _

theorem row6 (h : M.IsWhole) (x : FVec F S8x1x256 .f32) :
    M.view.readAt (Elt F) (Rect.unit (s := S8x1x256) k0_off7 S1x1x256.size k0_off7_inb).toLoadRect (h.unread x) = rows x 6 :=
  row_eq h x _ 6 k0_off7_eq _

theorem row7 (h : M.IsWhole) (x : FVec F S8x1x256 .f32) :
    M.view.readAt (Elt F) (Rect.unit (s := S8x1x256) k0_off8 S1x1x256.size k0_off8_inb).toLoadRect (h.unread x) = rows x 7 :=
  row_eq h x _ 7 k0_off8_eq _

section Step

variable (x0 x1 x2 x3 x4 x5 : FVec F S8x1x256 .f32) (x6 : FVec F S8x64x256 .f32)

/-- The state after the step, -/
def newS : FVec F S512x256 .f32 :=
  stepS ones2 ones1 diag (bc8 (rows x4)) (bc8 (rows x3)) (bc8 (rows x1)) (bc8 (rows x5)) (bc8 (rows x2)) (k0_pay4 x6)

/-- and its outputs, in the first lane of every head. -/
def newY : FVec F S512x256 .f32 :=
  stepY ones1 lanes 0#32 (bc8 (rows x0)) (newS x1 x2 x3 x4 x5 x6) k0_pay15

theorem new_eq : k0_pay24
      (k0_pay19 (k0_pay9 (iota .tc S512x256 32 [1] iota_S512x256_d1_w32) k0_pay6 k0_pay7 1#32)
        (k0_pay14 (iota .tc S512x256 32 [1] iota_S512x256_d1_w32) 64#32 k0_pay10 k0_pay11 k0_pay12 k0_pay13)
        (k0_pay18 (rows x3 0)) (rows x3 1) (rows x3 2) (rows x3 3) (rows x3 4) (rows x3 5) (rows x3 6) (rows x3 7))
      (k0_pay22
        (k0_pay17 (k0_pay8 (iota .tc S512x256 32 [1] iota_S512x256_d1_w32) k0_pay6 k0_pay7 1#32) (k0_pay4 x6)
          (k0_pay16 (rows x4 0)) (rows x4 1) (rows x4 2) (rows x4 3) (rows x4 4) (rows x4 5) (rows x4 6) (rows x4 7))
        (k0_pay20 (k0_pay4 x6) (rows x1 0) (rows x1 1) (rows x1 2) (rows x1 3) (rows x1 4) (rows x1 5) (rows x1 6) (rows x1 7))
        (k0_pay21 (rows x5 0)) (rows x5 1) (rows x5 2) (rows x5 3) (rows x5 4) (rows x5 5) (rows x5 6) (rows x5 7))
      (k0_pay23 (rows x2 0)) (rows x2 1) (rows x2 2) (rows x2 3) (rows x2 4) (rows x2 5) (rows x2 6) (rows x2 7)
    = newS x1 x2 x3 x4 x5 x6 := rfl

theorem new_eq' : k0_pay25
      (k0_pay19 (k0_pay9 (iota .tc S512x256 32 [1] iota_S512x256_d1_w32) k0_pay6 k0_pay7 1#32)
        (k0_pay14 (iota .tc S512x256 32 [1] iota_S512x256_d1_w32) 64#32 k0_pay10 k0_pay11 k0_pay12 k0_pay13)
        (k0_pay18 (rows x3 0)) (rows x3 1) (rows x3 2) (rows x3 3) (rows x3 4) (rows x3 5) (rows x3 6) (rows x3 7))
      (k0_pay22
        (k0_pay17 (k0_pay8 (iota .tc S512x256 32 [1] iota_S512x256_d1_w32) k0_pay6 k0_pay7 1#32) (k0_pay4 x6)
          (k0_pay16 (rows x4 0)) (rows x4 1) (rows x4 2) (rows x4 3) (rows x4 4) (rows x4 5) (rows x4 6) (rows x4 7))
        (k0_pay20 (k0_pay4 x6) (rows x1 0) (rows x1 1) (rows x1 2) (rows x1 3) (rows x1 4) (rows x1 5) (rows x1 6) (rows x1 7))
        (k0_pay21 (rows x5 0)) (rows x5 1) (rows x5 2) (rows x5 3) (rows x5 4) (rows x5 5) (rows x5 6) (rows x5 7))
      (k0_pay23 (rows x2 0)) (rows x2 1) (rows x2 2) (rows x2 3) (rows x2 4) (rows x2 5) (rows x2 6) (rows x2 7)
    = newS x1 x2 x3 x4 x5 x6 := by
  refine Eq.trans ?_ (new_eq x1 x2 x3 x4 x5 x6)
  exact shapeCast_self _ _

theorem out_eq (s : FVec F S512x256 .f32) :
    k0_pay1 (iota .tc S512x256 32 [1] iota_S512x256_d1_w32) 0#32
      (k0_pay26 (k0_pay9 (iota .tc S512x256 32 [1] iota_S512x256_d1_w32) k0_pay6 k0_pay7 1#32) s
        (rows x0 0) (rows x0 1) (rows x0 2) (rows x0 3) (rows x0 4) (rows x0 5) (rows x0 6) (rows x0 7)) 64#32 k0_pay15
    = stepY ones1 lanes 0#32 (bc8 (rows x0)) s k0_pay15 := by
  unfold k0_pay1
  dsimp only
  rw [shapeCast_self]
  rfl

end Step

section Point

variable (c : Dev nD) (i : grid0.Coords)
    (arg2 : Memref sig .tc .vmem S8x1x256 .f32) (harg2 : arg2.IsWhole)
    (arg3 : Memref sig .tc .vmem S8x1x256 .f32) (harg3 : arg3.IsWhole)
    (arg4 : Memref sig .tc .vmem S8x1x256 .f32) (harg4 : arg4.IsWhole)
    (arg5 : Memref sig .tc .vmem S8x1x256 .f32) (harg5 : arg5.IsWhole)
    (arg6 : Memref sig .tc .vmem S8x1x256 .f32) (harg6 : arg6.IsWhole)
    (arg7 : Memref sig .tc .vmem S8x1x256 .f32) (harg7 : arg7.IsWhole)
    (arg8 : Memref sig .tc .vmem S8x64x256 .f32) (harg8 : arg8.IsWhole)
    (arg9 : Memref sig .tc .vmem S8x1x64x256 .f32) (harg9 : arg9.IsWhole)
    (arg10 : Memref sig .tc .vmem S8x64x256 .f32) (harg10 : arg10.IsWhole)
    (arg11 : Memref sig .tc .vmem S512x256 .f32) (harg11 : arg11.IsWhole)
    (arg12 : Memref sig .tc .vmem S512x256 .f32) (harg12 : arg12.IsWhole)
    (x0 x1 x2 x3 x4 x5 : FVec F S8x1x256 .f32) (x6 : FVec F S8x64x256 .f32)

theorem out7_A (hc0 : cond0_0 i) (hc1 : cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6
      = k0_pay2 (newY x0 x1 x2 x3 x4 x5 x6) := by
  unfold out0_A_7 kernelRun0_A
  dsimp only
  sl_unfold_run_names
  refine (readOut7 _ _).trans ?_
  simp (config := { proj := false }) only [row0, row1, row2, row3, row4, row5, row6, row7, readInit, cov_head]
  refine congrArg k0_pay2 ((cov_head arg12 _ _).trans ?_)
  refine (congrArg (k0_pay1 _ _ _ _) (cov_head arg12 k0_pay15 [])).trans ?_
  rw [new_eq]
  exact out_eq x0 (newS x1 x2 x3 x4 x5 x6)

theorem out8_A (hc0 : cond0_0 i) (hc1 : cond0_1 i) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6
      = k0_pay3 (newS x1 x2 x3 x4 x5 x6) := by
  unfold out0_A_8 kernelRun0_A
  dsimp only
  sl_unfold_run_names
  refine (readOut8 _ _).trans ?_
  simp (config := { proj := false }) only [row0, row1, row2, row3, row4, row5, row6, row7, readInit, cov_head]
  exact congrArg k0_pay3 ((cov_head arg11 _ _).trans (new_eq' x1 x2 x3 x4 x5 x6))

end Point

end Cert.Kernel8Ideal.One

end
-- ==== Proof.OneValue.lean ====
/- The recurrence's single step: the arrays the kernel leaves, index by index. -/
module

public import proofs.«01_k».proof.Proof.OneBlock
public import proofs.«01_k».proof.Proof.Join

@[expose] public section

set_option maxRecDepth 16384

noncomputable section

namespace Cert.Kernel8Ideal.One

open Cert.Kernel8Ideal Cert.Kernel8Ideal.Gen Cert.Kernel8Ideal.Value Idealize.ShloMosaic Idealize.ShloMosaic.TcCoe Idealize.SL.Sem
open Idealize.ShloMosaic.Pipeline (Dat)
open Cert.KernelIdeal.Scan (rc ln Real1 stepS_at stepY_at)
open Cert.Join (rc_surj ln_surj)

/-! ## One step of the recurrence -/

/-- The state after one step: the state decayed, less what it holds along the removal key, and the new value added. -/
def stepped (w k v q a : FVec Ideal S32x1x256 .f32) (s : FVec Ideal S32x4x64x64 .f32) (b : Fin 32) (h : Fin 4) (i j : Fin 64) : EReal :=
  s (ix4 b h i j) * w (ix3 b (0 : Fin 1) (ln h j))
      - (∑ j' : Fin 64, s (ix4 b h i j') * q (ix3 b (0 : Fin 1) (ln h j')))
        * (q (ix3 b (0 : Fin 1) (ln h j)) * a (ix3 b (0 : Fin 1) (ln h j)))
    + v (ix3 b (0 : Fin 1) (ln h i)) * k (ix3 b (0 : Fin 1) (ln h j))

/-- The output after one step: the state read along the receptance. -/
def seen (r w k v q a : FVec Ideal S32x1x256 .f32) (s : FVec Ideal S32x4x64x64 .f32) (b : Fin 32) (h : Fin 4) (i : Fin 64) : EReal :=
  ∑ j : Fin 64, stepped w k v q a s b h i j * r (ix3 b (0 : Fin 1) (ln h j))

/-! ## The blocks -/

variable (m : (ℓ : Loc nD τ sig) → Buf (Elt Ideal) ℓ) (c : Dev nD)

abbrev A0 : FVec Ideal S32x1x256 .f32 := m ((c.tc : Thread nD τ).loc main_arg0)
abbrev A1 : FVec Ideal S32x1x256 .f32 := m ((c.tc : Thread nD τ).loc main_arg1)
abbrev A2 : FVec Ideal S32x1x256 .f32 := m ((c.tc : Thread nD τ).loc main_arg2)
abbrev A3 : FVec Ideal S32x1x256 .f32 := m ((c.tc : Thread nD τ).loc main_arg3)
abbrev A4 : FVec Ideal S32x1x256 .f32 := m ((c.tc : Thread nD τ).loc main_arg4)
abbrev A5 : FVec Ideal S32x1x256 .f32 := m ((c.tc : Thread nD τ).loc main_arg5)
abbrev A6 : FVec Ideal S32x4x64x64 .f32 := m ((c.tc : Thread nD τ).loc main_arg6)

/-- The state as the kernel is handed it. -/
abbrev held : FVec Ideal S32x64x256 .f32 :=
  shapeCast S32x64x256 (transpose S32x64x4x64 [0, 2, 1, 3] (A6 m c) transposes_S32x4x64x64_S32x64x4x64_0_2_1_3) shapeCasts_S32x64x4x64_S32x64x256

theorem held_at (b : Fin 32) (i : Fin 64) (h : Fin 4) (j : Fin 64) : held m c (ix3 b i (ln h j)) = A6 m c (ix4 b h i j) := by
  unfold held ln
  pointwise
  blk_ext []

/-- The sequence a grid point keeps at a place of its block. -/
abbrev seqAt (t : Fin cfg0.N) (b : Fin 8) : Fin 32 := ⟨t.val * 8 + b.val, by have := lt_of_lt_of_eq t.isLt N_0; omega⟩

theorem place0 : ∀ t : Fin cfg0.N, win0_0.index t = ![t.val, 0, 0] := (by decide +kernel : ∀ t : Fin grid0.N, _)
theorem place1 : ∀ t : Fin cfg0.N, win0_1.index t = ![t.val, 0, 0] := (by decide +kernel : ∀ t : Fin grid0.N, _)
theorem place2 : ∀ t : Fin cfg0.N, win0_2.index t = ![t.val, 0, 0] := (by decide +kernel : ∀ t : Fin grid0.N, _)
theorem place3 : ∀ t : Fin cfg0.N, win0_3.index t = ![t.val, 0, 0] := (by decide +kernel : ∀ t : Fin grid0.N, _)
theorem place4 : ∀ t : Fin cfg0.N, win0_4.index t = ![t.val, 0, 0] := (by decide +kernel : ∀ t : Fin grid0.N, _)
theorem place5 : ∀ t : Fin cfg0.N, win0_5.index t = ![t.val, 0, 0] := (by decide +kernel : ∀ t : Fin grid0.N, _)
theorem place6 : ∀ t : Fin cfg0.N, win0_6.index t = ![t.val, 0, 0] := (by decide +kernel : ∀ t : Fin grid0.N, _)
theorem place7 : ∀ t : Fin cfg0.N, win0_7.index t = ![t.val, 0, 0, 0] := (by decide +kernel : ∀ t : Fin grid0.N, _)
theorem place8 : ∀ t : Fin cfg0.N, win0_8.index t = ![t.val, 0, 0] := (by decide +kernel : ∀ t : Fin grid0.N, _)

/-- A block of the rows of the eight sequences from `8 t` on. -/
def rowsOf (A : FVec Ideal S32x1x256 .f32) (t : Fin cfg0.N) : FVec Ideal S8x1x256 .f32 :=
  fun j => A (ix3 (seqAt t (j (0 : Fin 3))) (0 : Fin 1) (j (2 : Fin 3)))

/-- A block of the states of the eight sequences from `8 t` on. -/
def statesOf (A : FVec Ideal S32x64x256 .f32) (t : Fin cfg0.N) : FVec Ideal S8x64x256 .f32 :=
  fun j => A (ix3 (seqAt t (j (0 : Fin 3))) (j (1 : Fin 3)) (j (2 : Fin 3)))

theorem iblk0 (t : Fin cfg0.N) : (iblk m c 0 t : FVec Ideal S8x1x256 .f32) = rowsOf (A0 m c) t := by
  funext j
  have h1 : (j (1 : Fin 3)).val < 1 := (j (1 : Fin 3)).isLt
  have e := place0 t
  blk_ext [iblk, V_main_arg0, e]

theorem iblk1 (t : Fin cfg0.N) : (iblk m c 1 t : FVec Ideal S8x1x256 .f32) = rowsOf (A1 m c) t := by
  funext j
  have h1 : (j (1 : Fin 3)).val < 1 := (j (1 : Fin 3)).isLt
  have e := place1 t
  blk_ext [iblk, V_main_arg1, e]

theorem iblk2 (t : Fin cfg0.N) : (iblk m c 2 t : FVec Ideal S8x1x256 .f32) = rowsOf (A2 m c) t := by
  funext j
  have h1 : (j (1 : Fin 3)).val < 1 := (j (1 : Fin 3)).isLt
  have e := place2 t
  blk_ext [iblk, V_main_arg2, e]

theorem iblk3 (t : Fin cfg0.N) : (iblk m c 3 t : FVec Ideal S8x1x256 .f32) = rowsOf (A3 m c) t := by
  funext j
  have h1 : (j (1 : Fin 3)).val < 1 := (j (1 : Fin 3)).isLt
  have e := place3 t
  blk_ext [iblk, V_main_arg3, e]

theorem iblk4 (t : Fin cfg0.N) : (iblk m c 4 t : FVec Ideal S8x1x256 .f32) = rowsOf (A4 m c) t := by
  funext j
  have h1 : (j (1 : Fin 3)).val < 1 := (j (1 : Fin 3)).isLt
  have e := place4 t
  blk_ext [iblk, V_main_arg4, e]

/-- The removal key times its gate. -/
abbrev gated : FVec Ideal S32x1x256 .f32 := mulf (A4 m c) (A5 m c)

theorem iblk5 (t : Fin cfg0.N) : (iblk m c 5 t : FVec Ideal S8x1x256 .f32) = rowsOf (gated m c) t := by
  funext j
  have h1 : (j (1 : Fin 3)).val < 1 := (j (1 : Fin 3)).isLt
  have e := place5 t
  unfold iblk
  entry_read
  blk_ext [e]

theorem iblk6 (t : Fin cfg0.N) : (iblk m c 6 t : FVec Ideal S8x64x256 .f32) = statesOf (held m c) t := by
  funext j
  have e := place6 t
  unfold iblk
  entry_read
  blk_ext [e]

/-! ## One grid point -/

theorem pay4_at (x : FVec Ideal S8x64x256 .f32) (b : Fin 8) (i : Fin 64) (l : Fin 256) :
    (k0_pay4 (F := Ideal) x : FVec Ideal S512x256 .f32) (ix2 (rc b i) l) = x (ix3 b i l) := by
  unfold k0_pay4 rc
  pointwise

theorem pay3_at (x : FVec Ideal S512x256 .f32) (b : Fin 8) (i : Fin 64) (l : Fin 256) :
    (k0_pay3 (F := Ideal) x : FVec Ideal S8x64x256 .f32) (ix3 b i l) = x (ix2 (rc b i) l) := by
  unfold k0_pay3 rc
  pointwise
  blk_ext []

theorem pay2_at (x : FVec Ideal S512x256 .f32) (b : Fin 8) (i : Fin 64) (l : Fin 256) :
    (k0_pay2 (F := Ideal) x : FVec Ideal S8x1x64x256 .f32) (ix4 b (0 : Fin 1) i l) = x (ix2 (rc b i) l) := by
  unfold k0_pay2 rc
  pointwise
  blk_ext []

theorem pay15_at (r : Fin 512) (l : Fin 256) : (k0_pay15 (F := Ideal) : FVec Ideal S512x256 .f32) (ix2 r l) = 0 := by
  unfold k0_pay15
  pointwise

/-- The removal key and the state hold real numbers. -/
def Finite : Prop := (∀ i, Real1 (A4 m c i)) ∧ ∀ i, Real1 (A6 m c i)

/-- The state a grid point makes of its blocks. -/
abbrev made (t : Fin cfg0.N) : FVec Ideal S512x256 .f32 :=
  newS (F := Ideal) (rowsOf (A1 m c) t) (rowsOf (A2 m c) t) (rowsOf (A3 m c) t) (rowsOf (A4 m c) t) (rowsOf (gated m c) t) (statesOf (held m c) t)

theorem start_at (t : Fin cfg0.N) (b : Fin 8) (i : Fin 64) (h : Fin 4) (j : Fin 64) :
    (k0_pay4 (F := Ideal) (statesOf (held m c) t) : FVec Ideal S512x256 .f32) (ix2 (rc b i) (ln h j)) = A6 m c (ix4 (seqAt t b) h i j) :=
  (pay4_at _ b i (ln h j)).trans (held_at m c (seqAt t b) i h j)

theorem made_at (hf : Finite m c) (t : Fin cfg0.N) (b : Fin 8) (i : Fin 64) (h : Fin 4) (j : Fin 64) :
    made m c t (ix2 (rc b i) (ln h j)) = stepped (A1 m c) (A2 m c) (A3 m c) (A4 m c) (A5 m c) (A6 m c) (seqAt t b) h i j := by
  refine (stepS_at (rows (rowsOf (A4 m c) t)) (rows (rowsOf (A3 m c) t)) (rows (rowsOf (A1 m c) t)) (rows (rowsOf (gated m c) t))
    (rows (rowsOf (A2 m c) t)) (k0_pay4 (F := Ideal) (statesOf (held m c) t)) (fun r l => ?_) (fun b l => hf.1 _) b i h j).trans ?_
  · obtain ⟨b, i, rfl⟩ := rc_surj r
    obtain ⟨h, j, rfl⟩ := ln_surj l
    rw [start_at]
    exact hf.2 _
  · simp only [start_at]
    rfl

theorem shown_at (hf : Finite m c) (t : Fin cfg0.N) (b : Fin 8) (i : Fin 64) (h : Fin 4) (l : Fin 64) :
    newY (F := Ideal) (rowsOf (A0 m c) t) (rowsOf (A1 m c) t) (rowsOf (A2 m c) t) (rowsOf (A3 m c) t) (rowsOf (A4 m c) t) (rowsOf (gated m c) t)
        (statesOf (held m c) t) (ix2 (rc b i) (ln h l))
      = if l = 0 then seen (A0 m c) (A1 m c) (A2 m c) (A3 m c) (A4 m c) (A5 m c) (A6 m c) (seqAt t b) h i else 0 := by
  refine (stepY_at 0 (rows (rowsOf (A0 m c) t)) (made m c t) (k0_pay15 (F := Ideal)) b i h l).trans ?_
  simp only [made_at m c hf, pay15_at]
  rfl

/-! ## The arrays -/

/-- The head a lane belongs to, -/
def headOf (l : Fin 256) : Fin 4 := ⟨l.val / 64, by omega⟩
/-- and its place in the head. -/
def laneOf (l : Fin 256) : Fin 64 := ⟨l.val % 64, by omega⟩

theorem headOf_ln (h : Fin 4) (l : Fin 64) : headOf (ln h l) = h :=
  Fin.ext (by show (h.val * 64 + l.val) / 64 = h.val; omega)
theorem laneOf_ln (h : Fin 4) (l : Fin 64) : laneOf (ln h l) = l :=
  Fin.ext (by show (h.val * 64 + l.val) % 64 = l.val; omega)

/-- The outputs, each in the first lane of its head, -/
def array7 : Vec Ideal S32x1x64x256 .f32 := fun y =>
  if laneOf (y (3 : Fin 4)) = 0 then
    seen (A0 m c) (A1 m c) (A2 m c) (A3 m c) (A4 m c) (A5 m c) (A6 m c) (y (0 : Fin 4)) (headOf (y (3 : Fin 4))) (y (2 : Fin 4))
  else 0
/-- and the states. -/
def array8 : Vec Ideal S32x64x256 .f32 := fun y =>
  stepped (A1 m c) (A2 m c) (A3 m c) (A4 m c) (A5 m c) (A6 m c) (y (0 : Fin 3)) (headOf (y (2 : Fin 3))) (y (1 : Fin 3))
    (laneOf (y (2 : Fin 3)))

theorem array7_at (b : Fin 32) (i : Fin 64) (h : Fin 4) (l : Fin 64) :
    array7 m c (ix4 b (0 : Fin 1) i (ln h l))
      = if l = 0 then seen (A0 m c) (A1 m c) (A2 m c) (A3 m c) (A4 m c) (A5 m c) (A6 m c) b h i else 0 := by
  show (if laneOf (ln h l) = 0 then seen _ _ _ _ _ _ _ b (headOf (ln h l)) i else 0) = _
  rw [laneOf_ln, headOf_ln]

theorem array8_at (b : Fin 32) (i : Fin 64) (h : Fin 4) (j : Fin 64) :
    array8 m c (ix3 b i (ln h j)) = stepped (A1 m c) (A2 m c) (A3 m c) (A4 m c) (A5 m c) (A6 m c) b h i j := by
  show stepped _ _ _ _ _ _ b (headOf (ln h j)) i (laneOf (ln h j)) = _
  rw [laneOf_ln, headOf_ln]

theorem out7_at (hf : Finite m c) (t : Fin cfg0.N) (y : S8x1x64x256.Idx) (z : S32x1x64x256.Idx)
    (e0 : (z (0 : Fin 4)).val = t.val * 8 + (y (0 : Fin 4)).val) (e2 : (z (2 : Fin 4)).val = (y (2 : Fin 4)).val)
    (e3 : (z (3 : Fin 4)).val = (y (3 : Fin 4)).val) : (outsAt0 m c t).1 y = array7 m c z := by
  obtain ⟨h, l, hl⟩ := ln_surj (y (3 : Fin 4))
  have hy : y = ix4 (y (0 : Fin 4)) (0 : Fin 1) (y (2 : Fin 4)) (ln h l) := by
    funext a
    match a with
    | ⟨0, _⟩ => rfl
    | ⟨1, _⟩ => exact Fin.ext (by have q : (y (1 : Fin 4)).val < 1 := (y (1 : Fin 4)).isLt; show (y (1 : Fin 4)).val = 0; omega)
    | ⟨2, _⟩ => rfl
    | ⟨3, _⟩ => exact hl
  have hz : z = ix4 (seqAt t (y (0 : Fin 4))) (0 : Fin 1) (y (2 : Fin 4)) (ln h l) := by
    funext a
    match a with
    | ⟨0, _⟩ => exact Fin.ext e0
    | ⟨1, _⟩ => exact Fin.ext (by have q : (z (1 : Fin 4)).val < 1 := (z (1 : Fin 4)).isLt; show (z (1 : Fin 4)).val = 0; omega)
    | ⟨2, _⟩ => exact Fin.ext e2
    | ⟨3, _⟩ => exact Fin.ext (e3.trans (congrArg Fin.val hl))
  rw [hz]
  refine Eq.trans ?_ (array7_at m c (seqAt t (y (0 : Fin 4))) (y (2 : Fin 4)) h l).symm
  unfold outsAt0
  dsimp only
  rw [out7_A, iblk0, iblk1, iblk2, iblk3, iblk4, iblk5, iblk6, hy]
  exact (pay2_at _ _ _ _).trans (shown_at m c hf t _ _ h l)

theorem out8_at (hf : Finite m c) (t : Fin cfg0.N) (y : S8x64x256.Idx) (z : S32x64x256.Idx)
    (e0 : (z (0 : Fin 3)).val = t.val * 8 + (y (0 : Fin 3)).val) (e1 : (z (1 : Fin 3)).val = (y (1 : Fin 3)).val)
    (e2 : (z (2 : Fin 3)).val = (y (2 : Fin 3)).val) : (outsAt0 m c t).2 y = array8 m c z := by
  obtain ⟨h, l, hl⟩ := ln_surj (y (2 : Fin 3))
  have hy : y = ix3 (y (0 : Fin 3)) (y (1 : Fin 3)) (ln h l) := by
    funext a
    match a with
    | ⟨0, _⟩ => rfl
    | ⟨1, _⟩ => rfl
    | ⟨2, _⟩ => exact hl
  have hz : z = ix3 (seqAt t (y (0 : Fin 3))) (y (1 : Fin 3)) (ln h l) := by
    funext a
    match a with
    | ⟨0, _⟩ => exact Fin.ext e0
    | ⟨1, _⟩ => exact Fin.ext e1
    | ⟨2, _⟩ => exact Fin.ext (e2.trans (congrArg Fin.val hl))
  rw [hz]
  refine Eq.trans ?_ (array8_at m c (seqAt t (y (0 : Fin 3))) (y (1 : Fin 3)) h l).symm
  unfold outsAt0
  dsimp only
  rw [out8_A, iblk1, iblk2, iblk3, iblk4, iblk5, iblk6, hy]
  exact (pay3_at _ _ _ _).trans (made_at m c hf t _ _ h l)

theorem array7_eq (hf : Finite m c) : ((dats m 0 c).arrAt (7 : Fin 9) cfg0.N : Vec Ideal S32x1x64x256 .f32) = array7 m c := by
  refine (dats m 0 c).arrAt_eq_of_covers (7 : Fin 9) _ (by decide +kernel) fun t _ y => ?_
  have e := place7 t
  have e0 : (((cfg0.win (7 : Fin 9)).blk t).view.emb y (0 : Fin 4)).val = t.val * 8 + (y (0 : Fin 4)).val := by blk_simp [e]
  have e2 : (((cfg0.win (7 : Fin 9)).blk t).view.emb y (2 : Fin 4)).val = (y (2 : Fin 4)).val := by blk_simp [e]
  have e3 : (((cfg0.win (7 : Fin 9)).blk t).view.emb y (3 : Fin 4)).val = (y (3 : Fin 4)).val := by blk_simp [e]
  blk_simp
  rw [after0_7]
  generalize (((cfg0.win (7 : Fin 9)).blk t).view.emb y) = z at e0 e2 e3
  exact out7_at m c hf t y z e0 e2 e3

theorem array8_eq (hf : Finite m c) : ((dats m 0 c).arrAt (8 : Fin 9) cfg0.N : Vec Ideal S32x64x256 .f32) = array8 m c := by
  refine (dats m 0 c).arrAt_eq_of_covers (8 : Fin 9) _ (by decide +kernel) fun t _ y => ?_
  have e := place8 t
  have e0 : (((cfg0.win (8 : Fin 9)).blk t).view.emb y (0 : Fin 3)).val = t.val * 8 + (y (0 : Fin 3)).val := by blk_simp [e]
  have e1 : (((cfg0.win (8 : Fin 9)).blk t).view.emb y (1 : Fin 3)).val = (y (1 : Fin 3)).val := by blk_simp [e]
  have e2 : (((cfg0.win (8 : Fin 9)).blk t).view.emb y (2 : Fin 3)).val = (y (2 : Fin 3)).val := by blk_simp [e]
  blk_simp
  rw [after0_8]
  generalize (((cfg0.win (8 : Fin 9)).blk t).view.emb y) = z at e0 e1 e2
  exact out8_at m c hf t y z e0 e1 e2

end Cert.Kernel8Ideal.One

end
-- ==== Proof.OneRef.lean ====
/- The reference of the recurrence's single step, its two results read at an index. -/
module

public import proofs.«01_k».proof.Proof.StepValue
public import proofs.«01_k».proof.Proof.ProjRow
public import proofs.«01_k».proof.Proof.Gen.Reference8Ideal.Run

@[expose] public section

set_option maxRecDepth 16384

noncomputable section

namespace Cert.Reference8Ideal.One

open Cert.Reference8Ideal Cert.Reference8Ideal.Gen Idealize.ShloMosaic
open Cert.KernelIdeal.Scan (ln)
open Cert.Proj (fill_zero)

/-- A row's lanes by head, -/
abbrev heads (x : FVec Ideal S32x1x256 .f32) : FVec Ideal S32x4x64 .f32 := shapeCast S32x4x64 x shapeCasts_S32x1x256_S32x4x64
/-- along the state's key lanes, -/
abbrev along (x : FVec Ideal S32x4x64 .f32) : FVec Ideal S32x4x64x64 .f32 :=
  broadcastInDim S32x4x64x64 ![0, 1, 2, 3] bcast_S32x4x1x64_S32x4x64x64_0_1_2_3 (broadcastInDim S32x4x1x64 ![0, 1, 3] bcast_S32x4x64_S32x4x1x64_0_1_3 x)
/-- along its value rows, -/
abbrev across (x : FVec Ideal S32x4x64 .f32) : FVec Ideal S32x4x64x64 .f32 :=
  broadcastInDim S32x4x64x64 ![0, 1, 2, 3] bcast_S32x4x64x1_S32x4x64x64_0_1_2_3 (broadcastInDim S32x4x64x1 ![0, 1, 2] bcast_S32x4x64_S32x4x64x1_0_1_2 x)
/-- and a state read along a row. -/
abbrev against (s : FVec Ideal S32x4x64x64 .f32) (x : FVec Ideal S32x4x64 .f32) : FVec Ideal S32x4x64 .f32 :=
  Host.dotGeneral (F := Ideal) dot_S32x4x64x64_S32x4x64_S32x4x64_3_2_2_n_01_01 none s x

/-- The state after the step. -/
def next (w k v q a : FVec Ideal S32x1x256 .f32) (s : FVec Ideal S32x4x64x64 .f32) : FVec Ideal S32x4x64x64 .f32 :=
  addf (subf (mulf s (along (heads w))) (mulf (across (against s (heads q))) (along (mulf (heads q) (heads a)))))
    (mulf (across (heads v)) (along (heads k)))

/-- The outputs of a state, each in the first lane of its head. -/
def outputs (r : FVec Ideal S32x1x256 .f32) (s : FVec Ideal S32x4x64x64 .f32) : FVec Ideal S32x1x64x256 .f32 :=
  shapeCast S32x1x64x256 (pad S32x64x4x64 ![0, 0, 0, 0] ![0, 0, 0, 63] ![0, 0, 0, 0]
    (broadcastInDim S32x64x4x1 ![0, 1, 2] bcast_S32x64x4_S32x64x4x1_0_1_2
      (transpose S32x64x4 [0, 2, 1] (against s (heads r)) transposes_S32x4x64_S32x64x4_0_2_1))
    (sitofp (F := Ideal) .f32 (constantI S_ 32 0#32)) pads_S32x64x4x1_S32x64x4x64_000_000_000_0630 h_S_) shapeCasts_S32x64x4x64_S32x1x64x256

/-- A state by value rows and lanes. -/
def laid (s : FVec Ideal S32x4x64x64 .f32) : FVec Ideal S32x64x256 .f32 :=
  shapeCast S32x64x256 (transpose S32x64x4x64 [0, 2, 1, 3] s transposes_S32x4x64x64_S32x64x4x64_0_2_1_3) shapeCasts_S32x64x4x64_S32x64x256

theorem heads_at (x : FVec Ideal S32x1x256 .f32) (b : Fin 32) (h : Fin 4) (j : Fin 64) : heads x (ix3 b h j) = x (ix3 b (0 : Fin 1) (ln h j)) := by
  unfold heads ln
  pointwise
  blk_ext []

theorem along_at (x : FVec Ideal S32x4x64 .f32) (b : Fin 32) (h : Fin 4) (i j : Fin 64) : along x (ix4 b h i j) = x (ix3 b h j) := by
  unfold along
  pointwise

theorem across_at (x : FVec Ideal S32x4x64 .f32) (b : Fin 32) (h : Fin 4) (i j : Fin 64) : across x (ix4 b h i j) = x (ix3 b h i) := by
  unfold across
  pointwise

theorem against_at (s : FVec Ideal S32x4x64x64 .f32) (x : FVec Ideal S32x4x64 .f32) (b : Fin 32) (h : Fin 4) (i : Fin 64) :
    against s x (ix3 b h i) = ∑ j : Fin 64, s (ix4 b h i j) * x (ix3 b h j) := by
  unfold against
  pointwise

theorem next_at (w k v q a : FVec Ideal S32x1x256 .f32) (s : FVec Ideal S32x4x64x64 .f32) (b : Fin 32) (h : Fin 4) (i j : Fin 64) :
    next w k v q a s (ix4 b h i j)
      = s (ix4 b h i j) * w (ix3 b (0 : Fin 1) (ln h j))
          - (∑ j' : Fin 64, s (ix4 b h i j') * q (ix3 b (0 : Fin 1) (ln h j')))
            * (q (ix3 b (0 : Fin 1) (ln h j)) * a (ix3 b (0 : Fin 1) (ln h j)))
        + v (ix3 b (0 : Fin 1) (ln h i)) * k (ix3 b (0 : Fin 1) (ln h j)) := by
  unfold next
  rw [ValueIdx.addf_apply, ValueIdx.subf_apply, ValueIdx.mulf_apply, ValueIdx.mulf_apply, ValueIdx.mulf_apply,
    along_at, along_at, along_at, across_at, across_at, against_at, ValueIdx.mulf_apply]
  simp only [heads_at]

theorem outputs_at (r : FVec Ideal S32x1x256 .f32) (s : FVec Ideal S32x4x64x64 .f32) (b : Fin 32) (i : Fin 64) (h : Fin 4) (l : Fin 64) :
    outputs r s (ix4 b (0 : Fin 1) i (ln h l))
      = if l = 0 then ∑ j : Fin 64, s (ix4 b h i j) * r (ix3 b (0 : Fin 1) (ln h j)) else 0 := by
  have e : ∀ h i, against s (heads r) (ix3 b h i) = ∑ j : Fin 64, s (ix4 b h i j) * r (ix3 b (0 : Fin 1) (ln h j)) := fun h i => by
    rw [against_at]
    simp only [heads_at]
  unfold outputs
  generalize against s (heads r) = Y at e
  unfold ln at e ⊢
  pointwise
  rw [fill_zero]
  by_cases g : l = 0
  · rw [if_pos g, dif_pos (by rw [g]; exact Nat.one_pos)]
    exact e h i
  · rw [if_neg g, dif_neg (fun q => g (Fin.ext (by show l.val = 0; omega)))]

theorem laid_at (s : FVec Ideal S32x4x64x64 .f32) (b : Fin 32) (i : Fin 64) (h : Fin 4) (j : Fin 64) :
    laid s (ix3 b i (ln h j)) = s (ix4 b h i j) := by
  unfold laid ln
  pointwise
  blk_ext []

end Cert.Reference8Ideal.One

end
-- ==== Proof.OneJoin.lean ====
/- The recurrence's single step: the kernel and its reference leave the same two arrays, from the same arguments. -/
module

public import proofs.«01_k».proof.Defs
public import proofs.«01_k».proof.Proof.OneValue
public import proofs.«01_k».proof.Proof.OneRef

@[expose] public section

set_option maxRecDepth 16384

noncomputable section

namespace Cert.One

open Idealize.ShloMosaic Idealize.ShloMosaic.TcCoe Idealize.SL.Sem
open Cert.Kernel8Ideal.One
open Cert.Join (real_of_lt ln_surj)
open Cert.Reference8Ideal.One (next next_at outputs outputs_at laid laid_at)

variable (m : (ℓ : Loc Cert.Kernel8Ideal.nD Cert.Kernel8Ideal.τ Cert.Kernel8Ideal.sig) → Buf (Elt Ideal) ℓ)
variable (c : Dev Cert.Kernel8Ideal.nD)

theorem finite_of_pre [Cert.Pre_finite_one.Facts] (h : Cert.Pre_Kernel8Ideal_finite_one m) (c : Dev Cert.Kernel8Ideal.nD) : Finite m c := by
  obtain ⟨h1, h2⟩ := h c
  exact ⟨fun i => real_of_lt _ (congrFun h1 i), fun i => real_of_lt _ (congrFun h2 i)⟩

/-- The reference's state on the kernel's arguments. -/
abbrev after := next (A1 m c) (A2 m c) (A3 m c) (A4 m c) (A5 m c) (A6 m c)

theorem after_at (b : Fin 32) (h : Fin 4) (i j : Fin 64) :
    stepped (A1 m c) (A2 m c) (A3 m c) (A4 m c) (A5 m c) (A6 m c) b h i j = after m c (ix4 b h i j) :=
  (next_at (A1 m c) (A2 m c) (A3 m c) (A4 m c) (A5 m c) (A6 m c) b h i j).symm

theorem seen_at (b : Fin 32) (h : Fin 4) (i : Fin 64) :
    seen (A0 m c) (A1 m c) (A2 m c) (A3 m c) (A4 m c) (A5 m c) (A6 m c) b h i
      = ∑ j : Fin 64, after m c (ix4 b h i j) * A0 m c (ix3 b (0 : Fin 1) (Cert.KernelIdeal.Scan.ln h j)) := by
  unfold seen
  simp only [after_at]

theorem outOutputs : array7 m c = outputs (A0 m c) (after m c) := by
  funext y
  obtain ⟨h, l, hl⟩ := ln_surj (y (3 : Fin 4))
  have hy : y = ix4 (y (0 : Fin 4)) (0 : Fin 1) (y (2 : Fin 4)) (Cert.KernelIdeal.Scan.ln h l) := by
    funext a
    match a with
    | ⟨0, _⟩ => rfl
    | ⟨1, _⟩ => exact Fin.ext (by have q : (y (1 : Fin 4)).val < 1 := (y (1 : Fin 4)).isLt; show (y (1 : Fin 4)).val = 0; omega)
    | ⟨2, _⟩ => rfl
    | ⟨3, _⟩ => exact hl
  rw [hy]
  refine (array7_at m c (y (0 : Fin 4)) (y (2 : Fin 4)) h l).trans
    (Eq.trans ?_ (outputs_at (A0 m c) (after m c) (y (0 : Fin 4)) (y (2 : Fin 4)) h l).symm)
  exact congrArg (fun x : EReal => if l = 0 then x else 0) (seen_at m c (y (0 : Fin 4)) h (y (2 : Fin 4)))

theorem outState : array8 m c = laid (after m c) := by
  funext y
  obtain ⟨h, l, hl⟩ := ln_surj (y (2 : Fin 3))
  have hy : y = ix3 (y (0 : Fin 3)) (y (1 : Fin 3)) (Cert.KernelIdeal.Scan.ln h l) := by
    funext a
    match a with
    | ⟨0, _⟩ => rfl
    | ⟨1, _⟩ => rfl
    | ⟨2, _⟩ => exact hl
  rw [hy]
  exact (array8_at m c (y (0 : Fin 3)) (y (1 : Fin 3)) h l).trans
    ((after_at m c _ h _ l).trans (laid_at (after m c) (y (0 : Fin 3)) (y (1 : Fin 3)) h l).symm)

theorem algebraic [Cert.Pre_finite_one.Facts] : Cert.algebraic_Kernel8Ideal_Reference8Ideal_pre_finite_one := by
  intro m g m' g' hp ha
  have hf := finite_of_pre m hp
  refine ⟨fun c => array7 m c, fun c => array8 m c, ?_, ?_⟩
  · exact (θ_run Cert.Kernel8Ideal.defs _ _).mono
      (fun r h c => ⟨(h c).1.trans (array7_eq m c (hf c)), (h c).2.1.trans (array8_eq m c (hf c)), (h c).2.2⟩)
      (Cert.Kernel8Ideal.Value.run_blocks (F := Ideal) m g)
  · refine (θ_run Cert.Reference8Ideal.defs _ _).mono
      (fun r h c => ⟨(h c).1.trans ?_, (h c).2.1.trans ?_, (h c).2.2⟩)
      (Cert.Reference8Ideal.Value.run (F := Ideal) m' g')
    · obtain ⟨h0, h1, h2, h3, h4, h5, h6⟩ := ha c
      refine Eq.trans ?_ (outOutputs m c).symm
      unfold after A0 A1 A2 A3 A4 A5 A6
      rw [← h0, ← h1, ← h2, ← h3, ← h4, ← h5, ← h6]
      rfl
    · obtain ⟨h0, h1, h2, h3, h4, h5, h6⟩ := ha c
      refine Eq.trans ?_ (outState m c).symm
      unfold after A1 A2 A3 A4 A5 A6
      rw [← h1, ← h2, ← h3, ← h4, ← h5, ← h6]
      rfl

theorem frame_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

end Cert.One

end
-- ==== Proof.lean ====
module

public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Join
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts
public import proofs.«01_k».proof.Proof.Gen.Pre_finite_one
public import proofs.«01_k».proof.Proof.MoeFrame
public import proofs.«01_k».proof.Proof.MoeJoin
public import proofs.«01_k».proof.Proof.ProjJoin
public import proofs.«01_k».proof.Proof.OutJoin
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ResJoin
public import proofs.«01_k».proof.Proof.ResOneJoin
public import proofs.«01_k».proof.Proof.ProjOneJoin
public import proofs.«01_k».proof.Proof.OneJoin
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Quiescent
public import Idealize.ShloMosaic.Adequacy
public import Idealize.ShloMosaic.Init

@[expose] public section

noncomputable section

namespace Cert.Proof

open Idealize.ShloMosaic Idealize.SL.Sem

theorem frame_ref : @Cert.quiescent_ReferenceIdeal Cert.ReferenceIdeal.Gen.facts := fun m ρ _ =>
  (θ_run Cert.ReferenceIdeal.defs _ _).mono (fun r h => ⟨fun c => (h c).2.2,
      Idealize.ShloMosaic.sem_eq_zero_of_no_sems (by decide) r.2⟩)
    (Cert.ReferenceIdeal.RefRun.run_iter (F := Ideal) m ρ (Cert.ReferenceIdeal.RefValue.it m) (fun _ => rfl) (fun _ _ => rfl))

theorem algebraic [hp : Cert.Pre_finite.Facts] :
    @Cert.algebraic_KernelIdeal_ReferenceIdeal_pre_finite Cert.KernelIdeal.Gen.facts Cert.ReferenceIdeal.Gen.facts hp := by
  intro m ρ m' ρ' hpre hag
  have ha : ∀ c, Cert.Join.Agree m m' c := fun c =>
    ⟨(hag c).1, (hag c).2.1, (hag c).2.2.1, (hag c).2.2.2.1, (hag c).2.2.2.2.1, (hag c).2.2.2.2.2.1, (hag c).2.2.2.2.2.2⟩
  have hf := Cert.Join.finite_of_pre m hpre
  refine ⟨fun c => Cert.KernelIdeal.Value.G7 m c, fun c => Cert.KernelIdeal.Value.G8 m c,
    Cert.KernelIdeal.Value.run (F := Ideal) m ρ, ?_⟩
  exact (θ_run Cert.ReferenceIdeal.defs _ _).mono
    (fun r h c => ⟨(h c).1.trans (Cert.Join.out_eq m m' c (hf c) (ha c)),
      (h c).2.1.trans (Cert.Join.fin_eq m m' c (hf c) (ha c)), (h c).2.2⟩)
    (Cert.ReferenceIdeal.RefRun.run_iter (F := Ideal) m' ρ' (Cert.ReferenceIdeal.RefValue.it m') (fun _ => rfl) (fun _ _ => rfl))

theorem preFacts : Cert.Pre_finite.Facts := ⟨by decide, by decide⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, preFacts, Cert.Pre_experts.Gen.facts,
    Cert.Pre_finite_one.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    Cert.Kernel2Ideal.Moe.frame_bits, Cert.Kernel2Ideal.Moe.frame_ideal, Cert.Moe.frame_ref, fun m ρ _ => Cert.Moe.frame_ref m ρ trivial,
    fun m ρ _ => Cert.Kernel3.Gen.frame m ρ, fun m ρ _ => Cert.Kernel3Ideal.Gen.frame m ρ, Cert.Proj.frame_ref,
    fun m ρ _ => Cert.Kernel4.Gen.frame m ρ, fun m ρ _ => Cert.Kernel4Ideal.Gen.frame m ρ, Cert.Out.frame_ref,
    fun m ρ _ => Cert.Kernel5.Gen.frame m ρ, fun m ρ _ => Cert.Kernel5Ideal.Gen.frame m ρ, Cert.Res.frame_ref,
    fun m ρ _ => Cert.Kernel6.Gen.frame m ρ, fun m ρ _ => Cert.Kernel6Ideal.Gen.frame m ρ, Cert.ProjOne.frame_ref,
    fun m ρ _ => Cert.Kernel7.Gen.frame m ρ, fun m ρ _ => Cert.Kernel7Ideal.Gen.frame m ρ, Cert.ResOne.frame_ref,
    fun m ρ _ => Cert.Kernel8.Gen.frame m ρ, fun m ρ _ => Cert.Kernel8Ideal.Gen.frame m ρ, fun m ρ _ => Cert.Kernel8Ideal.Gen.frame m ρ,
    Cert.One.frame_ref, fun m ρ _ => Cert.One.frame_ref m ρ trivial,
    trivial, @algebraic preFacts, trivial, Cert.Moe.algebraic, trivial, Cert.Proj.algebraic, trivial, Cert.Out.algebraic, trivial, Cert.Res.algebraic, trivial, Cert.ProjOne.algebraic, trivial, Cert.ResOne.algebraic,
    trivial, Cert.One.algebraic⟩

end Cert.Proof

end
